-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rstd_finite [hPre_rstd_finite : Cert.Pre_rstd_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rstd_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rstd_finite [hPre_rstd_finite : Cert.Pre_rstd_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rstd_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_rstd_finite [hKernelIdeal : Cert.KernelIdeal.Facts] [hPre_rstd_finite : Cert.Pre_rstd_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rstd_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rstd_finite [hReferenceIdeal : Cert.ReferenceIdeal.Facts] [hPre_rstd_finite : Cert.Pre_rstd_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rstd_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x38638E39#32 ((1 / 18432 : ℝ) : EReal)

def algebraic_KernelIdeal_ReferenceIdeal_pre_rstd_finite [hKernelIdeal : Cert.KernelIdeal.Facts] [hReferenceIdeal : Cert.ReferenceIdeal.Facts] [hPre_rstd_finite : Cert.Pre_rstd_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rstd_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v76) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rstd_finite : Cert.Pre_rstd_finite.Facts),
    quiescent_Kernel (hKernel := hKernel)
    ∧ quiescent_KernelIdeal (hKernelIdeal := hKernelIdeal)
    ∧ quiescent_KernelIdeal_pre_rstd_finite (hKernelIdeal := hKernelIdeal) (hPre_rstd_finite := hPre_rstd_finite)
    ∧ quiescent_ReferenceIdeal (hReferenceIdeal := hReferenceIdeal)
    ∧ quiescent_ReferenceIdeal_pre_rstd_finite (hReferenceIdeal := hReferenceIdeal) (hPre_rstd_finite := hPre_rstd_finite)
    ∧ preserves_Kernel_KernelIdeal
    ∧ algebraic_KernelIdeal_ReferenceIdeal_pre_rstd_finite (hKernelIdeal := hKernelIdeal) (hReferenceIdeal := hReferenceIdeal) (hPre_rstd_finite := hPre_rstd_finite)
-- ==== Pre_rstd_finite.lean ====
abbrev S2x640x18432 : Shape := ⟨3, ![2, 640, 18432]⟩
abbrev S18432 : Shape := ⟨1, ![18432]⟩
abbrev S2x640 : Shape := ⟨2, ![2, 640]⟩
abbrev S_ : Shape := ⟨0, ![]⟩

class Facts : Prop where
  bcast_S_S2x640 : S_.BroadcastsInDim S2x640 (![] : Fin 0 → Fin S2x640.rank)

variable [Facts]

def fn {F : FTy → Type} [FloatOps F] (main_arg0 : FVec F S2x640x18432 .bf16) (main_arg1 : FVec F S2x640x18432 .bf16) (main_arg2 : FVec F S2x640x18432 .bf16) (main_arg3 : FVec F S18432 .f32) (main_arg4 : FVec F S2x640 .f32) : IVec S2x640 1 :=
  let main_cst : FVec F S_ .f32 := constant S_ .f32 0x00000000#32
  let main_v0 : FVec F S2x640 .f32 := broadcastInDim S2x640 ![] bcast_S_S2x640 main_cst
  let main_v1 : IVec S2x640 1 := cmpf .oge main_arg4 main_v0
  let main_cst_0 : FVec F S_ .f32 := constant S_ .f32 0x7F800000#32
  let main_v2 : FVec F S2x640 .f32 := broadcastInDim S2x640 ![] bcast_S_S2x640 main_cst_0
  let main_v3 : IVec S2x640 1 := cmpf .olt main_arg4 main_v2
  let main_v4 : IVec S2x640 1 := andi main_v1 main_v3
  main_v4
-- ==== Kernel.lean ====
abbrev S2x640x18432 : Shape := ⟨3, ![2, 640, 18432]⟩
abbrev S18432 : Shape := ⟨1, ![18432]⟩
abbrev S2x640 : Shape := ⟨2, ![2, 640]⟩
abbrev S1280x18432 : Shape := ⟨2, ![1280, 18432]⟩
abbrev S1x18432 : Shape := ⟨2, ![1, 18432]⟩
abbrev S32x18432 : Shape := ⟨2, ![32, 18432]⟩
abbrev S72x32x256 : Shape := ⟨3, ![72, 32, 256]⟩
abbrev S72x8x256 : Shape := ⟨3, ![72, 8, 256]⟩
abbrev S32x128 : Shape := ⟨2, ![32, 128]⟩
abbrev S2x128 : Shape := ⟨2, ![2, 128]⟩
abbrev S128 : Shape := ⟨1, ![128]⟩
abbrev S1x128 : Shape := ⟨2, ![1, 128]⟩
abbrev S32 : Shape := ⟨1, ![32]⟩
abbrev S32x1 : Shape := ⟨2, ![32, 1]⟩
abbrev S32x256 : Shape := ⟨2, ![32, 256]⟩
abbrev S1x8x256 : Shape := ⟨3, ![1, 8, 256]⟩
abbrev S8x256 : Shape := ⟨2, ![8, 256]⟩
abbrev S1x256 : Shape := ⟨2, ![1, 256]⟩
abbrev S1x32x256 : Shape := ⟨3, ![1, 32, 256]⟩
abbrev S256 : Shape := ⟨1, ![256]⟩

abbrev nBuf : Space → Nat
  | .hbm => 13
  | .vmem => 21
  | .smem => 0
  | _ => 0

abbrev bufTy : (tb : Table) → Fin (tcTables nBuf tb) → BufTy
  | .hbm, ⟨0, _⟩ => ⟨S2x640x18432, .bf16⟩
  | .hbm, ⟨1, _⟩ => ⟨S2x640x18432, .bf16⟩
  | .hbm, ⟨2, _⟩ => ⟨S2x640x18432, .bf16⟩
  | .hbm, ⟨3, _⟩ => ⟨S18432, .f32⟩
  | .hbm, ⟨4, _⟩ => ⟨S2x640, .f32⟩
  | .hbm, ⟨5, _⟩ => ⟨S1280x18432, .bf16⟩
  | .hbm, ⟨6, _⟩ => ⟨S1280x18432, .bf16⟩
  | .hbm, ⟨7, _⟩ => ⟨S1280x18432, .bf16⟩
  | .hbm, ⟨8, _⟩ => ⟨S1x18432, .f32⟩
  | .hbm, ⟨9, _⟩ => ⟨S1x18432, .f32⟩
  | .hbm, ⟨10, _⟩ => ⟨S1280x18432, .bf16⟩
  | .hbm, ⟨11, _⟩ => ⟨S1280x18432, .fp8e5m2⟩
  | .hbm, ⟨12, _⟩ => ⟨S2x640, .f32⟩
  | .local _ .vmem, ⟨0, _⟩ => ⟨S32x18432, .bf16⟩
  | .local _ .vmem, ⟨1, _⟩ => ⟨S32x18432, .bf16⟩
  | .local _ .vmem, ⟨2, _⟩ => ⟨S32x18432, .bf16⟩
  | .local _ .vmem, ⟨3, _⟩ => ⟨S32x18432, .bf16⟩
  | .local _ .vmem, ⟨4, _⟩ => ⟨S32x18432, .bf16⟩
  | .local _ .vmem, ⟨5, _⟩ => ⟨S32x18432, .bf16⟩
  | .local _ .vmem, ⟨6, _⟩ => ⟨S1x18432, .f32⟩
  | .local _ .vmem, ⟨7, _⟩ => ⟨S2x640, .f32⟩
  | .local _ .vmem, ⟨8, _⟩ => ⟨S1x18432, .f32⟩
  | .local _ .vmem, ⟨9, _⟩ => ⟨S32x18432, .bf16⟩
  | .local _ .vmem, ⟨10, _⟩ => ⟨S32x18432, .bf16⟩
  | .local _ .vmem, ⟨11, _⟩ => ⟨S32x18432, .fp8e5m2⟩
  | .local _ .vmem, ⟨12, _⟩ => ⟨S32x18432, .fp8e5m2⟩
  | .local _ .vmem, ⟨13, _⟩ => ⟨S2x640, .f32⟩
  | .local _ .vmem, ⟨14, _⟩ => ⟨S72x32x256, .f32⟩
  | .local _ .vmem, ⟨15, _⟩ => ⟨S72x32x256, .f32⟩
  | .local _ .vmem, ⟨16, _⟩ => ⟨S72x32x256, .f32⟩
  | .local _ .vmem, ⟨17, _⟩ => ⟨S72x8x256, .f32⟩
  | .local _ .vmem, ⟨18, _⟩ => ⟨S32x128, .f32⟩
  | .local _ .vmem, ⟨19, _⟩ => ⟨S32x128, .f32⟩
  | .local _ .vmem, ⟨20, _⟩ => ⟨S32x128, .f32⟩
  | _, _ => ⟨S2x640x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![42], ![false]⟩

def k0_cond2 (i : grid0.Coords) : BitVec 1 :=
  let arg0 : BitVec 32 := BitVec.ofNat 32 (i 0).val
  let c0_i32_1 : BitVec 32 := 0#32
  let v6 : BitVec 1 := Scalar.cmpi .eq arg0 c0_i32_1
  let v7 : BitVec 32 := Scalar.extui v6
  let c0_i32_2 : BitVec 32 := 0#32
  let v8 : BitVec 1 := Scalar.cmpi .ne v7 c0_i32_2
  v8

@[reducible] def k0_t1_loop : Scf.Loop 32 :=
  let c0_i32_14 : BitVec 32 := 0#32
  let c18_i32 : BitVec 32 := 18#32
  let v33 : BitVec 32 := Scalar.addi c0_i32_14 c18_i32
  let c1_i32_15 : BitVec 32 := 1#32
  ⟨c0_i32_14, v33, c1_i32_15⟩
def k0_mult1 (k0_t1 : Fin k0_t1_loop.trips) : BitVec 32 :=
  let c0_i32_14 : BitVec 32 := 0#32
  let c1_i32_15 : BitVec 32 := 1#32
  let arg17 : BitVec 32 := Scf.iv c0_i32_14 c1_i32_15 k0_t1
  let c4_i32 : BitVec 32 := 4#32
  let v47 : BitVec 32 := Scalar.muli arg17 c4_i32
  let c0_i32_21 : BitVec 32 := 0#32
  let v48 : BitVec 32 := Scalar.addi v47 c0_i32_21
  let c256_i32 : BitVec 32 := 256#32
  let v49 : BitVec 32 := Scalar.muli v48 c256_i32
  v49
def k0_off1 (k0_t1 : Fin k0_t1_loop.trips) (c0_i32_21 : BitVec 32) : Fin 2 → Nat :=
  let c0_22 : Index := 0#32
  let c0_i32_14 : BitVec 32 := 0#32
  let c1_i32_15 : BitVec 32 := 1#32
  let arg17 : BitVec 32 := Scf.iv c0_i32_14 c1_i32_15 k0_t1
  let c4_i32 : BitVec 32 := 4#32
  let v47 : BitVec 32 := Scalar.muli arg17 c4_i32
  let v48 : BitVec 32 := Scalar.addi v47 c0_i32_21
  let c256_i32 : BitVec 32 := 256#32
  let v49 : BitVec 32 := Scalar.muli v48 c256_i32
  let v50 : BitVec 32 := v49
  let v51 : Index := Scalar.indexCast v50
  ![0, v51.toNat]
def k0_off2 (k0_t1 : Fin k0_t1_loop.trips) (c0_i32_21 : BitVec 32) : Fin 3 → Nat :=
  let c0_i32_14 : BitVec 32 := 0#32
  let c1_i32_15 : BitVec 32 := 1#32
  let arg17 : BitVec 32 := Scf.iv c0_i32_14 c1_i32_15 k0_t1
  let c4_i32 : BitVec 32 := 4#32
  let v47 : BitVec 32 := Scalar.muli arg17 c4_i32
  let v48 : BitVec 32 := Scalar.addi v47 c0_i32_21
  let v61 : Index := Scalar.indexCast v48
  let c0_24 : Index := 0#32
  let c0_25 : Index := 0#32
  ![v61.toNat, 0, 0]
def k0_off3 (k0_t1 : Fin k0_t1_loop.trips) (c0_i32_21 : BitVec 32) : Fin 2 → Nat :=
  let c0_28 : Index := 0#32
  let c0_i32_14 : BitVec 32 := 0#32
  let c1_i32_15 : BitVec 32 := 1#32
  let arg17 : BitVec 32 := Scf.iv c0_i32_14 c1_i32_15 k0_t1
  let c4_i32 : BitVec 32 := 4#32
  let v47 : BitVec 32 := Scalar.muli arg17 c4_i32
  let v48 : BitVec 32 := Scalar.addi v47 c0_i32_21
  let c256_i32 : BitVec 32 := 256#32
  let v49 : BitVec 32 := Scalar.muli v48 c256_i32
  let v50 : BitVec 32 := v49
  let v76 : Index := Scalar.indexCast v50
  ![0, v76.toNat]
def k0_off4 (k0_t1 : Fin k0_t1_loop.trips) (c0_i32_21 : BitVec 32) : Fin 3 → Nat :=
  let c0_i32_14 : BitVec 32 := 0#32
  let c1_i32_15 : BitVec 32 := 1#32
  let arg17 : BitVec 32 := Scf.iv c0_i32_14 c1_i32_15 k0_t1
  let c4_i32 : BitVec 32 := 4#32
  let v47 : BitVec 32 := Scalar.muli arg17 c4_i32
  let v48 : BitVec 32 := Scalar.addi v47 c0_i32_21
  let v86 : Index := Scalar.indexCast v48
  let c0_29 : Index := 0#32
  let c0_30 : Index := 0#32
  ![v86.toNat, 0, 0]
def k0_mult2 (k0_t1 : Fin k0_t1_loop.trips) : BitVec 32 :=
  let c0_i32_14 : BitVec 32 := 0#32
  let c1_i32_15 : BitVec 32 := 1#32
  let arg17 : BitVec 32 := Scf.iv c0_i32_14 c1_i32_15 k0_t1
  let c4_i32_34 : BitVec 32 := 4#32
  let v99 : BitVec 32 := Scalar.muli arg17 c4_i32_34
  let c1_i32_35 : BitVec 32 := 1#32
  let v100 : BitVec 32 := Scalar.addi v99 c1_i32_35
  let c256_i32_36 : BitVec 32 := 256#32
  let v101 : BitVec 32 := Scalar.muli v100 c256_i32_36
  v101
def k0_mult3 (k0_t1 : Fin k0_t1_loop.trips) : BitVec 32 :=
  let c0_i32_14 : BitVec 32 := 0#32
  let c1_i32_15 : BitVec 32 := 1#32
  let arg17 : BitVec 32 := Scf.iv c0_i32_14 c1_i32_15 k0_t1
  let c4_i32_49 : BitVec 32 := 4#32
  let v151 : BitVec 32 := Scalar.muli arg17 c4_i32_49
  let c2_i32_50 : BitVec 32 := 2#32
  let v152 : BitVec 32 := Scalar.addi v151 c2_i32_50
  let c256_i32_51 : BitVec 32 := 256#32
  let v153 : BitVec 32 := Scalar.muli v152 c256_i32_51
  v153
def k0_mult4 (k0_t1 : Fin k0_t1_loop.trips) : BitVec 32 :=
  let c0_i32_14 : BitVec 32 := 0#32
  let c1_i32_15 : BitVec 32 := 1#32
  let arg17 : BitVec 32 := Scf.iv c0_i32_14 c1_i32_15 k0_t1
  let c4_i32_64 : BitVec 32 := 4#32
  let v203 : BitVec 32 := Scalar.muli arg17 c4_i32_64
  let c3_i32 : BitVec 32 := 3#32
  let v204 : BitVec 32 := Scalar.addi v203 c3_i32
  let c256_i32_65 : BitVec 32 := 256#32
  let v205 : BitVec 32 := Scalar.muli v204 c256_i32_65
  v205
def k0_cond3 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_3 : BitVec 32 := 0#32
  let v11 : BitVec 1 := Scalar.cmpi .ne v10 c0_i32_3
  v11

@[reducible] def k0_t2_loop : Scf.Loop 32 :=
  let c0_i32_16 : BitVec 32 := 0#32
  let c18_i32 : BitVec 32 := 18#32
  let v35 : BitVec 32 := Scalar.addi c0_i32_16 c18_i32
  let c1_i32_17 : BitVec 32 := 1#32
  ⟨c0_i32_16, v35, c1_i32_17⟩
def k0_mult5 (k0_t2 : Fin k0_t2_loop.trips) : BitVec 32 :=
  let c0_i32_16 : BitVec 32 := 0#32
  let c1_i32_17 : BitVec 32 := 1#32
  let arg17 : BitVec 32 := Scf.iv c0_i32_16 c1_i32_17 k0_t2
  let c4_i32_104 : BitVec 32 := 4#32
  let v280 : BitVec 32 := Scalar.muli arg17 c4_i32_104
  let c0_i32_105 : BitVec 32 := 0#32
  let v281 : BitVec 32 := Scalar.addi v280 c0_i32_105
  let c256_i32 : BitVec 32 := 256#32
  let v282 : BitVec 32 := Scalar.muli v281 c256_i32
  v282
def k0_off5 (k0_t2 : Fin k0_t2_loop.trips) (c0_i32_105 : BitVec 32) : Fin 3 → Nat :=
  let c0_i32_16 : BitVec 32 := 0#32
  let c1_i32_17 : BitVec 32 := 1#32
  let arg17 : BitVec 32 := Scf.iv c0_i32_16 c1_i32_17 k0_t2
  let c4_i32_104 : BitVec 32 := 4#32
  let v280 : BitVec 32 := Scalar.muli arg17 c4_i32_104
  let v281 : BitVec 32 := Scalar.addi v280 c0_i32_105
  let v284 : Index := Scalar.indexCast v281
  let c0_106 : Index := 0#32
  let c0_107 : Index := 0#32
  ![v284.toNat, 0, 0]
def k0_off6 (k0_t2 : Fin k0_t2_loop.trips) (c0_i32_105 : BitVec 32) : Fin 2 → Nat :=
  let c0_112 : Index := 0#32
  let c0_i32_16 : BitVec 32 := 0#32
  let c1_i32_17 : BitVec 32 := 1#32
  let arg17 : BitVec 32 := Scf.iv c0_i32_16 c1_i32_17 k0_t2
  let c4_i32_104 : BitVec 32 := 4#32
  let v280 : BitVec 32 := Scalar.muli arg17 c4_i32_104
  let v281 : BitVec 32 := Scalar.addi v280 c0_i32_105
  let c256_i32 : BitVec 32 := 256#32
  let v282 : BitVec 32 := Scalar.muli v281 c256_i32
  let v283 : BitVec 32 := v282
  let v297 : Index := Scalar.indexCast v283
  ![0, v297.toNat]
def k0_off7 (k0_t2 : Fin k0_t2_loop.trips) (c0_i32_105 : BitVec 32) : Fin 3 → Nat :=
  let c0_i32_16 : BitVec 32 := 0#32
  let c1_i32_17 : BitVec 32 := 1#32
  let arg17 : BitVec 32 := Scf.iv c0_i32_16 c1_i32_17 k0_t2
  let c4_i32_104 : BitVec 32 := 4#32
  let v280 : BitVec 32 := Scalar.muli arg17 c4_i32_104
  let v281 : BitVec 32 := Scalar.addi v280 c0_i32_105
  let v314 : Index := Scalar.indexCast v281
  let c0_115 : Index := 0#32
  let c0_116 : Index := 0#32
  ![v314.toNat, 0, 0]
def k0_off8 (k0_t2 : Fin k0_t2_loop.trips) (c0_i32_105 : BitVec 32) : Fin 2 → Nat :=
  let c0_119 : Index := 0#32
  let c0_i32_16 : BitVec 32 := 0#32
  let c1_i32_17 : BitVec 32 := 1#32
  let arg17 : BitVec 32 := Scf.iv c0_i32_16 c1_i32_17 k0_t2
  let c4_i32_104 : BitVec 32 := 4#32
  let v280 : BitVec 32 := Scalar.muli arg17 c4_i32_104
  let v281 : BitVec 32 := Scalar.addi v280 c0_i32_105
  let c256_i32 : BitVec 32 := 256#32
  let v282 : BitVec 32 := Scalar.muli v281 c256_i32
  let v283 : BitVec 32 := v282
  let v329 : Index := Scalar.indexCast v283
  ![0, v329.toNat]
def k0_mult6 (k0_t2 : Fin k0_t2_loop.trips) : BitVec 32 :=
  let c0_i32_16 : BitVec 32 := 0#32
  let c1_i32_17 : BitVec 32 := 1#32
  let arg17 : BitVec 32 := Scf.iv c0_i32_16 c1_i32_17 k0_t2
  let c4_i32_125 : BitVec 32 := 4#32
  let v352 : BitVec 32 := Scalar.muli arg17 c4_i32_125
  let c1_i32_126 : BitVec 32 := 1#32
  let v353 : BitVec 32 := Scalar.addi v352 c1_i32_126
  let c256_i32_127 : BitVec 32 := 256#32
  let v354 : BitVec 32 := Scalar.muli v353 c256_i32_127
  v354
def k0_mult7 (k0_t2 : Fin k0_t2_loop.trips) : BitVec 32 :=
  let c0_i32_16 : BitVec 32 := 0#32
  let c1_i32_17 : BitVec 32 := 1#32
  let arg17 : BitVec 32 := Scf.iv c0_i32_16 c1_i32_17 k0_t2
  let c4_i32_147 : BitVec 32 := 4#32
  let v424 : BitVec 32 := Scalar.muli arg17 c4_i32_147
  let c2_i32_148 : BitVec 32 := 2#32
  let v425 : BitVec 32 := Scalar.addi v424 c2_i32_148
  let c256_i32_149 : BitVec 32 := 256#32
  let v426 : BitVec 32 := Scalar.muli v425 c256_i32_149
  v426
def k0_mult8 (k0_t2 : Fin k0_t2_loop.trips) : BitVec 32 :=
  let c0_i32_16 : BitVec 32 := 0#32
  let c1_i32_17 : BitVec 32 := 1#32
  let arg17 : BitVec 32 := Scf.iv c0_i32_16 c1_i32_17 k0_t2
  let c4_i32_169 : BitVec 32 := 4#32
  let v496 : BitVec 32 := Scalar.muli arg17 c4_i32_169
  let c3_i32_170 : BitVec 32 := 3#32
  let v497 : BitVec 32 := Scalar.addi v496 c3_i32_170
  let c256_i32_171 : BitVec 32 := 256#32
  let v498 : BitVec 32 := Scalar.muli v497 c256_i32_171
  v498
def k0_cond4 (i : grid0.Coords) : BitVec 1 :=
  let arg0 : BitVec 32 := BitVec.ofNat 32 (i 0).val
  let c2_i32 : BitVec 32 := 2#32
  let v12 : BitVec 1 := Scalar.cmpi .sge arg0 c2_i32
  let c40_i32 : BitVec 32 := 40#32
  let v13 : BitVec 1 := Scalar.cmpi .slt arg0 c40_i32
  let v14 : BitVec 1 := Scalar.andi v12 v13
  let v15 : BitVec 32 := Scalar.extui v14
  let c0_i32_4 : BitVec 32 := 0#32
  let v16 : BitVec 1 := Scalar.cmpi .ne v15 c0_i32_4
  v16

@[reducible] def k0_t3_loop : Scf.Loop 32 :=
  let c0_i32_18 : BitVec 32 := 0#32
  let c18_i32 : BitVec 32 := 18#32
  let v37 : BitVec 32 := Scalar.addi c0_i32_18 c18_i32
  let c1_i32_19 : BitVec 32 := 1#32
  ⟨c0_i32_18, v37, c1_i32_19⟩
def k0_mult9 (k0_t3 : Fin k0_t3_loop.trips) : BitVec 32 :=
  let c0_i32_18 : BitVec 32 := 0#32
  let c1_i32_19 : BitVec 32 := 1#32
  let arg17 : BitVec 32 := Scf.iv c0_i32_18 c1_i32_19 k0_t3
  let c4_i32_106 : BitVec 32 := 4#32
  let v282 : BitVec 32 := Scalar.muli arg17 c4_i32_106
  let c0_i32_107 : BitVec 32 := 0#32
  let v283 : BitVec 32 := Scalar.addi v282 c0_i32_107
  let c256_i32 : BitVec 32 := 256#32
  let v284 : BitVec 32 := Scalar.muli v283 c256_i32
  v284
def k0_off9 (k0_t3 : Fin k0_t3_loop.trips) (c0_i32_107 : BitVec 32) : Fin 3 → Nat :=
  let c0_i32_18 : BitVec 32 := 0#32
  let c1_i32_19 : BitVec 32 := 1#32
  let arg17 : BitVec 32 := Scf.iv c0_i32_18 c1_i32_19 k0_t3
  let c4_i32_106 : BitVec 32 := 4#32
  let v282 : BitVec 32 := Scalar.muli arg17 c4_i32_106
  let v283 : BitVec 32 := Scalar.addi v282 c0_i32_107
  let v286 : Index := Scalar.indexCast v283
  let c0_108 : Index := 0#32
  let c0_109 : Index := 0#32
  ![v286.toNat, 0, 0]
def k0_off10 (k0_t3 : Fin k0_t3_loop.trips) (c0_i32_107 : BitVec 32) : Fin 2 → Nat :=
  let c0_112 : Index := 0#32
  let c0_i32_18 : BitVec 32 := 0#32
  let c1_i32_19 : BitVec 32 := 1#32
  let arg17 : BitVec 32 := Scf.iv c0_i32_18 c1_i32_19 k0_t3
  let c4_i32_106 : BitVec 32 := 4#32
  let v282 : BitVec 32 := Scalar.muli arg17 c4_i32_106
  let v283 : BitVec 32 := Scalar.addi v282 c0_i32_107
  let c256_i32 : BitVec 32 := 256#32
  let v284 : BitVec 32 := Scalar.muli v283 c256_i32
  let v285 : BitVec 32 := v284
  let v295 : Index := Scalar.indexCast v285
  ![0, v295.toNat]
def k0_off11 (k0_t3 : Fin k0_t3_loop.trips) (c0_i32_107 : BitVec 32) : Fin 3 → Nat :=
  let c0_i32_18 : BitVec 32 := 0#32
  let c1_i32_19 : BitVec 32 := 1#32
  let arg17 : BitVec 32 := Scf.iv c0_i32_18 c1_i32_19 k0_t3
  let c4_i32_106 : BitVec 32 := 4#32
  let v282 : BitVec 32 := Scalar.muli arg17 c4_i32_106
  let v283 : BitVec 32 := Scalar.addi v282 c0_i32_107
  let v327 : Index := Scalar.indexCast v283
  let c0_122 : Index := 0#32
  let c0_123 : Index := 0#32
  ![v327.toNat, 0, 0]
def k0_off12 (k0_t3 : Fin k0_t3_loop.trips) (c0_i32_107 : BitVec 32) : Fin 2 → Nat :=
  let c0_126 : Index := 0#32
  let c0_i32_18 : BitVec 32 := 0#32
  let c1_i32_19 : BitVec 32 := 1#32
  let arg17 : BitVec 32 := Scf.iv c0_i32_18 c1_i32_19 k0_t3
  let c4_i32_106 : BitVec 32 := 4#32
  let v282 : BitVec 32 := Scalar.muli arg17 c4_i32_106
  let v283 : BitVec 32 := Scalar.addi v282 c0_i32_107
  let c256_i32 : BitVec 32 := 256#32
  let v284 : BitVec 32 := Scalar.muli v283 c256_i32
  let v285 : BitVec 32 := v284
  let v342 : Index := Scalar.indexCast v285
  ![0, v342.toNat]
def k0_mult10 (k0_t3 : Fin k0_t3_loop.trips) : BitVec 32 :=
  let c0_i32_18 : BitVec 32 := 0#32
  let c1_i32_19 : BitVec 32 := 1#32
  let arg17 : BitVec 32 := Scf.iv c0_i32_18 c1_i32_19 k0_t3
  let c4_i32_132 : BitVec 32 := 4#32
  let v365 : BitVec 32 := Scalar.muli arg17 c4_i32_132
  let c1_i32_133 : BitVec 32 := 1#32
  let v366 : BitVec 32 := Scalar.addi v365 c1_i32_133
  let c256_i32_134 : BitVec 32 := 256#32
  let v367 : BitVec 32 := Scalar.muli v366 c256_i32_134
  v367
def k0_mult11 (k0_t3 : Fin k0_t3_loop.trips) : BitVec 32 :=
  let c0_i32_18 : BitVec 32 := 0#32
  let c1_i32_19 : BitVec 32 := 1#32
  let arg17 : BitVec 32 := Scf.iv c0_i32_18 c1_i32_19 k0_t3
  let c4_i32_159 : BitVec 32 := 4#32
  let v448 : BitVec 32 := Scalar.muli arg17 c4_i32_159
  let c2_i32_160 : BitVec 32 := 2#32
  let v449 : BitVec 32 := Scalar.addi v448 c2_i32_160
  let c256_i32_161 : BitVec 32 := 256#32
  let v450 : BitVec 32 := Scalar.muli v449 c256_i32_161
  v450
def k0_mult12 (k0_t3 : Fin k0_t3_loop.trips) : BitVec 32 :=
  let c0_i32_18 : BitVec 32 := 0#32
  let c1_i32_19 : BitVec 32 := 1#32
  let arg17 : BitVec 32 := Scf.iv c0_i32_18 c1_i32_19 k0_t3
  let c4_i32_186 : BitVec 32 := 4#32
  let v531 : BitVec 32 := Scalar.muli arg17 c4_i32_186
  let c3_i32_187 : BitVec 32 := 3#32
  let v532 : BitVec 32 := Scalar.addi v531 c3_i32_187
  let c256_i32_188 : BitVec 32 := 256#32
  let v533 : BitVec 32 := Scalar.muli v532 c256_i32_188
  v533
def k0_cond5 (i : grid0.Coords) : BitVec 1 :=
  let arg0 : BitVec 32 := BitVec.ofNat 32 (i 0).val
  let c40_i32_5 : BitVec 32 := 40#32
  let v17 : BitVec 1 := Scalar.cmpi .eq arg0 c40_i32_5
  let v18 : BitVec 32 := Scalar.extui v17
  let c0_i32_6 : BitVec 32 := 0#32
  let v19 : BitVec 1 := Scalar.cmpi .ne v18 c0_i32_6
  v19

@[reducible] def k0_t4_loop : Scf.Loop 32 :=
  let c0_i32_16 : BitVec 32 := 0#32
  let c18_i32 : BitVec 32 := 18#32
  let v35 : BitVec 32 := Scalar.addi c0_i32_16 c18_i32
  let c1_i32_17 : BitVec 32 := 1#32
  ⟨c0_i32_16, v35, c1_i32_17⟩
def k0_mult13 (k0_t4 : Fin k0_t4_loop.trips) : BitVec 32 :=
  let c0_i32_16 : BitVec 32 := 0#32
  let c1_i32_17 : BitVec 32 := 1#32
  let arg17 : BitVec 32 := Scf.iv c0_i32_16 c1_i32_17 k0_t4
  let c4_i32_100 : BitVec 32 := 4#32
  let v268 : BitVec 32 := Scalar.muli arg17 c4_i32_100
  let c0_i32_101 : BitVec 32 := 0#32
  let v269 : BitVec 32 := Scalar.addi v268 c0_i32_101
  let c256_i32 : BitVec 32 := 256#32
  let v270 : BitVec 32 := Scalar.muli v269 c256_i32
  v270
def k0_off13 (k0_t4 : Fin k0_t4_loop.trips) (c0_i32_101 : BitVec 32) : Fin 3 → Nat :=
  let c0_i32_16 : BitVec 32 := 0#32
  let c1_i32_17 : BitVec 32 := 1#32
  let arg17 : BitVec 32 := Scf.iv c0_i32_16 c1_i32_17 k0_t4
  let c4_i32_100 : BitVec 32 := 4#32
  let v268 : BitVec 32 := Scalar.muli arg17 c4_i32_100
  let v269 : BitVec 32 := Scalar.addi v268 c0_i32_101
  let v272 : Index := Scalar.indexCast v269
  let c0_102 : Index := 0#32
  let c0_103 : Index := 0#32
  ![v272.toNat, 0, 0]
def k0_off14 (k0_t4 : Fin k0_t4_loop.trips) (c0_i32_101 : BitVec 32) : Fin 2 → Nat :=
  let c0_106 : Index := 0#32
  let c0_i32_16 : BitVec 32 := 0#32
  let c1_i32_17 : BitVec 32 := 1#32
  let arg17 : BitVec 32 := Scf.iv c0_i32_16 c1_i32_17 k0_t4
  let c4_i32_100 : BitVec 32 := 4#32
  let v268 : BitVec 32 := Scalar.muli arg17 c4_i32_100
  let v269 : BitVec 32 := Scalar.addi v268 c0_i32_101
  let c256_i32 : BitVec 32 := 256#32
  let v270 : BitVec 32 := Scalar.muli v269 c256_i32
  let v271 : BitVec 32 := v270
  let v281 : Index := Scalar.indexCast v271
  ![0, v281.toNat]
def k0_mult14 (k0_t4 : Fin k0_t4_loop.trips) : BitVec 32 :=
  let c0_i32_16 : BitVec 32 := 0#32
  let c1_i32_17 : BitVec 32 := 1#32
  let arg17 : BitVec 32 := Scf.iv c0_i32_16 c1_i32_17 k0_t4
  let c4_i32_114 : BitVec 32 := 4#32
  let v303 : BitVec 32 := Scalar.muli arg17 c4_i32_114
  let c1_i32_115 : BitVec 32 := 1#32
  let v304 : BitVec 32 := Scalar.addi v303 c1_i32_115
  let c256_i32_116 : BitVec 32 := 256#32
  let v305 : BitVec 32 := Scalar.muli v304 c256_i32_116
  v305
def k0_mult15 (k0_t4 : Fin k0_t4_loop.trips) : BitVec 32 :=
  let c0_i32_16 : BitVec 32 := 0#32
  let c1_i32_17 : BitVec 32 := 1#32
  let arg17 : BitVec 32 := Scf.iv c0_i32_16 c1_i32_17 k0_t4
  let c4_i32_129 : BitVec 32 := 4#32
  let v338 : BitVec 32 := Scalar.muli arg17 c4_i32_129
  let c2_i32_130 : BitVec 32 := 2#32
  let v339 : BitVec 32 := Scalar.addi v338 c2_i32_130
  let c256_i32_131 : BitVec 32 := 256#32
  let v340 : BitVec 32 := Scalar.muli v339 c256_i32_131
  v340
def k0_mult16 (k0_t4 : Fin k0_t4_loop.trips) : BitVec 32 :=
  let c0_i32_16 : BitVec 32 := 0#32
  let c1_i32_17 : BitVec 32 := 1#32
  let arg17 : BitVec 32 := Scf.iv c0_i32_16 c1_i32_17 k0_t4
  let c4_i32_144 : BitVec 32 := 4#32
  let v373 : BitVec 32 := Scalar.muli arg17 c4_i32_144
  let c3_i32_145 : BitVec 32 := 3#32
  let v374 : BitVec 32 := Scalar.addi v373 c3_i32_145
  let c256_i32_146 : BitVec 32 := 256#32
  let v375 : BitVec 32 := Scalar.muli v374 c256_i32_146
  v375
def k0_cond6 (i : grid0.Coords) : BitVec 1 :=
  let arg0 : BitVec 32 := BitVec.ofNat 32 (i 0).val
  let c41_i32 : BitVec 32 := 41#32
  let v20 : BitVec 1 := Scalar.cmpi .eq arg0 c41_i32
  let v21 : BitVec 32 := Scalar.extui v20
  let c0_i32_7 : BitVec 32 := 0#32
  let v22 : BitVec 1 := Scalar.cmpi .ne v21 c0_i32_7
  v22

@[reducible] def k0_t5_loop : Scf.Loop 32 :=
  let c0_i32_14 : BitVec 32 := 0#32
  let c18_i32 : BitVec 32 := 18#32
  let v32 : BitVec 32 := Scalar.addi c0_i32_14 c18_i32
  let c1_i32_15 : BitVec 32 := 1#32
  ⟨c0_i32_14, v32, c1_i32_15⟩
def k0_mult17 (k0_t5 : Fin k0_t5_loop.trips) : BitVec 32 :=
  let c0_i32_14 : BitVec 32 := 0#32
  let c1_i32_15 : BitVec 32 := 1#32
  let arg17 : BitVec 32 := Scf.iv c0_i32_14 c1_i32_15 k0_t5
  let c4_i32 : BitVec 32 := 4#32
  let v33 : BitVec 32 := Scalar.muli arg17 c4_i32
  let c0_i32_17 : BitVec 32 := 0#32
  let v34 : BitVec 32 := Scalar.addi v33 c0_i32_17
  let c256_i32 : BitVec 32 := 256#32
  let v35 : BitVec 32 := Scalar.muli v34 c256_i32
  v35
def k0_off15 (k0_t5 : Fin k0_t5_loop.trips) (c0_i32_17 : BitVec 32) : Fin 3 → Nat :=
  let c0_i32_14 : BitVec 32 := 0#32
  let c1_i32_15 : BitVec 32 := 1#32
  let arg17 : BitVec 32 := Scf.iv c0_i32_14 c1_i32_15 k0_t5
  let c4_i32 : BitVec 32 := 4#32
  let v33 : BitVec 32 := Scalar.muli arg17 c4_i32
  let v34 : BitVec 32 := Scalar.addi v33 c0_i32_17
  let v37 : Index := Scalar.indexCast v34
  let c0_18 : Index := 0#32
  let c0_19 : Index := 0#32
  ![v37.toNat, 0, 0]
def k0_off16 (k0_t5 : Fin k0_t5_loop.trips) (c0_i32_17 : BitVec 32) : Fin 2 → Nat :=
  let c0_21 : Index := 0#32
  let c0_i32_14 : BitVec 32 := 0#32
  let c1_i32_15 : BitVec 32 := 1#32
  let arg17 : BitVec 32 := Scf.iv c0_i32_14 c1_i32_15 k0_t5
  let c4_i32 : BitVec 32 := 4#32
  let v33 : BitVec 32 := Scalar.muli arg17 c4_i32
  let v34 : BitVec 32 := Scalar.addi v33 c0_i32_17
  let c256_i32 : BitVec 32 := 256#32
  let v35 : BitVec 32 := Scalar.muli v34 c256_i32
  let v36 : BitVec 32 := v35
  let v46 : Index := Scalar.indexCast v36
  ![0, v46.toNat]
def k0_mult18 (k0_t5 : Fin k0_t5_loop.trips) : BitVec 32 :=
  let c0_i32_14 : BitVec 32 := 0#32
  let c1_i32_15 : BitVec 32 := 1#32
  let arg17 : BitVec 32 := Scf.iv c0_i32_14 c1_i32_15 k0_t5
  let c4_i32_22 : BitVec 32 := 4#32
  let v48 : BitVec 32 := Scalar.muli arg17 c4_i32_22
  let c1_i32_23 : BitVec 32 := 1#32
  let v49 : BitVec 32 := Scalar.addi v48 c1_i32_23
  let c256_i32_24 : BitVec 32 := 256#32
  let v50 : BitVec 32 := Scalar.muli v49 c256_i32_24
  v50
def k0_mult19 (k0_t5 : Fin k0_t5_loop.trips) : BitVec 32 :=
  let c0_i32_14 : BitVec 32 := 0#32
  let c1_i32_15 : BitVec 32 := 1#32
  let arg17 : BitVec 32 := Scf.iv c0_i32_14 c1_i32_15 k0_t5
  let c4_i32_30 : BitVec 32 := 4#32
  let v63 : BitVec 32 := Scalar.muli arg17 c4_i32_30
  let c2_i32_31 : BitVec 32 := 2#32
  let v64 : BitVec 32 := Scalar.addi v63 c2_i32_31
  let c256_i32_32 : BitVec 32 := 256#32
  let v65 : BitVec 32 := Scalar.muli v64 c256_i32_32
  v65
def k0_mult20 (k0_t5 : Fin k0_t5_loop.trips) : BitVec 32 :=
  let c0_i32_14 : BitVec 32 := 0#32
  let c1_i32_15 : BitVec 32 := 1#32
  let arg17 : BitVec 32 := Scf.iv c0_i32_14 c1_i32_15 k0_t5
  let c4_i32_38 : BitVec 32 := 4#32
  let v78 : BitVec 32 := Scalar.muli arg17 c4_i32_38
  let c3_i32 : BitVec 32 := 3#32
  let v79 : BitVec 32 := Scalar.addi v78 c3_i32
  let c256_i32_39 : BitVec 32 := 256#32
  let v80 : BitVec 32 := Scalar.muli v79 c256_i32_39
  v80
def k0_cond8 (i : grid0.Coords) : BitVec 1 :=
  let arg0 : BitVec 32 := BitVec.ofNat 32 (i 0).val
  let c40_i32_11 : BitVec 32 := 40#32
  let v27 : BitVec 1 := Scalar.cmpi .eq arg0 c40_i32_11
  let v28 : BitVec 32 := Scalar.extui v27
  let c0_i32_12 : BitVec 32 := 0#32
  let v29 : BitVec 1 := Scalar.cmpi .ne v28 c0_i32_12
  v29

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c39_i32 : BitVec 32 := 39#32
  let v1 : BitVec 32 := Scalar.maxsi c0_i32_0 v0
  let v2 : BitVec 32 := Scalar.minsi c39_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c39_i32 : BitVec 32 := 39#32
  let v1 : BitVec 32 := Scalar.maxsi c0_i32_0 v0
  let v2 : BitVec 32 := Scalar.minsi c39_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c39_i32 : BitVec 32 := 39#32
  let v1 : BitVec 32 := Scalar.maxsi c0_i32_0 v0
  let v2 : BitVec 32 := Scalar.minsi c39_i32 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c39_i32 : BitVec 32 := 39#32
  let v1 : BitVec 32 := Scalar.maxsi c0_i32 v0
  let v2 : BitVec 32 := Scalar.minsi c39_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c39_i32 : BitVec 32 := 39#32
  let v1 : BitVec 32 := Scalar.maxsi c0_i32 v0
  let v2 : BitVec 32 := Scalar.minsi c39_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x18432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x18432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x18432 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x18432 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x18432 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "inv_d" => some ((1 / 18432 : ℝ) : EReal)
  | _ => none
-- ==== ReferenceIdeal.lean ====
abbrev S2x640x18432 : Shape := ⟨3, ![2, 640, 18432]⟩
abbrev S18432 : Shape := ⟨1, ![18432]⟩
abbrev S2x640 : Shape := ⟨2, ![2, 640]⟩
abbrev S1280x18432 : Shape := ⟨2, ![1280, 18432]⟩
abbrev S1280x1 : Shape := ⟨2, ![1280, 1]⟩
abbrev S1x18432 : Shape := ⟨2, ![1, 18432]⟩
abbrev S_ : Shape := ⟨0, ![]⟩
abbrev S1280 : Shape := ⟨1, ![1280]⟩
abbrev S254 : Shape := ⟨1, ![254]⟩
abbrev S1x254 : Shape := ⟨2, ![1, 254]⟩
abbrev S1280x254 : Shape := ⟨2, ![1280, 254]⟩

abbrev nBuf : Space → Nat
  | .hbm => 118
  | .vmem => 3
  | .smem => 0
  | _ => 0

abbrev bufTy : (tb : Table) → Fin (tcTables nBuf tb) → BufTy
  | .hbm, ⟨0, _⟩ => ⟨S2x640x18432, .bf16⟩
  | .hbm, ⟨1, _⟩ => ⟨S2x640x18432, .bf16⟩
  | .hbm, ⟨2, _⟩ => ⟨S2x640x18432, .bf16⟩
  | .hbm, ⟨3, _⟩ => ⟨S18432, .f32⟩
  | .hbm, ⟨4, _⟩ => ⟨S2x640, .f32⟩
  | .hbm, ⟨5, _⟩ => ⟨S1280x18432, .bf16⟩
  | .hbm, ⟨6, _⟩ => ⟨S1280x18432, .f32⟩
  | .hbm, ⟨7, _⟩ => ⟨S1280x18432, .bf16⟩
  | .hbm, ⟨8, _⟩ => ⟨S1280x18432, .f32⟩
  | .hbm, ⟨9, _⟩ => ⟨S1280x1, .f32⟩
  | .hbm, ⟨10, _⟩ => ⟨S1280x18432, .f32⟩
  | .hbm, ⟨11, _⟩ => ⟨S1280x18432, .f32⟩
  | .hbm, ⟨12, _⟩ => ⟨S1x18432, .f32⟩
  | .hbm, ⟨13, _⟩ => ⟨S1280x18432, .f32⟩
  | .hbm, ⟨14, _⟩ => ⟨S1280x18432, .f32⟩
  | .hbm, ⟨15, _⟩ => ⟨S1280x18432, .f32⟩
  | .hbm, ⟨16, _⟩ => ⟨S_, .f32⟩
  | .hbm, ⟨17, _⟩ => ⟨S1280, .f32⟩
  | .hbm, ⟨18, _⟩ => ⟨S1280x1, .f32⟩
  | .hbm, ⟨19, _⟩ => ⟨S_, .f32⟩
  | .hbm, ⟨20, _⟩ => ⟨S1280x1, .f32⟩
  | .hbm, ⟨21, _⟩ => ⟨S1280x1, .f32⟩
  | .hbm, ⟨22, _⟩ => ⟨S1280x18432, .f32⟩
  | .hbm, ⟨23, _⟩ => ⟨S1280x18432, .f32⟩
  | .hbm, ⟨24, _⟩ => ⟨S1280x18432, .f32⟩
  | .hbm, ⟨25, _⟩ => ⟨S1280x18432, .f32⟩
  | .hbm, ⟨26, _⟩ => ⟨S1280x18432, .f32⟩
  | .hbm, ⟨27, _⟩ => ⟨S1280x18432, .f32⟩
  | .hbm, ⟨28, _⟩ => ⟨S_, .f32⟩
  | .hbm, ⟨29, _⟩ => ⟨S18432, .f32⟩
  | .hbm, ⟨30, _⟩ => ⟨S1x18432, .f32⟩
  | .hbm, ⟨31, _⟩ => ⟨S1280x18432, .bf16⟩
  | .hbm, ⟨32, _⟩ => ⟨S1280x18432, .f32⟩
  | .hbm, ⟨33, _⟩ => ⟨S1280x18432, .f32⟩
  | .hbm, ⟨34, _⟩ => ⟨S1280x18432, .f32⟩
  | .hbm, ⟨35, _⟩ => ⟨S_, .f32⟩
  | .hbm, ⟨36, _⟩ => ⟨S1280, .f32⟩
  | .hbm, ⟨37, _⟩ => ⟨S_, .f32⟩
  | .hbm, ⟨38, _⟩ => ⟨S1280, .f32⟩
  | .hbm, ⟨39, _⟩ => ⟨S1280, .i1⟩
  | .hbm, ⟨40, _⟩ => ⟨S_, .f32⟩
  | .hbm, ⟨41, _⟩ => ⟨S1280, .f32⟩
  | .hbm, ⟨42, _⟩ => ⟨S1280, .f32⟩
  | .hbm, ⟨43, _⟩ => ⟨S254, .i32⟩
  | .hbm, ⟨44, _⟩ => ⟨S_, .i32⟩
  | .hbm, ⟨45, _⟩ => ⟨S254, .i32⟩
  | .hbm, ⟨46, _⟩ => ⟨S254, .i32⟩
  | .hbm, ⟨47, _⟩ => ⟨S_, .f32⟩
  | .hbm, ⟨48, _⟩ => ⟨S254, .f32⟩
  | .hbm, ⟨49, _⟩ => ⟨S254, .f32⟩
  | .hbm, ⟨50, _⟩ => ⟨S254, .f32⟩
  | .hbm, ⟨51, _⟩ => ⟨S1280x1, .f32⟩
  | .hbm, ⟨52, _⟩ => ⟨S1x254, .f32⟩
  | .hbm, ⟨53, _⟩ => ⟨S1280x254, .f32⟩
  | .hbm, ⟨54, _⟩ => ⟨S1280x254, .f32⟩
  | .hbm, ⟨55, _⟩ => ⟨S1280x254, .i1⟩
  | .hbm, ⟨56, _⟩ => ⟨S1280x254, .i32⟩
  | .hbm, ⟨57, _⟩ => ⟨S_, .i32⟩
  | .hbm, ⟨58, _⟩ => ⟨S1280, .i32⟩
  | .hbm, ⟨59, _⟩ => ⟨S_, .i32⟩
  | .hbm, ⟨60, _⟩ => ⟨S1280, .i32⟩
  | .hbm, ⟨61, _⟩ => ⟨S1280, .i32⟩
  | .hbm, ⟨62, _⟩ => ⟨S_, .f32⟩
  | .hbm, ⟨63, _⟩ => ⟨S1280, .f32⟩
  | .hbm, ⟨64, _⟩ => ⟨S1280, .i1⟩
  | .hbm, ⟨65, _⟩ => ⟨S_, .f32⟩
  | .hbm, ⟨66, _⟩ => ⟨S1280, .f32⟩
  | .hbm, ⟨67, _⟩ => ⟨S1280, .i1⟩
  | .hbm, ⟨68, _⟩ => ⟨S1280, .i1⟩
  | .hbm, ⟨69, _⟩ => ⟨S_, .i32⟩
  | .hbm, ⟨70, _⟩ => ⟨S_, .i32⟩
  | .hbm, ⟨71, _⟩ => ⟨S1280, .i32⟩
  | .hbm, ⟨72, _⟩ => ⟨S1280, .i32⟩
  | .hbm, ⟨73, _⟩ => ⟨S_, .i32⟩
  | .hbm, ⟨74, _⟩ => ⟨S_, .i32⟩
  | .hbm, ⟨75, _⟩ => ⟨S1280, .i32⟩
  | .hbm, ⟨76, _⟩ => ⟨S1280, .i32⟩
  | .hbm, ⟨77, _⟩ => ⟨S_, .i32⟩
  | .hbm, ⟨78, _⟩ => ⟨S1280, .i32⟩
  | .hbm, ⟨79, _⟩ => ⟨S1280, .i1⟩
  | .hbm, ⟨80, _⟩ => ⟨S_, .i32⟩
  | .hbm, ⟨81, _⟩ => ⟨S1280, .i32⟩
  | .hbm, ⟨82, _⟩ => ⟨S1280, .i1⟩
  | .hbm, ⟨83, _⟩ => ⟨S_, .f32⟩
  | .hbm, ⟨84, _⟩ => ⟨S1280, .f32⟩
  | .hbm, ⟨85, _⟩ => ⟨S1280, .f32⟩
  | .hbm, ⟨86, _⟩ => ⟨S1280, .f32⟩
  | .hbm, ⟨87, _⟩ => ⟨S_, .f32⟩
  | .hbm, ⟨88, _⟩ => ⟨S_, .f32⟩
  | .hbm, ⟨89, _⟩ => ⟨S1280, .f32⟩
  | .hbm, ⟨90, _⟩ => ⟨S1280, .f32⟩
  | .hbm, ⟨91, _⟩ => ⟨S_, .f32⟩
  | .hbm, ⟨92, _⟩ => ⟨S_, .f32⟩
  | .hbm, ⟨93, _⟩ => ⟨S1280, .f32⟩
  | .hbm, ⟨94, _⟩ => ⟨S1280, .f32⟩
  | .hbm, ⟨95, _⟩ => ⟨S2x640, .f32⟩
  | .hbm, ⟨96, _⟩ => ⟨S1280, .i32⟩
  | .hbm, ⟨97, _⟩ => ⟨S_, .i32⟩
  | .hbm, ⟨98, _⟩ => ⟨S1280, .i32⟩
  | .hbm, ⟨99, _⟩ => ⟨S1280, .i1⟩
  | .hbm, ⟨100, _⟩ => ⟨S_, .i32⟩
  | .hbm, ⟨101, _⟩ => ⟨S1280, .i32⟩
  | .hbm, ⟨102, _⟩ => ⟨S1280, .i1⟩
  | .hbm, ⟨103, _⟩ => ⟨S_, .f32⟩
  | .hbm, ⟨104, _⟩ => ⟨S1280, .f32⟩
  | .hbm, ⟨105, _⟩ => ⟨S1280, .f32⟩
  | .hbm, ⟨106, _⟩ => ⟨S1280, .f32⟩
  | .hbm, ⟨107, _⟩ => ⟨S_, .f32⟩
  | .hbm, ⟨108, _⟩ => ⟨S_, .f32⟩
  | .hbm, ⟨109, _⟩ => ⟨S1280, .f32⟩
  | .hbm, ⟨110, _⟩ => ⟨S1280, .f32⟩
  | .hbm, ⟨111, _⟩ => ⟨S_, .f32⟩
  | .hbm, ⟨112, _⟩ => ⟨S_, .f32⟩
  | .hbm, ⟨113, _⟩ => ⟨S1280, .f32⟩
  | .hbm, ⟨114, _⟩ => ⟨S1280, .f32⟩
  | .hbm, ⟨115, _⟩ => ⟨S1280x1, .f32⟩
  | .hbm, ⟨116, _⟩ => ⟨S1280x18432, .bf16⟩
  | .hbm, ⟨117, _⟩ => ⟨S1280x18432, .fp8e5m2⟩
  | .local _ .vmem, ⟨0, _⟩ => ⟨S1280x18432, .f32⟩
  | .local _ .vmem, ⟨1, _⟩ => ⟨S1280x1, .f32⟩
  | .local _ .vmem, ⟨2, _⟩ => ⟨S1280x18432, .fp8e5m2⟩
  | _, _ => ⟨S2x640x18432, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c_6 : Ref sig .tc := ⟨.hbm, 57, rfl⟩
abbrev main_v44 : Ref sig .tc := ⟨.hbm, 58, rfl⟩
abbrev main_c_7 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_call0_v0 : Ref sig .tc := ⟨.hbm, 70, rfl⟩
abbrev main_call0_v1 : Ref sig .tc := ⟨.hbm, 71, rfl⟩
abbrev main_v52 : Ref sig .tc := ⟨.hbm, 72, rfl⟩
abbrev main_c_11 : Ref sig .tc := ⟨.hbm, 73, rfl⟩
abbrev main_call1_v0 : Ref sig .tc := ⟨.hbm, 74, rfl⟩
abbrev main_call1_v1 : Ref sig .tc := ⟨.hbm, 75, rfl⟩
abbrev main_v53 : Ref sig .tc := ⟨.hbm, 76, rfl⟩
abbrev main_c_12 : Ref sig .tc := ⟨.hbm, 77, rfl⟩
abbrev main_v54 : Ref sig .tc := ⟨.hbm, 78, rfl⟩
abbrev main_v55 : Ref sig .tc := ⟨.hbm, 79, rfl⟩
abbrev main_c_13 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_call2_v0 : Ref sig .tc := ⟨.hbm, 88, rfl⟩
abbrev main_call2_v1 : Ref sig .tc := ⟨.hbm, 89, rfl⟩
abbrev main_v61 : Ref sig .tc := ⟨.hbm, 90, rfl⟩
abbrev main_cst_16 : Ref sig .tc := ⟨.hbm, 91, rfl⟩
abbrev main_call3_v0 : Ref sig .tc := ⟨.hbm, 92, rfl⟩
abbrev main_call3_v1 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_cst_19 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_20 : Ref sig .tc := ⟨.hbm, 107, rfl⟩
abbrev main_call4_v0 : Ref sig .tc := ⟨.hbm, 108, rfl⟩
abbrev main_call4_v1 : Ref sig .tc := ⟨.hbm, 109, rfl⟩
abbrev main_v72 : Ref sig .tc := ⟨.hbm, 110, rfl⟩
abbrev main_cst_21 : Ref sig .tc := ⟨.hbm, 111, rfl⟩
abbrev main_call5_v0 : Ref sig .tc := ⟨.hbm, 112, rfl⟩
abbrev main_call5_v1 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1280x18432 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x18432 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Held.lean ====
module

public import proofs.«01_k».proof.Proof.Gen.Kernel.Frame
public import proofs.«01_k».proof.Proof.Gen.Kernel.Skeleton
public import Idealize.ShloMosaic.Lib.Pipeline.FrameBody
public import Idealize.ShloMosaic.Lib.Tactic
public import Idealize.ShloMosaic.Lib.Claim
public import Idealize.ShloMosaic.Lib.WordCmp

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffer `M` held whole, at some contents. -/
abbrev Any (c : Dev nD) {s : Shape} {e : EltTy} (M : Memref sig .tc .vmem s e) : sProp 𝕄 :=
  iprop(∃ f, M.view.loc (c : Thread nD τ) ↦[M.view.set]{fullShare} f)

/-- The buffer `M` held whole, at the contents `f`. -/
abbrev At (c : Dev nD) {s : Shape} {e : EltTy} (M : Memref sig .tc .vmem s e) (f : M.view.ty.Contents (Elt F)) : sProp 𝕄 :=
  iprop(M.view.loc (c : Thread nD τ) ↦[M.view.set]{fullShare} f)

/-- All sixteen buffers of a step: the inputs at fixed contents, the outputs and the scratch at some contents. -/
abbrev Held (c : Dev nD) (arg1 : Memref sig .tc .vmem S32x18432 .bf16) (arg2 : Memref sig .tc .vmem S32x18432 .bf16) (arg3 : Memref sig .tc .vmem S32x18432 .bf16) (arg4 : Memref sig .tc .vmem S1x18432 .f32) (arg5 : Memref sig .tc .vmem S2x640 .f32) (arg6 : Memref sig .tc .vmem S1x18432 .f32) (arg7 : Memref sig .tc .vmem S32x18432 .bf16) (arg8 : Memref sig .tc .vmem S32x18432 .fp8e5m2) (arg9 : Memref sig .tc .vmem S2x640 .f32) (arg10 : Memref sig .tc .vmem S72x32x256 .f32) (arg11 : Memref sig .tc .vmem S72x32x256 .f32) (arg12 : Memref sig .tc .vmem S72x32x256 .f32) (arg13 : Memref sig .tc .vmem S72x8x256 .f32) (arg14 : Memref sig .tc .vmem S32x128 .f32) (arg15 : Memref sig .tc .vmem S32x128 .f32) (arg16 : Memref sig .tc .vmem S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F)) : sProp 𝕄 :=
  iprop(At c arg1 f1 ∗ At c arg2 f2 ∗ At c arg3 f3 ∗ At c arg4 f4 ∗ At c arg5 f5 ∗ Any (F := F) c arg6 ∗ Any (F := F) c arg7 ∗ Any (F := F) c arg8 ∗ Any (F := F) c arg9 ∗ Any (F := F) c arg10 ∗ Any (F := F) c arg11 ∗ Any (F := F) c arg12 ∗ Any (F := F) c arg13 ∗ Any (F := F) c arg14 ∗ Any (F := F) c arg15 ∗ Any (F := F) c arg16)

end Cert.Kernel.Weak

end
-- ==== Proof.Kernel.Trips.lean ====
module

public import proofs.«01_k».proof.Proof.Kernel.Held

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One trip of loop 1 keeps every buffer held, the inputs at their contents. -/
theorem trip1 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond2 i = 1#1) (v30 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t1_loop.trips) (acc : FVec F S32x128 .f32) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 k acc)
          (fun _ => Held c arg1 arg2 arg3 arg4 arg5 arg6 arg7 arg8 arg9 arg10 arg11 arg12 arg13 arg14 arg15 arg16 f1 f2 f3 f4 f5) := by
  skip
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t1_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- One trip of loop 2 keeps every buffer held, the inputs at their contents. -/
theorem trip2 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond3 i = 1#1) (v30 v32 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t2_loop.trips) (acc : FVec F S32x128 .f32 × FVec F S32x128 .f32) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 k acc)
          (fun _ => Held c arg1 arg2 arg3 arg4 arg5 arg6 arg7 arg8 arg9 arg10 arg11 arg12 arg13 arg14 arg15 arg16 f1 f2 f3 f4 f5) := by
  obtain ⟨a0, a1⟩ := acc
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t2_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- One trip of loop 3 keeps every buffer held, the inputs at their contents. -/
theorem trip3 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond4 i = 1#1) (v30 v32 v34 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t3_loop.trips) (acc : FVec F S32x128 .f32 × FVec F S32x128 .f32) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 v34 k acc)
          (fun _ => Held c arg1 arg2 arg3 arg4 arg5 arg6 arg7 arg8 arg9 arg10 arg11 arg12 arg13 arg14 arg15 arg16 f1 f2 f3 f4 f5) := by
  obtain ⟨a0, a1⟩ := acc
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t3_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- One trip of loop 4 keeps every buffer held, the inputs at their contents. -/
theorem trip4 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond5 i = 1#1) (v30 v32 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t4_loop.trips) (acc : FVec F S32x128 .f32) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 k acc)
          (fun _ => Held c arg1 arg2 arg3 arg4 arg5 arg6 arg7 arg8 arg9 arg10 arg11 arg12 arg13 arg14 arg15 arg16 f1 f2 f3 f4 f5) := by
  skip
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t4_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- One trip of loop 5 keeps every buffer held, the inputs at their contents. -/
theorem trip5 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond6 i = 1#1) (v30 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t5_loop.trips) (acc : Unit) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 k acc)
          (fun _ => Held c arg1 arg2 arg3 arg4 arg5 arg6 arg7 arg8 arg9 arg10 arg11 arg12 arg13 arg14 arg15 arg16 f1 f2 f3 f4 f5) := by
  skip
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t5_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Kernel.Weak

end
-- ==== Proof.Kernel.RunA.lean ====
module

public import proofs.«01_k».proof.Proof.Kernel.Trips

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The step in case A: it keeps every buffer held, the inputs at their contents. -/
theorem runA (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h1 : k0_cond1 i = 1#1) (h2 : k0_cond2 i = 1#1) (h7 : Scalar.cmpi .ne (Scalar.extui (Scalar.cmpi .slt (Scalar.addi (BitVec.ofNat 32 (i 0).val) 1#32) 40#32)) 0#32 = 1#1) (h3 : ¬(k0_cond3 i = 1#1)) (h4 : ¬(k0_cond4 i = 1#1)) (h5 : ¬(k0_cond5 i = 1#1)) (h6 : ¬(k0_cond6 i = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h1 | sl_exact h2 | sl_exact h7 | sl_exact h3 | sl_exact h4 | sl_exact h5 | sl_exact h6 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h1 | sl_exact h2 | sl_exact h7 | sl_exact h3 | sl_exact h4 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Kernel.Weak

end
-- ==== Proof.Kernel.RunB.lean ====
module

public import proofs.«01_k».proof.Proof.Kernel.Trips

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The step in case B: it keeps every buffer held, the inputs at their contents. -/
theorem runB (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h3 : k0_cond3 i = 1#1) (h7 : Scalar.cmpi .ne (Scalar.extui (Scalar.cmpi .slt (Scalar.addi (BitVec.ofNat 32 (i 0).val) 1#32) 40#32)) 0#32 = 1#1) (h1 : ¬(k0_cond1 i = 1#1)) (h2 : ¬(k0_cond2 i = 1#1)) (h4 : ¬(k0_cond4 i = 1#1)) (h5 : ¬(k0_cond5 i = 1#1)) (h6 : ¬(k0_cond6 i = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h3 | sl_exact h7 | sl_exact h1 | sl_exact h2 | sl_exact h4 | sl_exact h5 | sl_exact h6 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h3 | sl_exact h7 | sl_exact h1 | sl_exact h2 | sl_exact h4 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Kernel.Weak

end
-- ==== Proof.Kernel.RunC.lean ====
module

public import proofs.«01_k».proof.Proof.Kernel.Trips

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The step in case C: it keeps every buffer held, the inputs at their contents. -/
theorem runC (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h4 : k0_cond4 i = 1#1) (h7 : Scalar.cmpi .ne (Scalar.extui (Scalar.cmpi .slt (Scalar.addi (BitVec.ofNat 32 (i 0).val) 1#32) 40#32)) 0#32 = 1#1) (h1 : ¬(k0_cond1 i = 1#1)) (h2 : ¬(k0_cond2 i = 1#1)) (h3 : ¬(k0_cond3 i = 1#1)) (h5 : ¬(k0_cond5 i = 1#1)) (h6 : ¬(k0_cond6 i = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h4 | sl_exact h7 | sl_exact h1 | sl_exact h2 | sl_exact h3 | sl_exact h5 | sl_exact h6 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h4 | sl_exact h7 | sl_exact h1 | sl_exact h2 | sl_exact h3 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Kernel.Weak

end
-- ==== Proof.Kernel.RunD.lean ====
module

public import proofs.«01_k».proof.Proof.Kernel.Trips

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The step in case D: it keeps every buffer held, the inputs at their contents. -/
theorem runD (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h4 : k0_cond4 i = 1#1) (h1 : ¬(k0_cond1 i = 1#1)) (h2 : ¬(k0_cond2 i = 1#1)) (h3 : ¬(k0_cond3 i = 1#1)) (h5 : ¬(k0_cond5 i = 1#1)) (h6 : ¬(k0_cond6 i = 1#1)) (h7 : ¬(Scalar.cmpi .ne (Scalar.extui (Scalar.cmpi .slt (Scalar.addi (BitVec.ofNat 32 (i 0).val) 1#32) 40#32)) 0#32 = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h4 | sl_exact h1 | sl_exact h2 | sl_exact h3 | sl_exact h5 | sl_exact h6 | sl_exact h7 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h4 | sl_exact h1 | sl_exact h2 | sl_exact h3 | sl_exact h5 | sl_exact h6 | sl_exact h7 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Kernel.Weak

end
-- ==== Proof.Kernel.RunE.lean ====
module

public import proofs.«01_k».proof.Proof.Kernel.Trips

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The step in case E: it keeps every buffer held, the inputs at their contents. -/
theorem runE (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h5 : k0_cond5 i = 1#1) (h8 : k0_cond8 i = 1#1) (h1 : ¬(k0_cond1 i = 1#1)) (h2 : ¬(k0_cond2 i = 1#1)) (h3 : ¬(k0_cond3 i = 1#1)) (h4 : ¬(k0_cond4 i = 1#1)) (h6 : ¬(k0_cond6 i = 1#1)) (h7 : ¬(Scalar.cmpi .ne (Scalar.extui (Scalar.cmpi .slt (Scalar.addi (BitVec.ofNat 32 (i 0).val) 1#32) 40#32)) 0#32 = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h5 | sl_exact h8 | sl_exact h1 | sl_exact h2 | sl_exact h3 | sl_exact h4 | sl_exact h6 | sl_exact h7)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h5 | sl_exact h8 | sl_exact h1 | sl_exact h2 | sl_exact h3 | sl_exact h4 | sl_exact h6 | sl_exact h7)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Kernel.Weak

end
-- ==== Proof.Kernel.RunG.lean ====
module

public import proofs.«01_k».proof.Proof.Kernel.Trips

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The step in case G: it keeps every buffer held, the inputs at their contents. -/
theorem runG (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h6 : k0_cond6 i = 1#1) (h1 : ¬(k0_cond1 i = 1#1)) (h2 : ¬(k0_cond2 i = 1#1)) (h3 : ¬(k0_cond3 i = 1#1)) (h4 : ¬(k0_cond4 i = 1#1)) (h5 : ¬(k0_cond5 i = 1#1)) (h7 : ¬(Scalar.cmpi .ne (Scalar.extui (Scalar.cmpi .slt (Scalar.addi (BitVec.ofNat 32 (i 0).val) 1#32) 40#32)) 0#32 = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h6 | sl_exact h1 | sl_exact h2 | sl_exact h3 | sl_exact h4 | sl_exact h5 | sl_exact h7 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h6 | sl_exact h1 | sl_exact h2 | sl_exact h3 | sl_exact h4 | sl_exact h5 | sl_exact h7 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Kernel.Weak

end
-- ==== Proof.Kernel.Frame.lean ====
module

public import proofs.«01_k».proof.Proof.Kernel.RunA
public import proofs.«01_k».proof.Proof.Kernel.RunB
public import proofs.«01_k».proof.Proof.Kernel.RunC
public import proofs.«01_k».proof.Proof.Kernel.RunD
public import proofs.«01_k».proof.Proof.Kernel.RunE
public import proofs.«01_k».proof.Proof.Kernel.RunG

@[expose] public section

set_option maxRecDepth 16384

noncomputable section

namespace Cert.Kernel.Weak

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Branch 1 of the step, by the point. -/
theorem hcond1 : ∀ t : Fin cfg0.N, k0_cond1 (grid0.coords t) = 1#1 ↔ t.val = 0 :=
  (by decide +kernel : ∀ t : Fin grid0.N, k0_cond1 (grid0.coords t) = 1#1 ↔ t.val = 0)

/-- Branch 2 of the step, by the point. -/
theorem hcond2 : ∀ t : Fin cfg0.N, k0_cond2 (grid0.coords t) = 1#1 ↔ t.val = 0 :=
  (by decide +kernel : ∀ t : Fin grid0.N, k0_cond2 (grid0.coords t) = 1#1 ↔ t.val = 0)

/-- Branch 3 of the step, by the point. -/
theorem hcond3 : ∀ t : Fin cfg0.N, k0_cond3 (grid0.coords t) = 1#1 ↔ t.val = 1 :=
  (by decide +kernel : ∀ t : Fin grid0.N, k0_cond3 (grid0.coords t) = 1#1 ↔ t.val = 1)

/-- Branch 4 of the step, by the point. -/
theorem hcond4 : ∀ t : Fin cfg0.N, k0_cond4 (grid0.coords t) = 1#1 ↔ 2 ≤ t.val ∧ t.val < 40 :=
  (by decide +kernel : ∀ t : Fin grid0.N, k0_cond4 (grid0.coords t) = 1#1 ↔ 2 ≤ t.val ∧ t.val < 40)

/-- Branch 5 of the step, by the point. -/
theorem hcond5 : ∀ t : Fin cfg0.N, k0_cond5 (grid0.coords t) = 1#1 ↔ t.val = 40 :=
  (by decide +kernel : ∀ t : Fin grid0.N, k0_cond5 (grid0.coords t) = 1#1 ↔ t.val = 40)

/-- Branch 6 of the step, by the point. -/
theorem hcond6 : ∀ t : Fin cfg0.N, k0_cond6 (grid0.coords t) = 1#1 ↔ t.val = 41 :=
  (by decide +kernel : ∀ t : Fin grid0.N, k0_cond6 (grid0.coords t) = 1#1 ↔ t.val = 41)

/-- Branch 7 of the step, by the point. -/
theorem hcond7 : ∀ t : Fin cfg0.N, Scalar.cmpi .ne (Scalar.extui (Scalar.cmpi .slt (Scalar.addi (BitVec.ofNat 32 (grid0.coords t 0).val) 1#32) 40#32)) 0#32 = 1#1 ↔ t.val < 39 :=
  (by decide +kernel : ∀ t : Fin grid0.N, Scalar.cmpi .ne (Scalar.extui (Scalar.cmpi .slt (Scalar.addi (BitVec.ofNat 32 (grid0.coords t 0).val) 1#32) 40#32)) 0#32 = 1#1 ↔ t.val < 39)

/-- Branch 8 of the step, by the point. -/
theorem hcond8 : ∀ t : Fin cfg0.N, k0_cond8 (grid0.coords t) = 1#1 ↔ t.val = 40 :=
  (by decide +kernel : ∀ t : Fin grid0.N, k0_cond8 (grid0.coords t) = 1#1 ↔ t.val = 40)

/-- Window 0's buffer at point `t`. -/
abbrev ms0 (t : Fin cfg0.N) : Memref sig .tc .vmem S32x18432 .bf16 := win0_0.stage (cfg0.slots t 0)
abbrev hs0 (t : Fin cfg0.N) : (ms0 t).IsWhole := hstage0_0 ((cfg0.slots t 0).cast nbuf0_0)
/-- Window 1's buffer at point `t`. -/
abbrev ms1 (t : Fin cfg0.N) : Memref sig .tc .vmem S32x18432 .bf16 := win0_1.stage (cfg0.slots t 1)
abbrev hs1 (t : Fin cfg0.N) : (ms1 t).IsWhole := hstage0_1 ((cfg0.slots t 1).cast nbuf0_1)
/-- Window 2's buffer at point `t`. -/
abbrev ms2 (t : Fin cfg0.N) : Memref sig .tc .vmem S32x18432 .bf16 := win0_2.stage (cfg0.slots t 2)
abbrev hs2 (t : Fin cfg0.N) : (ms2 t).IsWhole := hstage0_2 ((cfg0.slots t 2).cast nbuf0_2)
/-- Window 3's buffer at point `t`. -/
abbrev ms3 (t : Fin cfg0.N) : Memref sig .tc .vmem S1x18432 .f32 := win0_3.stage (cfg0.slots t 3)
abbrev hs3 (t : Fin cfg0.N) : (ms3 t).IsWhole := hstage0_3 ((cfg0.slots t 3).cast nbuf0_3)
/-- Window 4's buffer at point `t`. -/
abbrev ms4 (t : Fin cfg0.N) : Memref sig .tc .vmem S2x640 .f32 := win0_4.stage (cfg0.slots t 4)
abbrev hs4 (t : Fin cfg0.N) : (ms4 t).IsWhole := hstage0_4 ((cfg0.slots t 4).cast nbuf0_4)
/-- Window 5's buffer at point `t`. -/
abbrev ms5 (t : Fin cfg0.N) : Memref sig .tc .vmem S1x18432 .f32 := win0_5.stage (cfg0.slots t 5)
abbrev hs5 (t : Fin cfg0.N) : (ms5 t).IsWhole := hstage0_5 ((cfg0.slots t 5).cast nbuf0_5)
/-- Window 6's buffer at point `t`. -/
abbrev ms6 (t : Fin cfg0.N) : Memref sig .tc .vmem S32x18432 .bf16 := win0_6.stage (cfg0.slots t 6)
abbrev hs6 (t : Fin cfg0.N) : (ms6 t).IsWhole := hstage0_6 ((cfg0.slots t 6).cast nbuf0_6)
/-- Window 7's buffer at point `t`. -/
abbrev ms7 (t : Fin cfg0.N) : Memref sig .tc .vmem S32x18432 .fp8e5m2 := win0_7.stage (cfg0.slots t 7)
abbrev hs7 (t : Fin cfg0.N) : (ms7 t).IsWhole := hstage0_7 ((cfg0.slots t 7).cast nbuf0_7)
/-- Window 8's buffer at point `t`. -/
abbrev ms8 (t : Fin cfg0.N) : Memref sig .tc .vmem S2x640 .f32 := win0_8.stage (cfg0.slots t 8)
abbrev hs8 (t : Fin cfg0.N) : (ms8 t).IsWhole := hstage0_8 ((cfg0.slots t 8).cast nbuf0_8)
/-- Scratch buffer 0. -/
abbrev sc0 : Memref sig .tc .vmem S72x32x256 .f32 := Memref.whole cc0_scratch0
/-- Scratch buffer 1. -/
abbrev sc1 : Memref sig .tc .vmem S72x32x256 .f32 := Memref.whole cc0_scratch1
/-- Scratch buffer 2. -/
abbrev sc2 : Memref sig .tc .vmem S72x32x256 .f32 := Memref.whole cc0_scratch2
/-- Scratch buffer 3. -/
abbrev sc3 : Memref sig .tc .vmem S72x8x256 .f32 := Memref.whole cc0_scratch3
/-- Scratch buffer 4. -/
abbrev sc4 : Memref sig .tc .vmem S32x128 .f32 := Memref.whole cc0_scratch4
/-- Scratch buffer 5. -/
abbrev sc5 : Memref sig .tc .vmem S32x128 .f32 := Memref.whole cc0_scratch5
/-- Scratch buffer 6. -/
abbrev sc6 : Memref sig .tc .vmem S32x128 .f32 := Memref.whole cc0_scratch6

/-- Between steps the scratch buffers are held at some contents, and the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- The outputs, of whose contents nothing is stated. -/
def forgets : Fin 9 → Bool := fun w => decide (5 ≤ w.val)

/-- What each step is given and leaves: the inputs' blocks; nothing of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d))

set_option maxHeartbeats 4000000 in
/-- The step at any point runs on its buffers. -/
theorem run (c : Dev nD) (t : Fin cfg0.N) (f1 : (ms0 t).view.ty.Contents (Elt F)) (f2 : (ms1 t).view.ty.Contents (Elt F)) (f3 : (ms2 t).view.ty.Contents (Elt F)) (f4 : (ms3 t).view.ty.Contents (Elt F)) (f5 : (ms4 t).view.ty.Contents (Elt F)) (K : PUnit → sProp 𝕄) :
    iprop(Held c (ms0 t) (ms1 t) (ms2 t) (ms3 t) (ms4 t) (ms5 t) (ms6 t) (ms7 t) (ms8 t) sc0 sc1 sc2 sc3 sc4 sc5 sc6 f1 f2 f3 f4 f5 ∗ (Held c (ms0 t) (ms1 t) (ms2 t) (ms3 t) (ms4 t) (ms5 t) (ms6 t) (ms7 t) (ms8 t) sc0 sc1 sc2 sc3 sc4 sc5 sc6 f1 f2 f3 f4 f5 -∗ K ⟨⟩))
      ⊢ wp frame (wpE (defs₀ (F := F)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  have hN : t.val < 42 := lt_of_lt_of_eq t.isLt (show cfg0.N = 42 from N_0)
  rcases (show t.val = 0 ∨ t.val = 1 ∨ 2 ≤ t.val ∧ t.val < 39 ∨ t.val = 39 ∨ t.val = 40 ∨ t.val = 41 by omega) with h | h | h | h | h | h
  · exact runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond1 t).mpr (by omega)) ((hcond2 t).mpr (by omega)) ((hcond7 t).mpr (by omega)) (fun hh => by have := (hcond3 t).mp hh; omega) (fun hh => by have := (hcond4 t).mp hh; omega) (fun hh => by have := (hcond5 t).mp hh; omega) (fun hh => by have := (hcond6 t).mp hh; omega) (fun hh => by have := (hcond8 t).mp hh; omega) f1 f2 f3 f4 f5 K
  · exact runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond3 t).mpr (by omega)) ((hcond7 t).mpr (by omega)) (fun hh => by have := (hcond1 t).mp hh; omega) (fun hh => by have := (hcond2 t).mp hh; omega) (fun hh => by have := (hcond4 t).mp hh; omega) (fun hh => by have := (hcond5 t).mp hh; omega) (fun hh => by have := (hcond6 t).mp hh; omega) (fun hh => by have := (hcond8 t).mp hh; omega) f1 f2 f3 f4 f5 K
  · exact runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond4 t).mpr (by omega)) ((hcond7 t).mpr (by omega)) (fun hh => by have := (hcond1 t).mp hh; omega) (fun hh => by have := (hcond2 t).mp hh; omega) (fun hh => by have := (hcond3 t).mp hh; omega) (fun hh => by have := (hcond5 t).mp hh; omega) (fun hh => by have := (hcond6 t).mp hh; omega) (fun hh => by have := (hcond8 t).mp hh; omega) f1 f2 f3 f4 f5 K
  · exact runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond4 t).mpr (by omega)) (fun hh => by have := (hcond1 t).mp hh; omega) (fun hh => by have := (hcond2 t).mp hh; omega) (fun hh => by have := (hcond3 t).mp hh; omega) (fun hh => by have := (hcond5 t).mp hh; omega) (fun hh => by have := (hcond6 t).mp hh; omega) (fun hh => by have := (hcond7 t).mp hh; omega) (fun hh => by have := (hcond8 t).mp hh; omega) f1 f2 f3 f4 f5 K
  · exact runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond5 t).mpr (by omega)) ((hcond8 t).mpr (by omega)) (fun hh => by have := (hcond1 t).mp hh; omega) (fun hh => by have := (hcond2 t).mp hh; omega) (fun hh => by have := (hcond3 t).mp hh; omega) (fun hh => by have := (hcond4 t).mp hh; omega) (fun hh => by have := (hcond6 t).mp hh; omega) (fun hh => by have := (hcond7 t).mp hh; omega) f1 f2 f3 f4 f5 K
  · exact runG c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond6 t).mpr (by omega)) (fun hh => by have := (hcond1 t).mp hh; omega) (fun hh => by have := (hcond2 t).mp hh; omega) (fun hh => by have := (hcond3 t).mp hh; omega) (fun hh => by have := (hcond4 t).mp hh; omega) (fun hh => by have := (hcond5 t).mp hh; omega) (fun hh => by have := (hcond7 t).mp hh; omega) (fun hh => by have := (hcond8 t).mp hh; omega) f1 f2 f3 f4 f5 K

set_option maxHeartbeats 4000000 in
/-- The body at any point, from the step's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  unfold owns
  iintro ⟨⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩, ⟨%d7, %f7, -, H7⟩, ⟨%d8, %f8, -, H8⟩⟩
  iapply (run c t f0 f1 f2 f3 f4 _)
  isplitl [H0 H1 H2 H3 H4 H5 H6 H7 H8 HS0 HS1 HS2 HS3 HS4 HS5 HS6]
  ·
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  iintro ⟨H0, H1, H2, H3, H4, ⟨%g5, H5⟩, ⟨%g6, H6⟩, ⟨%g7, H7⟩, ⟨%g8, H8⟩, ⟨%gs0, HS0⟩, ⟨%gs1, HS1⟩, ⟨%gs2, HS2⟩, ⟨%gs3, HS3⟩, ⟨%gs4, HS4⟩, ⟨%gs5, HS5⟩, ⟨%gs6, HS6⟩⟩
  isplitl [HS0 HS1 HS2 HS3 HS4 HS5 HS6 Hg]
  · isplitl [HS0 HS1 HS2 HS3 HS4 HS5 HS6]
    ·
      isplitl [HS0]; · iexists _, _; isplitr; swap; (iexact HS0); ipureintro; rfl
      isplitl [HS1]; · iexists _, _; isplitr; swap; (iexact HS1); ipureintro; rfl
      isplitl [HS2]; · iexists _, _; isplitr; swap; (iexact HS2); ipureintro; rfl
      isplitl [HS3]; · iexists _, _; isplitr; swap; (iexact HS3); ipureintro; rfl
      isplitl [HS4]; · iexists _, _; isplitr; swap; (iexact HS4); ipureintro; rfl
      isplitl [HS5]; · iexists _, _; isplitr; swap; (iexact HS5); ipureintro; rfl
      iexists _, _; isplitr; swap; (iexact HS6); ipureintro; rfl
    iexact Hg
  isplitl [Ho]; · iexact Ho
  isplitl [H0]; · iexists _; isplitr; swap; (iexact H0); ipureintro; exact hf0
  isplitl [H1]; · iexists _; isplitr; swap; (iexact H1); ipureintro; exact hf1
  isplitl [H2]; · iexists _; isplitr; swap; (iexact H2); ipureintro; exact hf2
  isplitl [H3]; · iexists _; isplitr; swap; (iexact H3); ipureintro; exact hf3
  isplitl [H4]; · iexists _; isplitr; swap; (iexact H4); ipureintro; exact hf4
  isplitl [H5]; · iexists _, _; isplitr; swap; (iexact H5); ipureintro; rfl
  isplitl [H6]; · iexists _, _; isplitr; swap; (iexact H6); ipureintro; rfl
  isplitl [H7]; · iexists _, _; isplitr; swap; (iexact H7); ipureintro; rfl
  iexists _, _; isplitr; swap; (iexact H8); ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

set_option backward.isDefEq.respectTransparency.types false in
/-- The launch terminates, the input arrays unchanged, and every semaphore counter is zero at the end. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((A_eq m c 4).trans (V_main_arg4 m c))⟩) (run_main_quiescent m ρ)

/-- The program terminates from any memory, its argument arrays unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Weak

end
-- ==== Proof.KernelIdeal.Held.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.Claim
public import Idealize.ShloMosaic.Lib.WordCmp

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffer `M` held whole, at some contents. -/
abbrev Any (c : Dev nD) {s : Shape} {e : EltTy} (M : Memref sig .tc .vmem s e) : sProp 𝕄 :=
  iprop(∃ f, M.view.loc (c : Thread nD τ) ↦[M.view.set]{fullShare} f)

/-- The buffer `M` held whole, at the contents `f`. -/
abbrev At (c : Dev nD) {s : Shape} {e : EltTy} (M : Memref sig .tc .vmem s e) (f : M.view.ty.Contents (Elt F)) : sProp 𝕄 :=
  iprop(M.view.loc (c : Thread nD τ) ↦[M.view.set]{fullShare} f)

/-- All sixteen buffers of a step: the inputs at fixed contents, the outputs and the scratch at some contents. -/
abbrev Held (c : Dev nD) (arg1 : Memref sig .tc .vmem S32x18432 .bf16) (arg2 : Memref sig .tc .vmem S32x18432 .bf16) (arg3 : Memref sig .tc .vmem S32x18432 .bf16) (arg4 : Memref sig .tc .vmem S1x18432 .f32) (arg5 : Memref sig .tc .vmem S2x640 .f32) (arg6 : Memref sig .tc .vmem S1x18432 .f32) (arg7 : Memref sig .tc .vmem S32x18432 .bf16) (arg8 : Memref sig .tc .vmem S32x18432 .fp8e5m2) (arg9 : Memref sig .tc .vmem S2x640 .f32) (arg10 : Memref sig .tc .vmem S72x32x256 .f32) (arg11 : Memref sig .tc .vmem S72x32x256 .f32) (arg12 : Memref sig .tc .vmem S72x32x256 .f32) (arg13 : Memref sig .tc .vmem S72x8x256 .f32) (arg14 : Memref sig .tc .vmem S32x128 .f32) (arg15 : Memref sig .tc .vmem S32x128 .f32) (arg16 : Memref sig .tc .vmem S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F)) : sProp 𝕄 :=
  iprop(At c arg1 f1 ∗ At c arg2 f2 ∗ At c arg3 f3 ∗ At c arg4 f4 ∗ At c arg5 f5 ∗ Any (F := F) c arg6 ∗ Any (F := F) c arg7 ∗ Any (F := F) c arg8 ∗ Any (F := F) c arg9 ∗ Any (F := F) c arg10 ∗ Any (F := F) c arg11 ∗ Any (F := F) c arg12 ∗ Any (F := F) c arg13 ∗ Any (F := F) c arg14 ∗ Any (F := F) c arg15 ∗ Any (F := F) c arg16)

end Cert.KernelIdeal.Weak

end
-- ==== Proof.KernelIdeal.Trips.lean ====
module

public import proofs.«01_k».proof.Proof.KernelIdeal.Held

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- One trip of loop 1 keeps every buffer held, the inputs at their contents. -/
theorem trip1 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond2 i = 1#1) (v30 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t1_loop.trips) (acc : FVec F S32x128 .f32) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 k acc)
          (fun _ => Held c arg1 arg2 arg3 arg4 arg5 arg6 arg7 arg8 arg9 arg10 arg11 arg12 arg13 arg14 arg15 arg16 f1 f2 f3 f4 f5) := by
  skip
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t1_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- One trip of loop 2 keeps every buffer held, the inputs at their contents. -/
theorem trip2 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond3 i = 1#1) (v30 v32 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t2_loop.trips) (acc : FVec F S32x128 .f32 × FVec F S32x128 .f32) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 k acc)
          (fun _ => Held c arg1 arg2 arg3 arg4 arg5 arg6 arg7 arg8 arg9 arg10 arg11 arg12 arg13 arg14 arg15 arg16 f1 f2 f3 f4 f5) := by
  obtain ⟨a0, a1⟩ := acc
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t2_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- One trip of loop 3 keeps every buffer held, the inputs at their contents. -/
theorem trip3 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond4 i = 1#1) (v30 v32 v34 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t3_loop.trips) (acc : FVec F S32x128 .f32 × FVec F S32x128 .f32) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 v34 k acc)
          (fun _ => Held c arg1 arg2 arg3 arg4 arg5 arg6 arg7 arg8 arg9 arg10 arg11 arg12 arg13 arg14 arg15 arg16 f1 f2 f3 f4 f5) := by
  obtain ⟨a0, a1⟩ := acc
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t3_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- One trip of loop 4 keeps every buffer held, the inputs at their contents. -/
theorem trip4 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond5 i = 1#1) (v30 v32 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t4_loop.trips) (acc : FVec F S32x128 .f32) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t4_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 k acc)
          (fun _ => Held c arg1 arg2 arg3 arg4 arg5 arg6 arg7 arg8 arg9 arg10 arg11 arg12 arg13 arg14 arg15 arg16 f1 f2 f3 f4 f5) := by
  skip
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t4_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

set_option maxHeartbeats 4000000 in
/-- One trip of loop 5 keeps every buffer held, the inputs at their contents. -/
theorem trip5 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond6 i = 1#1) (v30 : Vec F S32x128 .f32) (f1 : arg1.view.ty.Contents (Elt F)) (f2 : arg2.view.ty.Contents (Elt F)) (f3 : arg3.view.ty.Contents (Elt F)) (f4 : arg4.view.ty.Contents (Elt F)) (f5 : arg5.view.ty.Contents (Elt F))
    (k : Fin k0_t5_loop.trips) (acc : Unit) :
    Held c arg1 arg2 arg3 arg4 arg5 arg6 arg7 arg8 arg9 arg10 arg11 arg12 arg13 arg14 arg15 arg16 f1 f2 f3 f4 f5
      ⊢ wp frame (wpE (defs₀ (F := F)) Variants.none c none) Set.univ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 k acc)
          (fun _ => Held c arg1 arg2 arg3 arg4 arg5 arg6 arg7 arg8 arg9 arg10 arg11 arg12 arg13 arg14 arg15 arg16 f1 f2 f3 f4 f5) := by
  skip
  iintro ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  unfold k0_t5_body
  sl_exec
  sl_step
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Weak

end
-- ==== Proof.KernelIdeal.RunA.lean ====
module

public import proofs.«01_k».proof.Proof.KernelIdeal.Trips

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The step in case A: it keeps every buffer held, the inputs at their contents. -/
theorem runA (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h1 : k0_cond1 i = 1#1) (h2 : k0_cond2 i = 1#1) (h7 : Scalar.cmpi .ne (Scalar.extui (Scalar.cmpi .slt (Scalar.addi (BitVec.ofNat 32 (i 0).val) 1#32) 40#32)) 0#32 = 1#1) (h3 : ¬(k0_cond3 i = 1#1)) (h4 : ¬(k0_cond4 i = 1#1)) (h5 : ¬(k0_cond5 i = 1#1)) (h6 : ¬(k0_cond6 i = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h1 | sl_exact h2 | sl_exact h7 | sl_exact h3 | sl_exact h4 | sl_exact h5 | sl_exact h6 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h1 | sl_exact h2 | sl_exact h7 | sl_exact h3 | sl_exact h4 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Weak

end
-- ==== Proof.KernelIdeal.RunB.lean ====
module

public import proofs.«01_k».proof.Proof.KernelIdeal.Trips

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The step in case B: it keeps every buffer held, the inputs at their contents. -/
theorem runB (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h3 : k0_cond3 i = 1#1) (h7 : Scalar.cmpi .ne (Scalar.extui (Scalar.cmpi .slt (Scalar.addi (BitVec.ofNat 32 (i 0).val) 1#32) 40#32)) 0#32 = 1#1) (h1 : ¬(k0_cond1 i = 1#1)) (h2 : ¬(k0_cond2 i = 1#1)) (h4 : ¬(k0_cond4 i = 1#1)) (h5 : ¬(k0_cond5 i = 1#1)) (h6 : ¬(k0_cond6 i = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h3 | sl_exact h7 | sl_exact h1 | sl_exact h2 | sl_exact h4 | sl_exact h5 | sl_exact h6 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h3 | sl_exact h7 | sl_exact h1 | sl_exact h2 | sl_exact h4 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Weak

end
-- ==== Proof.KernelIdeal.RunC.lean ====
module

public import proofs.«01_k».proof.Proof.KernelIdeal.Trips

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The step in case C: it keeps every buffer held, the inputs at their contents. -/
theorem runC (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h4 : k0_cond4 i = 1#1) (h7 : Scalar.cmpi .ne (Scalar.extui (Scalar.cmpi .slt (Scalar.addi (BitVec.ofNat 32 (i 0).val) 1#32) 40#32)) 0#32 = 1#1) (h1 : ¬(k0_cond1 i = 1#1)) (h2 : ¬(k0_cond2 i = 1#1)) (h3 : ¬(k0_cond3 i = 1#1)) (h5 : ¬(k0_cond5 i = 1#1)) (h6 : ¬(k0_cond6 i = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h4 | sl_exact h7 | sl_exact h1 | sl_exact h2 | sl_exact h3 | sl_exact h5 | sl_exact h6 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h4 | sl_exact h7 | sl_exact h1 | sl_exact h2 | sl_exact h3 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Weak

end
-- ==== Proof.KernelIdeal.RunD.lean ====
module

public import proofs.«01_k».proof.Proof.KernelIdeal.Trips

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The step in case D: it keeps every buffer held, the inputs at their contents. -/
theorem runD (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h4 : k0_cond4 i = 1#1) (h1 : ¬(k0_cond1 i = 1#1)) (h2 : ¬(k0_cond2 i = 1#1)) (h3 : ¬(k0_cond3 i = 1#1)) (h5 : ¬(k0_cond5 i = 1#1)) (h6 : ¬(k0_cond6 i = 1#1)) (h7 : ¬(Scalar.cmpi .ne (Scalar.extui (Scalar.cmpi .slt (Scalar.addi (BitVec.ofNat 32 (i 0).val) 1#32) 40#32)) 0#32 = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h4 | sl_exact h1 | sl_exact h2 | sl_exact h3 | sl_exact h5 | sl_exact h6 | sl_exact h7 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h4 | sl_exact h1 | sl_exact h2 | sl_exact h3 | sl_exact h5 | sl_exact h6 | sl_exact h7 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Weak

end
-- ==== Proof.KernelIdeal.RunE.lean ====
module

public import proofs.«01_k».proof.Proof.KernelIdeal.Trips

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The step in case E: it keeps every buffer held, the inputs at their contents. -/
theorem runE (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h5 : k0_cond5 i = 1#1) (h8 : k0_cond8 i = 1#1) (h1 : ¬(k0_cond1 i = 1#1)) (h2 : ¬(k0_cond2 i = 1#1)) (h3 : ¬(k0_cond3 i = 1#1)) (h4 : ¬(k0_cond4 i = 1#1)) (h6 : ¬(k0_cond6 i = 1#1)) (h7 : ¬(Scalar.cmpi .ne (Scalar.extui (Scalar.cmpi .slt (Scalar.addi (BitVec.ofNat 32 (i 0).val) 1#32) 40#32)) 0#32 = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h5 | sl_exact h8 | sl_exact h1 | sl_exact h2 | sl_exact h3 | sl_exact h4 | sl_exact h6 | sl_exact h7)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h5 | sl_exact h8 | sl_exact h1 | sl_exact h2 | sl_exact h3 | sl_exact h4 | sl_exact h6 | sl_exact h7)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Weak

end
-- ==== Proof.KernelIdeal.RunG.lean ====
module

public import proofs.«01_k».proof.Proof.KernelIdeal.Trips

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The step in case G: it keeps every buffer held, the inputs at their contents. -/
theorem runG (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h6 : k0_cond6 i = 1#1) (h1 : ¬(k0_cond1 i = 1#1)) (h2 : ¬(k0_cond2 i = 1#1)) (h3 : ¬(k0_cond3 i = 1#1)) (h4 : ¬(k0_cond4 i = 1#1)) (h5 : ¬(k0_cond5 i = 1#1)) (h7 : ¬(Scalar.cmpi .ne (Scalar.extui (Scalar.cmpi .slt (Scalar.addi (BitVec.ofNat 32 (i 0).val) 1#32) 40#32)) 0#32 = 1#1)) (h8 : ¬(k0_cond8 i = 1#1)) (f1 : arg1.view.ty.Contents (Elt F)) (f2 : arg2.view.ty.Contents (Elt F)) (f3 : arg3.view.ty.Contents (Elt F)) (f4 : arg4.view.ty.Contents (Elt F)) (f5 : arg5.view.ty.Contents (Elt F)) (K : PUnit → sProp 𝕄) :
    iprop(Held c arg1 arg2 arg3 arg4 arg5 arg6 arg7 arg8 arg9 arg10 arg11 arg12 arg13 arg14 arg15 arg16 f1 f2 f3 f4 f5 ∗ (Held c arg1 arg2 arg3 arg4 arg5 arg6 arg7 arg8 arg9 arg10 arg11 arg12 arg13 arg14 arg15 arg16 f1 f2 f3 f4 f5 -∗ K ⟨⟩))
      ⊢ wp frame (wpE (defs₀ (F := F)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩, Hk⟩
  sl_exec (disch := first | sl_exact h6 | sl_exact h1 | sl_exact h2 | sl_exact h3 | sl_exact h4 | sl_exact h5 | sl_exact h7 | sl_exact h8)
  sl_for (fun _ _ => Held c arg1 arg2 arg3 arg4 arg5 arg6 arg7 arg8 arg9 arg10 arg11 arg12 arg13 arg14 arg15 arg16 f1 f2 f3 f4 f5) $$ [H1 H2 H3 H4 H5 H6 H7 H8 H9 H10 H11 H12 H13 H14 H15 H16]
  case region => exact fun k acc => trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f1 f2 f3 f4 f5 k acc
  ·
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

  iintro %acc ⟨H1, H2, H3, H4, H5, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩⟩
  sl_exec (disch := first | sl_exact h6 | sl_exact h1 | sl_exact h2 | sl_exact h3 | sl_exact h4 | sl_exact h5 | sl_exact h7 | sl_exact h8)
  sl_step
  iapply Hk
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.KernelIdeal.Weak

end
-- ==== Proof.KernelIdeal.Frame.lean ====
module

public import proofs.«01_k».proof.Proof.KernelIdeal.RunA
public import proofs.«01_k».proof.Proof.KernelIdeal.RunB
public import proofs.«01_k».proof.Proof.KernelIdeal.RunC
public import proofs.«01_k».proof.Proof.KernelIdeal.RunD
public import proofs.«01_k».proof.Proof.KernelIdeal.RunE
public import proofs.«01_k».proof.Proof.KernelIdeal.RunG

@[expose] public section

set_option maxRecDepth 16384

noncomputable section

namespace Cert.KernelIdeal.Weak

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Branch 1 of the step, by the point. -/
theorem hcond1 : ∀ t : Fin cfg0.N, k0_cond1 (grid0.coords t) = 1#1 ↔ t.val = 0 :=
  (by decide +kernel : ∀ t : Fin grid0.N, k0_cond1 (grid0.coords t) = 1#1 ↔ t.val = 0)

/-- Branch 2 of the step, by the point. -/
theorem hcond2 : ∀ t : Fin cfg0.N, k0_cond2 (grid0.coords t) = 1#1 ↔ t.val = 0 :=
  (by decide +kernel : ∀ t : Fin grid0.N, k0_cond2 (grid0.coords t) = 1#1 ↔ t.val = 0)

/-- Branch 3 of the step, by the point. -/
theorem hcond3 : ∀ t : Fin cfg0.N, k0_cond3 (grid0.coords t) = 1#1 ↔ t.val = 1 :=
  (by decide +kernel : ∀ t : Fin grid0.N, k0_cond3 (grid0.coords t) = 1#1 ↔ t.val = 1)

/-- Branch 4 of the step, by the point. -/
theorem hcond4 : ∀ t : Fin cfg0.N, k0_cond4 (grid0.coords t) = 1#1 ↔ 2 ≤ t.val ∧ t.val < 40 :=
  (by decide +kernel : ∀ t : Fin grid0.N, k0_cond4 (grid0.coords t) = 1#1 ↔ 2 ≤ t.val ∧ t.val < 40)

/-- Branch 5 of the step, by the point. -/
theorem hcond5 : ∀ t : Fin cfg0.N, k0_cond5 (grid0.coords t) = 1#1 ↔ t.val = 40 :=
  (by decide +kernel : ∀ t : Fin grid0.N, k0_cond5 (grid0.coords t) = 1#1 ↔ t.val = 40)

/-- Branch 6 of the step, by the point. -/
theorem hcond6 : ∀ t : Fin cfg0.N, k0_cond6 (grid0.coords t) = 1#1 ↔ t.val = 41 :=
  (by decide +kernel : ∀ t : Fin grid0.N, k0_cond6 (grid0.coords t) = 1#1 ↔ t.val = 41)

/-- Branch 7 of the step, by the point. -/
theorem hcond7 : ∀ t : Fin cfg0.N, Scalar.cmpi .ne (Scalar.extui (Scalar.cmpi .slt (Scalar.addi (BitVec.ofNat 32 (grid0.coords t 0).val) 1#32) 40#32)) 0#32 = 1#1 ↔ t.val < 39 :=
  (by decide +kernel : ∀ t : Fin grid0.N, Scalar.cmpi .ne (Scalar.extui (Scalar.cmpi .slt (Scalar.addi (BitVec.ofNat 32 (grid0.coords t 0).val) 1#32) 40#32)) 0#32 = 1#1 ↔ t.val < 39)

/-- Branch 8 of the step, by the point. -/
theorem hcond8 : ∀ t : Fin cfg0.N, k0_cond8 (grid0.coords t) = 1#1 ↔ t.val = 40 :=
  (by decide +kernel : ∀ t : Fin grid0.N, k0_cond8 (grid0.coords t) = 1#1 ↔ t.val = 40)

/-- Window 0's buffer at point `t`. -/
abbrev ms0 (t : Fin cfg0.N) : Memref sig .tc .vmem S32x18432 .bf16 := win0_0.stage (cfg0.slots t 0)
abbrev hs0 (t : Fin cfg0.N) : (ms0 t).IsWhole := hstage0_0 ((cfg0.slots t 0).cast nbuf0_0)
/-- Window 1's buffer at point `t`. -/
abbrev ms1 (t : Fin cfg0.N) : Memref sig .tc .vmem S32x18432 .bf16 := win0_1.stage (cfg0.slots t 1)
abbrev hs1 (t : Fin cfg0.N) : (ms1 t).IsWhole := hstage0_1 ((cfg0.slots t 1).cast nbuf0_1)
/-- Window 2's buffer at point `t`. -/
abbrev ms2 (t : Fin cfg0.N) : Memref sig .tc .vmem S32x18432 .bf16 := win0_2.stage (cfg0.slots t 2)
abbrev hs2 (t : Fin cfg0.N) : (ms2 t).IsWhole := hstage0_2 ((cfg0.slots t 2).cast nbuf0_2)
/-- Window 3's buffer at point `t`. -/
abbrev ms3 (t : Fin cfg0.N) : Memref sig .tc .vmem S1x18432 .f32 := win0_3.stage (cfg0.slots t 3)
abbrev hs3 (t : Fin cfg0.N) : (ms3 t).IsWhole := hstage0_3 ((cfg0.slots t 3).cast nbuf0_3)
/-- Window 4's buffer at point `t`. -/
abbrev ms4 (t : Fin cfg0.N) : Memref sig .tc .vmem S2x640 .f32 := win0_4.stage (cfg0.slots t 4)
abbrev hs4 (t : Fin cfg0.N) : (ms4 t).IsWhole := hstage0_4 ((cfg0.slots t 4).cast nbuf0_4)
/-- Window 5's buffer at point `t`. -/
abbrev ms5 (t : Fin cfg0.N) : Memref sig .tc .vmem S1x18432 .f32 := win0_5.stage (cfg0.slots t 5)
abbrev hs5 (t : Fin cfg0.N) : (ms5 t).IsWhole := hstage0_5 ((cfg0.slots t 5).cast nbuf0_5)
/-- Window 6's buffer at point `t`. -/
abbrev ms6 (t : Fin cfg0.N) : Memref sig .tc .vmem S32x18432 .bf16 := win0_6.stage (cfg0.slots t 6)
abbrev hs6 (t : Fin cfg0.N) : (ms6 t).IsWhole := hstage0_6 ((cfg0.slots t 6).cast nbuf0_6)
/-- Window 7's buffer at point `t`. -/
abbrev ms7 (t : Fin cfg0.N) : Memref sig .tc .vmem S32x18432 .fp8e5m2 := win0_7.stage (cfg0.slots t 7)
abbrev hs7 (t : Fin cfg0.N) : (ms7 t).IsWhole := hstage0_7 ((cfg0.slots t 7).cast nbuf0_7)
/-- Window 8's buffer at point `t`. -/
abbrev ms8 (t : Fin cfg0.N) : Memref sig .tc .vmem S2x640 .f32 := win0_8.stage (cfg0.slots t 8)
abbrev hs8 (t : Fin cfg0.N) : (ms8 t).IsWhole := hstage0_8 ((cfg0.slots t 8).cast nbuf0_8)
/-- Scratch buffer 0. -/
abbrev sc0 : Memref sig .tc .vmem S72x32x256 .f32 := Memref.whole cc0_scratch0
/-- Scratch buffer 1. -/
abbrev sc1 : Memref sig .tc .vmem S72x32x256 .f32 := Memref.whole cc0_scratch1
/-- Scratch buffer 2. -/
abbrev sc2 : Memref sig .tc .vmem S72x32x256 .f32 := Memref.whole cc0_scratch2
/-- Scratch buffer 3. -/
abbrev sc3 : Memref sig .tc .vmem S72x8x256 .f32 := Memref.whole cc0_scratch3
/-- Scratch buffer 4. -/
abbrev sc4 : Memref sig .tc .vmem S32x128 .f32 := Memref.whole cc0_scratch4
/-- Scratch buffer 5. -/
abbrev sc5 : Memref sig .tc .vmem S32x128 .f32 := Memref.whole cc0_scratch5
/-- Scratch buffer 6. -/
abbrev sc6 : Memref sig .tc .vmem S32x128 .f32 := Memref.whole cc0_scratch6

/-- Between steps the scratch buffers are held at some contents, and the generator register at some state. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- The outputs, of whose contents nothing is stated. -/
def forgets : Fin 9 → Bool := fun w => decide (5 ≤ w.val)

/-- What each step is given and leaves: the inputs' blocks; nothing of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (∃ d, owns (c : Thread nD τ) (ms5 t) fullShare d) ∗ (∃ d, owns (c : Thread nD τ) (ms6 t) fullShare d) ∗ (∃ d, owns (c : Thread nD τ) (ms7 t) fullShare d) ∗ (∃ d, owns (c : Thread nD τ) (ms8 t) fullShare d))

set_option maxHeartbeats 4000000 in
/-- The step at any point runs on its buffers. -/
theorem run (c : Dev nD) (t : Fin cfg0.N) (f1 : (ms0 t).view.ty.Contents (Elt F)) (f2 : (ms1 t).view.ty.Contents (Elt F)) (f3 : (ms2 t).view.ty.Contents (Elt F)) (f4 : (ms3 t).view.ty.Contents (Elt F)) (f5 : (ms4 t).view.ty.Contents (Elt F)) (K : PUnit → sProp 𝕄) :
    iprop(Held c (ms0 t) (ms1 t) (ms2 t) (ms3 t) (ms4 t) (ms5 t) (ms6 t) (ms7 t) (ms8 t) sc0 sc1 sc2 sc3 sc4 sc5 sc6 f1 f2 f3 f4 f5 ∗ (Held c (ms0 t) (ms1 t) (ms2 t) (ms3 t) (ms4 t) (ms5 t) (ms6 t) (ms7 t) (ms8 t) sc0 sc1 sc2 sc3 sc4 sc5 sc6 f1 f2 f3 f4 f5 -∗ K ⟨⟩))
      ⊢ wp frame (wpE (defs₀ (F := F)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  have hN : t.val < 42 := lt_of_lt_of_eq t.isLt (show cfg0.N = 42 from N_0)
  rcases (show t.val = 0 ∨ t.val = 1 ∨ 2 ≤ t.val ∧ t.val < 39 ∨ t.val = 39 ∨ t.val = 40 ∨ t.val = 41 by omega) with h | h | h | h | h | h
  · exact runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond1 t).mpr (by omega)) ((hcond2 t).mpr (by omega)) ((hcond7 t).mpr (by omega)) (fun hh => by have := (hcond3 t).mp hh; omega) (fun hh => by have := (hcond4 t).mp hh; omega) (fun hh => by have := (hcond5 t).mp hh; omega) (fun hh => by have := (hcond6 t).mp hh; omega) (fun hh => by have := (hcond8 t).mp hh; omega) f1 f2 f3 f4 f5 K
  · exact runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond3 t).mpr (by omega)) ((hcond7 t).mpr (by omega)) (fun hh => by have := (hcond1 t).mp hh; omega) (fun hh => by have := (hcond2 t).mp hh; omega) (fun hh => by have := (hcond4 t).mp hh; omega) (fun hh => by have := (hcond5 t).mp hh; omega) (fun hh => by have := (hcond6 t).mp hh; omega) (fun hh => by have := (hcond8 t).mp hh; omega) f1 f2 f3 f4 f5 K
  · exact runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond4 t).mpr (by omega)) ((hcond7 t).mpr (by omega)) (fun hh => by have := (hcond1 t).mp hh; omega) (fun hh => by have := (hcond2 t).mp hh; omega) (fun hh => by have := (hcond3 t).mp hh; omega) (fun hh => by have := (hcond5 t).mp hh; omega) (fun hh => by have := (hcond6 t).mp hh; omega) (fun hh => by have := (hcond8 t).mp hh; omega) f1 f2 f3 f4 f5 K
  · exact runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond4 t).mpr (by omega)) (fun hh => by have := (hcond1 t).mp hh; omega) (fun hh => by have := (hcond2 t).mp hh; omega) (fun hh => by have := (hcond3 t).mp hh; omega) (fun hh => by have := (hcond5 t).mp hh; omega) (fun hh => by have := (hcond6 t).mp hh; omega) (fun hh => by have := (hcond7 t).mp hh; omega) (fun hh => by have := (hcond8 t).mp hh; omega) f1 f2 f3 f4 f5 K
  · exact runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond5 t).mpr (by omega)) ((hcond8 t).mpr (by omega)) (fun hh => by have := (hcond1 t).mp hh; omega) (fun hh => by have := (hcond2 t).mp hh; omega) (fun hh => by have := (hcond3 t).mp hh; omega) (fun hh => by have := (hcond4 t).mp hh; omega) (fun hh => by have := (hcond6 t).mp hh; omega) (fun hh => by have := (hcond7 t).mp hh; omega) f1 f2 f3 f4 f5 K
  · exact runG c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond6 t).mpr (by omega)) (fun hh => by have := (hcond1 t).mp hh; omega) (fun hh => by have := (hcond2 t).mp hh; omega) (fun hh => by have := (hcond3 t).mp hh; omega) (fun hh => by have := (hcond4 t).mp hh; omega) (fun hh => by have := (hcond5 t).mp hh; omega) (fun hh => by have := (hcond7 t).mp hh; omega) (fun hh => by have := (hcond8 t).mp hh; omega) f1 f2 f3 f4 f5 K

set_option maxHeartbeats 4000000 in
/-- The body at any point, from the step's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (ms0 t) fullShare ((dats m 0 c).after 0 t) from rfl, after0]
  rw [show (dats m 0 c).leavesExact 1 t = owns (c : Thread nD τ) (ms1 t) fullShare ((dats m 0 c).after 1 t) from rfl, after1]
  rw [show (dats m 0 c).leavesExact 2 t = owns (c : Thread nD τ) (ms2 t) fullShare ((dats m 0 c).after 2 t) from rfl, after2]
  rw [show (dats m 0 c).leavesExact 3 t = owns (c : Thread nD τ) (ms3 t) fullShare ((dats m 0 c).after 3 t) from rfl, after3]
  rw [show (dats m 0 c).leavesExact 4 t = owns (c : Thread nD τ) (ms4 t) fullShare ((dats m 0 c).after 4 t) from rfl, after4]
  unfold owns
  iintro ⟨⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩, ⟨%d7, %f7, -, H7⟩, ⟨%d8, %f8, -, H8⟩⟩
  iapply (run c t f0 f1 f2 f3 f4 _)
  isplitl [H0 H1 H2 H3 H4 H5 H6 H7 H8 HS0 HS1 HS2 HS3 HS4 HS5 HS6]
  ·
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  iintro ⟨H0, H1, H2, H3, H4, ⟨%g5, H5⟩, ⟨%g6, H6⟩, ⟨%g7, H7⟩, ⟨%g8, H8⟩, ⟨%gs0, HS0⟩, ⟨%gs1, HS1⟩, ⟨%gs2, HS2⟩, ⟨%gs3, HS3⟩, ⟨%gs4, HS4⟩, ⟨%gs5, HS5⟩, ⟨%gs6, HS6⟩⟩
  isplitl [HS0 HS1 HS2 HS3 HS4 HS5 HS6 Hg]
  · isplitl [HS0 HS1 HS2 HS3 HS4 HS5 HS6]
    ·
      isplitl [HS0]; · iexists _, _; isplitr; swap; (iexact HS0); ipureintro; rfl
      isplitl [HS1]; · iexists _, _; isplitr; swap; (iexact HS1); ipureintro; rfl
      isplitl [HS2]; · iexists _, _; isplitr; swap; (iexact HS2); ipureintro; rfl
      isplitl [HS3]; · iexists _, _; isplitr; swap; (iexact HS3); ipureintro; rfl
      isplitl [HS4]; · iexists _, _; isplitr; swap; (iexact HS4); ipureintro; rfl
      isplitl [HS5]; · iexists _, _; isplitr; swap; (iexact HS5); ipureintro; rfl
      iexists _, _; isplitr; swap; (iexact HS6); ipureintro; rfl
    iexact Hg
  isplitl [Ho]; · iexact Ho
  isplitl [H0]; · iexists _; isplitr; swap; (iexact H0); ipureintro; exact hf0
  isplitl [H1]; · iexists _; isplitr; swap; (iexact H1); ipureintro; exact hf1
  isplitl [H2]; · iexists _; isplitr; swap; (iexact H2); ipureintro; exact hf2
  isplitl [H3]; · iexists _; isplitr; swap; (iexact H3); ipureintro; exact hf3
  isplitl [H4]; · iexists _; isplitr; swap; (iexact H4); ipureintro; exact hf4
  isplitl [H5]; · iexists _, _; isplitr; swap; (iexact H5); ipureintro; rfl
  isplitl [H6]; · iexists _, _; isplitr; swap; (iexact H6); ipureintro; rfl
  isplitl [H7]; · iexists _, _; isplitr; swap; (iexact H7); ipureintro; rfl
  iexists _, _; isplitr; swap; (iexact H8); ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

set_option backward.isDefEq.respectTransparency.types false in
/-- The launch terminates, the input arrays unchanged, and every semaphore counter is zero at the end. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (Pipeline.RDat.FramePost.arr_in h.1 c 4 rfl).trans ((A_eq m c 4).trans (V_main_arg4 m c))⟩) (run_main_quiescent m ρ)

/-- The program terminates from any memory, its argument arrays unchanged and every semaphore counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Weak

end
-- ==== Proof.Val.Cells.lean ====
module

public import Idealize.ShloMosaic.Lib.WritesUnit
public import Idealize.ShloMosaic.Lib.VecWindow
public import Idealize.ShloMosaic.Lib.Pointwise
public import proofs.«01_k».proof.Proof.Gen.KernelIdeal.Skeleton

@[expose] public section

set_option maxRecDepth 16384

noncomputable section

namespace Cert.KernelIdeal.Val

open Cert.KernelIdeal Cert.KernelIdeal.Gen
open Idealize.ShloMosaic Idealize.ShloMosaic.TcCoe Idealize.SL.Sem
open Idealize.ShloMosaic.View (Piece)

/-- Column `256 j + q`: position `q` of the chunk `j` of 256 columns. -/
def cl (j q : ℕ) : Fin 18432 := ⟨(256 * j + q) % 18432, Nat.mod_lt _ (by decide)⟩

theorem cl_val {j q : ℕ} (hj : j < 72) (hq : q < 256) : (cl j q).val = 256 * j + q := Nat.mod_eq_of_lt (by omega)

/-- Chunk and position of a column. -/
theorem cl_div_mod (c : Fin 18432) : cl (c.val / 256) (c.val % 256) = c := Fin.ext (by
  rw [cl_val (by omega) (by omega)]; omega)

/-- The place of row `p`, column `c` in a buffer of 72 chunks of 256 columns. -/
def at3 {P : ℕ} (p : Fin P) (c : Fin 18432) : (⟨3, ![72, P, 256]⟩ : Shape).Idx :=
  ix3 ⟨c.val / 256, by omega⟩ p ⟨c.val % 256, by omega⟩

section
variable {sig : RefSig} {κ : Kind} {sp : Space} {e : EltTy} {Val : EltTy → Type} {P : ℕ}

/-- A chunk loaded from a row-major block is the columns of the chunk. -/
theorem readAt2 (V : View sig κ sp (⟨2, ![P, 18432]⟩ : Shape) e) (f : V.ty.Contents Val) {off : Fin 2 → ℕ} {k u : ℕ} (hk : k < 18) (hu : u < 4)
    (inb : ∀ a, off a + (⟨2, ![P, 256]⟩ : Shape).size a ≤ (⟨2, ![P, 18432]⟩ : Shape).size a)
    (heq : off = ![0, 1024 * k + 256 * u]) (p : Fin P) (q : Fin 256) :
    V.readAt Val (Rect.unit (s := ⟨2, ![P, 18432]⟩) off (⟨2, ![P, 256]⟩ : Shape).size inb).toLoadRect f (ix2 p q)
      = V.read Val f (ix2 p (cl (4 * k + u) q.val)) := by
  subst heq
  refine congrArg (V.read Val f) (funext fun a => Fin.ext ?_)
  match a with
  | ⟨0, _⟩ => show 0 + 1 * p.val = p.val; omega
  | ⟨1, _⟩ => show (1024 * k + 256 * u) + 1 * q.val = (cl (4 * k + u) q.val).val; rw [cl_val (by omega) q.isLt]; omega

/-- A chunk loaded from a buffer of chunks. -/
theorem readAt3 (V : View sig κ sp (⟨3, ![72, P, 256]⟩ : Shape) e) (f : V.ty.Contents Val) {off : Fin 3 → ℕ} {k u : ℕ} (hk : k < 18) (hu : u < 4)
    (inb : ∀ a, off a + (⟨3, ![1, P, 256]⟩ : Shape).size a ≤ (⟨3, ![72, P, 256]⟩ : Shape).size a)
    (heq : off = ![4 * k + u, 0, 0]) (z : Fin 1) (p : Fin P) (q : Fin 256) :
    V.readAt Val (Rect.unit (s := ⟨3, ![72, P, 256]⟩) off (⟨3, ![1, P, 256]⟩ : Shape).size inb).toLoadRect f (ix3 z p q)
      = V.read Val f (at3 p (cl (4 * k + u) q.val)) := by
  subst heq
  refine congrArg (V.read Val f) (funext fun a => Fin.ext ?_)
  have h := cl_val (j := 4 * k + u) (q := q.val) (by omega) q.isLt
  match a with
  | ⟨0, _⟩ => show (4 * k + u) + 1 * z.val = (cl (4 * k + u) q.val).val / 256; rw [h]; omega
  | ⟨1, _⟩ => show 0 + 1 * p.val = p.val; omega
  | ⟨2, _⟩ => show 0 + 1 * q.val = (cl (4 * k + u) q.val).val % 256; rw [h]; omega

/-- Four chunks written over a buffer of chunks whose first `4 k` chunks hold `G` and whose others hold `old`. -/
theorem step3 (V : View sig κ sp (⟨3, ![72, P, 256]⟩ : Shape) e) (f : V.ty.Contents Val) {o0 o1 o2 o3 : Fin 3 → ℕ} {k : ℕ} (hk : k < 18)
    {i0 : ∀ a, o0 a + (⟨3, ![1, P, 256]⟩ : Shape).size a ≤ (⟨3, ![72, P, 256]⟩ : Shape).size a}
    {i1 : ∀ a, o1 a + (⟨3, ![1, P, 256]⟩ : Shape).size a ≤ (⟨3, ![72, P, 256]⟩ : Shape).size a}
    {i2 : ∀ a, o2 a + (⟨3, ![1, P, 256]⟩ : Shape).size a ≤ (⟨3, ![72, P, 256]⟩ : Shape).size a}
    {i3 : ∀ a, o3 a + (⟨3, ![1, P, 256]⟩ : Shape).size a ≤ (⟨3, ![72, P, 256]⟩ : Shape).size a}
    (e0 : o0 = ![4 * k + 0, 0, 0]) (e1 : o1 = ![4 * k + 1, 0, 0]) (e2 : o2 = ![4 * k + 2, 0, 0]) (e3 : o3 = ![4 * k + 3, 0, 0])
    (w0 w1 w2 w3 : (⟨3, ![1, P, 256]⟩ : Shape).Idx → Val e) (G old : Fin P → Fin 18432 → Val e)
    (hf : ∀ p c, V.read Val f (at3 p c) = if c.val < 1024 * k then G p c else old p c)
    (h0 : ∀ p (q : Fin 256), w0 (ix3 0 p q) = G p (cl (4 * k + 0) q.val))
    (h1 : ∀ p (q : Fin 256), w1 (ix3 0 p q) = G p (cl (4 * k + 1) q.val))
    (h2 : ∀ p (q : Fin 256), w2 (ix3 0 p q) = G p (cl (4 * k + 2) q.val))
    (h3 : ∀ p (q : Fin 256), w3 (ix3 0 p q) = G p (cl (4 * k + 3) q.val)) (p : Fin P) (c : Fin 18432) :
    V.read Val (V.writes Val f [⟨Rect.unit (s := ⟨3, ![72, P, 256]⟩) o3 (⟨3, ![1, P, 256]⟩ : Shape).size i3, w3⟩,
        ⟨Rect.unit (s := ⟨3, ![72, P, 256]⟩) o2 (⟨3, ![1, P, 256]⟩ : Shape).size i2, w2⟩,
        ⟨Rect.unit (s := ⟨3, ![72, P, 256]⟩) o1 (⟨3, ![1, P, 256]⟩ : Shape).size i1, w1⟩,
        ⟨Rect.unit (s := ⟨3, ![72, P, 256]⟩) o0 (⟨3, ![1, P, 256]⟩ : Shape).size i0, w0⟩]) (at3 p c)
      = if c.val < 1024 * (k + 1) then G p c else old p c := by
  have miss : ∀ {o : Fin 3 → ℕ} {j : ℕ} (i : ∀ a, o a + (⟨3, ![1, P, 256]⟩ : Shape).size a ≤ (⟨3, ![72, P, 256]⟩ : Shape).size a) (w : (⟨3, ![1, P, 256]⟩ : Shape).Idx → Val e) (L : List (Piece Val (⟨3, ![72, P, 256]⟩ : Shape) e)),
      o = ![j, 0, 0] → c.val / 256 ≠ j →
      V.read Val (V.writes Val f (⟨Rect.unit (s := ⟨3, ![72, P, 256]⟩) o (⟨3, ![1, P, 256]⟩ : Shape).size i, w⟩ :: L)) (at3 p c)
        = V.read Val (V.writes Val f L) (at3 p c) := fun {o j} i w L he hj =>
    V.read_writes_cons_unit_of_not_mem f i w L (at3 p c) he (0 : Fin 3) (by
      show c.val / 256 < j ∨ j + 1 ≤ c.val / 256
      omega)
  have hit : ∀ {o : Fin 3 → ℕ} {j : ℕ} (i : ∀ a, o a + (⟨3, ![1, P, 256]⟩ : Shape).size a ≤ (⟨3, ![72, P, 256]⟩ : Shape).size a) (w : (⟨3, ![1, P, 256]⟩ : Shape).Idx → Val e) (L : List (Piece Val (⟨3, ![72, P, 256]⟩ : Shape) e)),
      o = ![j, 0, 0] → c.val / 256 = j → (∀ p (q : Fin 256), w (ix3 0 p q) = G p (cl j q.val)) →
      V.read Val (V.writes Val f (⟨Rect.unit (s := ⟨3, ![72, P, 256]⟩) o (⟨3, ![1, P, 256]⟩ : Shape).size i, w⟩ :: L)) (at3 p c)
        = G p c := fun {o j} i w L he hj hw => by
    rw [V.read_writes_cons_unit_of_mem f i w L (at3 p c) (ix3 0 p ⟨c.val % 256, by omega⟩) he (fun a => ?_), hw]
    · exact congrArg (G p) ((congrArg (fun n => cl n (c.val % 256)) hj.symm).trans (cl_div_mod c))
    · match a with
      | ⟨0, _⟩ => show c.val / 256 = j + 0; omega
      | ⟨1, _⟩ => show p.val = 0 + p.val; omega
      | ⟨2, _⟩ => show c.val % 256 = 0 + c.val % 256; omega
  by_cases c3 : c.val / 256 = 4 * k + 3
  · rw [hit i3 w3 _ e3 c3 h3, if_pos (by omega)]
  rw [miss i3 w3 _ e3 c3]
  by_cases c2 : c.val / 256 = 4 * k + 2
  · rw [hit i2 w2 _ e2 c2 h2, if_pos (by omega)]
  rw [miss i2 w2 _ e2 c2]
  by_cases c1 : c.val / 256 = 4 * k + 1
  · rw [hit i1 w1 _ e1 c1 h1, if_pos (by omega)]
  rw [miss i1 w1 _ e1 c1]
  by_cases c0 : c.val / 256 = 4 * k + 0
  · rw [hit i0 w0 _ e0 c0 h0, if_pos (by omega)]
  rw [miss i0 w0 _ e0 c0]
  show V.read Val f (at3 p c) = _
  rw [hf]
  by_cases hc : c.val < 1024 * k
  · rw [if_pos hc, if_pos (by omega)]
  · rw [if_neg hc, if_neg (by omega)]

/-- Four chunks of columns written over a block whose first `4 k` chunks hold `G`. -/
theorem step2 (V : View sig κ sp (⟨2, ![P, 18432]⟩ : Shape) e) (f : V.ty.Contents Val) {o0 o1 o2 o3 : Fin 2 → ℕ} {k : ℕ} (hk : k < 18)
    {i0 : ∀ a, o0 a + (⟨2, ![P, 256]⟩ : Shape).size a ≤ (⟨2, ![P, 18432]⟩ : Shape).size a}
    {i1 : ∀ a, o1 a + (⟨2, ![P, 256]⟩ : Shape).size a ≤ (⟨2, ![P, 18432]⟩ : Shape).size a}
    {i2 : ∀ a, o2 a + (⟨2, ![P, 256]⟩ : Shape).size a ≤ (⟨2, ![P, 18432]⟩ : Shape).size a}
    {i3 : ∀ a, o3 a + (⟨2, ![P, 256]⟩ : Shape).size a ≤ (⟨2, ![P, 18432]⟩ : Shape).size a}
    (e0 : o0 = ![0, 1024 * k + 256 * 0]) (e1 : o1 = ![0, 1024 * k + 256 * 1]) (e2 : o2 = ![0, 1024 * k + 256 * 2]) (e3 : o3 = ![0, 1024 * k + 256 * 3])
    (w0 w1 w2 w3 : (⟨2, ![P, 256]⟩ : Shape).Idx → Val e) (G : Fin P → Fin 18432 → Val e)
    (hf : ∀ p (c : Fin 18432), c.val < 1024 * k → V.read Val f (ix2 p c) = G p c)
    (h0 : ∀ p (q : Fin 256), w0 (ix2 p q) = G p (cl (4 * k + 0) q.val))
    (h1 : ∀ p (q : Fin 256), w1 (ix2 p q) = G p (cl (4 * k + 1) q.val))
    (h2 : ∀ p (q : Fin 256), w2 (ix2 p q) = G p (cl (4 * k + 2) q.val))
    (h3 : ∀ p (q : Fin 256), w3 (ix2 p q) = G p (cl (4 * k + 3) q.val)) (p : Fin P) (c : Fin 18432) (hc : c.val < 1024 * (k + 1)) :
    V.read Val (V.writes Val f [⟨Rect.unit (s := ⟨2, ![P, 18432]⟩) o3 (⟨2, ![P, 256]⟩ : Shape).size i3, w3⟩,
        ⟨Rect.unit (s := ⟨2, ![P, 18432]⟩) o2 (⟨2, ![P, 256]⟩ : Shape).size i2, w2⟩,
        ⟨Rect.unit (s := ⟨2, ![P, 18432]⟩) o1 (⟨2, ![P, 256]⟩ : Shape).size i1, w1⟩,
        ⟨Rect.unit (s := ⟨2, ![P, 18432]⟩) o0 (⟨2, ![P, 256]⟩ : Shape).size i0, w0⟩]) (ix2 p c)
      = G p c := by
  have miss : ∀ {o : Fin 2 → ℕ} {j : ℕ} (i : ∀ a, o a + (⟨2, ![P, 256]⟩ : Shape).size a ≤ (⟨2, ![P, 18432]⟩ : Shape).size a) (w : (⟨2, ![P, 256]⟩ : Shape).Idx → Val e) (L : List (Piece Val (⟨2, ![P, 18432]⟩ : Shape) e)),
      o = ![0, 1024 * k + 256 * j] → c.val / 256 ≠ 4 * k + j →
      V.read Val (V.writes Val f (⟨Rect.unit (s := ⟨2, ![P, 18432]⟩) o (⟨2, ![P, 256]⟩ : Shape).size i, w⟩ :: L)) (ix2 p c)
        = V.read Val (V.writes Val f L) (ix2 p c) := fun {o j} i w L he hj =>
    V.read_writes_cons_unit_of_not_mem f i w L (ix2 p c) he (1 : Fin 2) (by
      show c.val < 1024 * k + 256 * j ∨ 1024 * k + 256 * j + 256 ≤ c.val
      omega)
  have hit : ∀ {o : Fin 2 → ℕ} {j : ℕ} (i : ∀ a, o a + (⟨2, ![P, 256]⟩ : Shape).size a ≤ (⟨2, ![P, 18432]⟩ : Shape).size a) (w : (⟨2, ![P, 256]⟩ : Shape).Idx → Val e) (L : List (Piece Val (⟨2, ![P, 18432]⟩ : Shape) e)),
      o = ![0, 1024 * k + 256 * j] → c.val / 256 = 4 * k + j → (∀ p (q : Fin 256), w (ix2 p q) = G p (cl (4 * k + j) q.val)) →
      V.read Val (V.writes Val f (⟨Rect.unit (s := ⟨2, ![P, 18432]⟩) o (⟨2, ![P, 256]⟩ : Shape).size i, w⟩ :: L)) (ix2 p c)
        = G p c := fun {o j} i w L he hj hw => by
    rw [V.read_writes_cons_unit_of_mem f i w L (ix2 p c) (ix2 p ⟨c.val % 256, by omega⟩) he (fun a => ?_), hw]
    · exact congrArg (G p) ((congrArg (fun n => cl n (c.val % 256)) hj.symm).trans (cl_div_mod c))
    · match a with
      | ⟨0, _⟩ => show p.val = 0 + p.val; omega
      | ⟨1, _⟩ => show c.val = 1024 * k + 256 * j + c.val % 256; omega
  by_cases c3 : c.val / 256 = 4 * k + 3
  · exact hit i3 w3 _ e3 c3 h3
  rw [miss i3 w3 _ e3 c3]
  by_cases c2 : c.val / 256 = 4 * k + 2
  · exact hit i2 w2 _ e2 c2 h2
  rw [miss i2 w2 _ e2 c2]
  by_cases c1 : c.val / 256 = 4 * k + 1
  · exact hit i1 w1 _ e1 c1 h1
  rw [miss i1 w1 _ e1 c1]
  by_cases c0 : c.val / 256 = 4 * k + 0
  · exact hit i0 w0 _ e0 c0 h0
  rw [miss i0 w0 _ e0 c0]
  exact hf p c (by omega)
end

/-! ### The values of a step, by row and column -/

section
variable (x dy dr : Fin 32 → Fin 18432 → EReal) (g : Fin 18432 → EReal) (r κ ι : Fin 32 → EReal)

/-- The gradient of the normalised row. -/
def hh (p : Fin 32) (c : Fin 18432) : EReal := dy p c * r p * g c
/-- Its product with the input, whose row sum the step needs. -/
def hx (p : Fin 32) (c : Fin 18432) : EReal := hh dy g r p c * x p c
/-- The first part of the total gradient. -/
def ww (p : Fin 32) (c : Fin 18432) : EReal := hh dy g r p c + dr p c
/-- The product that the gradient of `gamma` sums over rows. -/
def qq (p : Fin 32) (c : Fin 18432) : EReal := dy p c * r p * x p c
/-- Four rows of that sum, eight apart. -/
def dg4 (a : Fin 8) (c : Fin 18432) : EReal :=
  (qq x dy r ⟨a.val, by omega⟩ c + qq x dy r ⟨8 + a.val, by omega⟩ c) + (qq x dy r ⟨16 + a.val, by omega⟩ c + qq x dy r ⟨24 + a.val, by omega⟩ c)
end

/-- Two lanes of a chunk added. -/
def pairSum (h : Fin 32 → Fin 18432 → EReal) (p : Fin 32) (l : ℕ) (j : ℕ) : EReal := h p (cl j l) + h p (cl j (128 + l))
/-- The lane sums of the first `n` chunks. -/
def laneSum (h : Fin 32 → Fin 18432 → EReal) (p : Fin 32) (l : ℕ) : ℕ → EReal
  | 0 => 0
  | n + 1 => laneSum h p l n + pairSum h p l n
/-- The absolute value as the body takes it. -/
def absE (x : EReal) : EReal := max x (-x)
/-- The larger of two lanes of a chunk. -/
def pairMax (v : Fin 32 → Fin 18432 → EReal) (p : Fin 32) (l : ℕ) (j : ℕ) : EReal := max (absE (v p (cl j l))) (absE (v p (cl j (128 + l))))
/-- The lane maxima of the first `n` chunks. -/
def laneMax (v : Fin 32 → Fin 18432 → EReal) (p : Fin 32) (l : ℕ) : ℕ → EReal
  | 0 => 0
  | n + 1 => max (laneMax v p l n) (pairMax v p l n)

end Cert.KernelIdeal.Val

end
-- ==== Proof.Val.Facts.lean ====
module

public import proofs.«01_k».proof.Proof.Val.Cells
public import proofs.«01_k».proof.Proof.KernelIdeal.Held

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

/-- What the chunks `< 4 n` of the buffers of the first stage hold: the inputs of the row group and the first part of its gradient, and the
running sums for `gamma`; and the lane sums so far. -/
structure FA (x dy dr : Fin 32 → Fin 18432 → EReal) (g : Fin 18432 → EReal) (r : Fin 32 → EReal) (W0 X0 : Fin 32 → Fin 18432 → EReal)
    (D0 : Fin 8 → Fin 18432 → EReal) (n : ℕ) (W X : S72x32x256.Idx → EReal) (D : S72x8x256.Idx → EReal) (s : S32x128.Idx → EReal) : Prop where
  hW : ∀ p c, W (at3 p c) = if c.val < 1024 * n then ww dy dr g r p c else W0 p c
  hX : ∀ p c, X (at3 p c) = if c.val < 1024 * n then x p c else X0 p c
  hD : ∀ a c, D (at3 a c) = if c.val < 1024 * n then D0 a c + dg4 x dy r a c else D0 a c
  hs : ∀ p (l : Fin 128), s (ix2 p l) = laneSum (hx x dy g r) p l.val (4 * n)

/-- What the chunks `< 4 n` of the buffers of the second stage hold: the total gradient, and the lane maxima so far. -/
structure FB (vn V0 : Fin 32 → Fin 18432 → EReal) (n : ℕ) (V : S72x32x256.Idx → EReal) (T : S32x18432.Idx → EReal) (s : S32x128.Idx → EReal) : Prop where
  hV : ∀ p c, V (at3 p c) = if c.val < 1024 * n then vn p c else V0 p c
  hT : ∀ p (c : Fin 18432), c.val < 1024 * n → T (ix2 p c) = vn p c
  hs : ∀ p (l : Fin 128), s (ix2 p l) = laneMax vn p l.val (4 * n)

/-- A scaled value clipped to the range of the codes. -/
def clipE (v : EReal) : EReal := min (Ideal.ofBits .f32 0x47600000#32) (max (Ideal.ofBits .f32 0xC7600000#32) v)

/-- What the chunks `< 4 n` of the codes hold. -/
structure FC (V0 : Fin 32 → Fin 18432 → EReal) (ι : Fin 32 → EReal) (n : ℕ) (C : S32x18432.Idx → EReal) : Prop where
  hC : ∀ p (c : Fin 18432), c.val < 1024 * n → C (ix2 p c) = clipE (V0 p c * ι p)

end Cert.KernelIdeal.Val

end
-- ==== Proof.Val.Trip1.lean ====
module

public import proofs.«01_k».proof.Proof.Val.Facts

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

/-- What holds before trip `n` of loop 1. -/
abbrev I1 (c : Dev nD) (arg1 : Memref sig .tc .vmem S32x18432 .bf16) (arg2 : Memref sig .tc .vmem S32x18432 .bf16) (arg3 : Memref sig .tc .vmem S32x18432 .bf16) (arg4 : Memref sig .tc .vmem S1x18432 .f32) (arg10 : Memref sig .tc .vmem S72x32x256 .f32) (arg11 : Memref sig .tc .vmem S72x32x256 .f32) (arg13 : Memref sig .tc .vmem S72x8x256 .f32) (f1 : arg1.view.ty.Contents (Elt Ideal)) (f2 : arg2.view.ty.Contents (Elt Ideal)) (f3 : arg3.view.ty.Contents (Elt Ideal)) (f4 : arg4.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (n : ℕ) (acc : FVec Ideal S32x128 .f32) : sProp 𝕄 :=
  iprop(At (F := Ideal) c arg1 f1 ∗ At (F := Ideal) c arg2 f2 ∗ At (F := Ideal) c arg3 f3 ∗ At (F := Ideal) c arg4 f4 ∗ (∃ f10 f11 f13, At (F := Ideal) c arg10 f10 ∗ At (F := Ideal) c arg11 f11 ∗ At (F := Ideal) c arg13 f13 ∗ ⌜FA x dy dr g r W0 X0 D0 n (arg10.view.read (Elt Ideal) f10) (arg11.view.read (Elt Ideal) f11) (arg13.view.read (Elt Ideal) f13) acc⌝))

set_option maxHeartbeats 8000000 in
/-- One trip of loop 1. -/
theorem trip1 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond2 i = 1#1) (v30 : Vec Ideal S32x128 .f32) (f1 : arg1.view.ty.Contents (Elt Ideal)) (f2 : arg2.view.ty.Contents (Elt Ideal)) (f3 : arg3.view.ty.Contents (Elt Ideal)) (f4 : arg4.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (i1 : ∀ p c, (arg1.view.read (Elt Ideal) f1) (ix2 p c) = x p c) (i2 : ∀ p c, (arg2.view.read (Elt Ideal) f2) (ix2 p c) = dy p c) (i3 : ∀ p c, (arg3.view.read (Elt Ideal) f3) (ix2 p c) = dr p c) (i4 : ∀ c, (arg4.view.read (Elt Ideal) f4) (ix2 0 c) = g c) (hv30 : ∀ p l, v30 (ix2 p l) = r p)
    (k : Fin k0_t1_loop.trips) (acc : FVec Ideal S32x128 .f32) :
    I1 c arg1 arg2 arg3 arg4 arg10 arg11 arg13 f1 f2 f3 f4 x dy dr g r κ ι W0 X0 V0 D0 k.val acc
      ⊢ wp frame (wpE (defs₀ (F := Ideal)) Variants.none c none) Set.univ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 k acc)
          (fun acc' => I1 c arg1 arg2 arg3 arg4 arg10 arg11 arg13 f1 f2 f3 f4 x dy dr g r κ ι W0 X0 V0 D0 (k.val + 1) acc') := by
  skip
  iintro ⟨H1, H2, H3, H4, %f10, %f11, %f13, H10, H11, H13, %hI⟩
  unfold k0_t1_body
  sl_exec
  sl_step
  isplitl [H1]; · iexact H1
  isplitl [H2]; · iexact H2
  isplitl [H3]; · iexact H3
  isplitl [H4]; · iexact H4
  iexists _, _, _
  isplitl [H10]; · iexact H10
  isplitl [H11]; · iexact H11
  isplitl [H13]; · iexact H13
  ipureintro
  have a1_0 : ∀ (p : Fin 32) (q : Fin 256), View.readAt (Elt Ideal) arg1.view (Rect.unit (s := S32x18432) (k0_off1 k 0#32) ![32, 256] (k0_off1_inb i k h 0)).toLoadRect f1 (ix2 p q) = x p (cl (4 * k.val) q.val) :=
    fun p q => (readAt2 arg1.view f1 k.isLt (u := 0) (by decide) (k0_off1_inb i k h 0) (k0_off1_eq k 0) p q).trans (i1 p _)
  have a1_1 : ∀ (p : Fin 32) (q : Fin 256), View.readAt (Elt Ideal) arg1.view (Rect.unit (s := S32x18432) (k0_off1 k 1#32) ![32, 256] (k0_off1_inb i k h 1)).toLoadRect f1 (ix2 p q) = x p (cl (4 * k.val + 1) q.val) :=
    fun p q => (readAt2 arg1.view f1 k.isLt (u := 1) (by decide) (k0_off1_inb i k h 1) (k0_off1_eq k 1) p q).trans (i1 p _)
  have a1_2 : ∀ (p : Fin 32) (q : Fin 256), View.readAt (Elt Ideal) arg1.view (Rect.unit (s := S32x18432) (k0_off1 k 2#32) ![32, 256] (k0_off1_inb i k h 2)).toLoadRect f1 (ix2 p q) = x p (cl (4 * k.val + 2) q.val) :=
    fun p q => (readAt2 arg1.view f1 k.isLt (u := 2) (by decide) (k0_off1_inb i k h 2) (k0_off1_eq k 2) p q).trans (i1 p _)
  have a1_3 : ∀ (p : Fin 32) (q : Fin 256), View.readAt (Elt Ideal) arg1.view (Rect.unit (s := S32x18432) (k0_off1 k 3#32) ![32, 256] (k0_off1_inb i k h 3)).toLoadRect f1 (ix2 p q) = x p (cl (4 * k.val + 3) q.val) :=
    fun p q => (readAt2 arg1.view f1 k.isLt (u := 3) (by decide) (k0_off1_inb i k h 3) (k0_off1_eq k 3) p q).trans (i1 p _)
  have a2_0 : ∀ (p : Fin 32) (q : Fin 256), View.readAt (Elt Ideal) arg2.view (Rect.unit (s := S32x18432) (k0_off1 k 0#32) ![32, 256] (k0_off1_inb i k h 0)).toLoadRect f2 (ix2 p q) = dy p (cl (4 * k.val) q.val) :=
    fun p q => (readAt2 arg2.view f2 k.isLt (u := 0) (by decide) (k0_off1_inb i k h 0) (k0_off1_eq k 0) p q).trans (i2 p _)
  have a2_1 : ∀ (p : Fin 32) (q : Fin 256), View.readAt (Elt Ideal) arg2.view (Rect.unit (s := S32x18432) (k0_off1 k 1#32) ![32, 256] (k0_off1_inb i k h 1)).toLoadRect f2 (ix2 p q) = dy p (cl (4 * k.val + 1) q.val) :=
    fun p q => (readAt2 arg2.view f2 k.isLt (u := 1) (by decide) (k0_off1_inb i k h 1) (k0_off1_eq k 1) p q).trans (i2 p _)
  have a2_2 : ∀ (p : Fin 32) (q : Fin 256), View.readAt (Elt Ideal) arg2.view (Rect.unit (s := S32x18432) (k0_off1 k 2#32) ![32, 256] (k0_off1_inb i k h 2)).toLoadRect f2 (ix2 p q) = dy p (cl (4 * k.val + 2) q.val) :=
    fun p q => (readAt2 arg2.view f2 k.isLt (u := 2) (by decide) (k0_off1_inb i k h 2) (k0_off1_eq k 2) p q).trans (i2 p _)
  have a2_3 : ∀ (p : Fin 32) (q : Fin 256), View.readAt (Elt Ideal) arg2.view (Rect.unit (s := S32x18432) (k0_off1 k 3#32) ![32, 256] (k0_off1_inb i k h 3)).toLoadRect f2 (ix2 p q) = dy p (cl (4 * k.val + 3) q.val) :=
    fun p q => (readAt2 arg2.view f2 k.isLt (u := 3) (by decide) (k0_off1_inb i k h 3) (k0_off1_eq k 3) p q).trans (i2 p _)
  have a3_0 : ∀ (p : Fin 32) (q : Fin 256), View.readAt (Elt Ideal) arg3.view (Rect.unit (s := S32x18432) (k0_off1 k 0#32) ![32, 256] (k0_off1_inb i k h 0)).toLoadRect f3 (ix2 p q) = dr p (cl (4 * k.val) q.val) :=
    fun p q => (readAt2 arg3.view f3 k.isLt (u := 0) (by decide) (k0_off1_inb i k h 0) (k0_off1_eq k 0) p q).trans (i3 p _)
  have a3_1 : ∀ (p : Fin 32) (q : Fin 256), View.readAt (Elt Ideal) arg3.view (Rect.unit (s := S32x18432) (k0_off1 k 1#32) ![32, 256] (k0_off1_inb i k h 1)).toLoadRect f3 (ix2 p q) = dr p (cl (4 * k.val + 1) q.val) :=
    fun p q => (readAt2 arg3.view f3 k.isLt (u := 1) (by decide) (k0_off1_inb i k h 1) (k0_off1_eq k 1) p q).trans (i3 p _)
  have a3_2 : ∀ (p : Fin 32) (q : Fin 256), View.readAt (Elt Ideal) arg3.view (Rect.unit (s := S32x18432) (k0_off1 k 2#32) ![32, 256] (k0_off1_inb i k h 2)).toLoadRect f3 (ix2 p q) = dr p (cl (4 * k.val + 2) q.val) :=
    fun p q => (readAt2 arg3.view f3 k.isLt (u := 2) (by decide) (k0_off1_inb i k h 2) (k0_off1_eq k 2) p q).trans (i3 p _)
  have a3_3 : ∀ (p : Fin 32) (q : Fin 256), View.readAt (Elt Ideal) arg3.view (Rect.unit (s := S32x18432) (k0_off1 k 3#32) ![32, 256] (k0_off1_inb i k h 3)).toLoadRect f3 (ix2 p q) = dr p (cl (4 * k.val + 3) q.val) :=
    fun p q => (readAt2 arg3.view f3 k.isLt (u := 3) (by decide) (k0_off1_inb i k h 3) (k0_off1_eq k 3) p q).trans (i3 p _)
  have a4_0 : ∀ (q : Fin 256), View.readAt (Elt Ideal) arg4.view (Rect.unit (s := S1x18432) (k0_off3 k 0#32) ![1, 256] (k0_off3_inb i k h 0)).toLoadRect f4 (ix2 0 q) = g (cl (4 * k.val) q.val) :=
    fun q => (readAt2 arg4.view f4 k.isLt (u := 0) (by decide) (k0_off3_inb i k h 0) (k0_off3_eq k 0) 0 q).trans (i4 _)
  have a4_1 : ∀ (q : Fin 256), View.readAt (Elt Ideal) arg4.view (Rect.unit (s := S1x18432) (k0_off3 k 1#32) ![1, 256] (k0_off3_inb i k h 1)).toLoadRect f4 (ix2 0 q) = g (cl (4 * k.val + 1) q.val) :=
    fun q => (readAt2 arg4.view f4 k.isLt (u := 1) (by decide) (k0_off3_inb i k h 1) (k0_off3_eq k 1) 0 q).trans (i4 _)
  have a4_2 : ∀ (q : Fin 256), View.readAt (Elt Ideal) arg4.view (Rect.unit (s := S1x18432) (k0_off3 k 2#32) ![1, 256] (k0_off3_inb i k h 2)).toLoadRect f4 (ix2 0 q) = g (cl (4 * k.val + 2) q.val) :=
    fun q => (readAt2 arg4.view f4 k.isLt (u := 2) (by decide) (k0_off3_inb i k h 2) (k0_off3_eq k 2) 0 q).trans (i4 _)
  have a4_3 : ∀ (q : Fin 256), View.readAt (Elt Ideal) arg4.view (Rect.unit (s := S1x18432) (k0_off3 k 3#32) ![1, 256] (k0_off3_inb i k h 3)).toLoadRect f4 (ix2 0 q) = g (cl (4 * k.val + 3) q.val) :=
    fun q => (readAt2 arg4.view f4 k.isLt (u := 3) (by decide) (k0_off3_inb i k h 3) (k0_off3_eq k 3) 0 q).trans (i4 _)
  have a13_0 : ∀ (p : Fin 8) (q : Fin 256), View.readAt (Elt Ideal) arg13.view (Rect.unit (s := S72x8x256) (k0_off2 k 0#32) ![1, 8, 256] (k0_off2_inb i k h 0)).toLoadRect f13 (ix3 0 p q) = D0 p (cl (4 * k.val) q.val) :=
    fun p q => (readAt3 arg13.view f13 k.isLt (u := 0) (by decide) (k0_off2_inb i k h 0) (k0_off2_eq k 0) 0 p q).trans ((hI.hD p _).trans (if_neg (by rw [cl_val (by have := k.isLt; have h' : k0_t1_loop.trips = 18 := rfl; omega) q.isLt]; omega)))
  have a13_1 : ∀ (p : Fin 8) (q : Fin 256), View.readAt (Elt Ideal) arg13.view (Rect.unit (s := S72x8x256) (k0_off2 k 1#32) ![1, 8, 256] (k0_off2_inb i k h 1)).toLoadRect f13 (ix3 0 p q) = D0 p (cl (4 * k.val + 1) q.val) :=
    fun p q => (readAt3 arg13.view f13 k.isLt (u := 1) (by decide) (k0_off2_inb i k h 1) (k0_off2_eq k 1) 0 p q).trans ((hI.hD p _).trans (if_neg (by rw [cl_val (by have := k.isLt; have h' : k0_t1_loop.trips = 18 := rfl; omega) q.isLt]; omega)))
  have a13_2 : ∀ (p : Fin 8) (q : Fin 256), View.readAt (Elt Ideal) arg13.view (Rect.unit (s := S72x8x256) (k0_off2 k 2#32) ![1, 8, 256] (k0_off2_inb i k h 2)).toLoadRect f13 (ix3 0 p q) = D0 p (cl (4 * k.val + 2) q.val) :=
    fun p q => (readAt3 arg13.view f13 k.isLt (u := 2) (by decide) (k0_off2_inb i k h 2) (k0_off2_eq k 2) 0 p q).trans ((hI.hD p _).trans (if_neg (by rw [cl_val (by have := k.isLt; have h' : k0_t1_loop.trips = 18 := rfl; omega) q.isLt]; omega)))
  have a13_3 : ∀ (p : Fin 8) (q : Fin 256), View.readAt (Elt Ideal) arg13.view (Rect.unit (s := S72x8x256) (k0_off2 k 3#32) ![1, 8, 256] (k0_off2_inb i k h 3)).toLoadRect f13 (ix3 0 p q) = D0 p (cl (4 * k.val + 3) q.val) :=
    fun p q => (readAt3 arg13.view f13 k.isLt (u := 3) (by decide) (k0_off2_inb i k h 3) (k0_off2_eq k 3) 0 p q).trans ((hI.hD p _).trans (if_neg (by rw [cl_val (by have := k.isLt; have h' : k0_t1_loop.trips = 18 := rfl; omega) q.isLt]; omega)))
  refine ⟨step3 arg10.view f10 k.isLt (k0_off4_eq k 0) (k0_off4_eq k 1) (k0_off4_eq k 2) (k0_off4_eq k 3) _ _ _ _ (ww dy dr g r) W0 hI.hW ?_ ?_ ?_ ?_, step3 arg11.view f11 k.isLt (k0_off4_eq k 0) (k0_off4_eq k 1) (k0_off4_eq k 2) (k0_off4_eq k 3) _ _ _ _ x X0 hI.hX ?_ ?_ ?_ ?_, step3 arg13.view f13 k.isLt (k0_off2_eq k 0) (k0_off2_eq k 1) (k0_off2_eq k 2) (k0_off2_eq k 3) _ _ _ _ (fun a c => D0 a c + dg4 x dy r a c) D0 hI.hD ?_ ?_ ?_ ?_, ?_⟩
  all_goals (intro p q; sl_unfold_run_names; pointwise [k0_pay2, k0_pay4, k0_pay5, k0_pay6, k0_pay7, k0_pay8])
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    try rfl
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    try rfl
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    try rfl
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    try rfl
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    try rfl
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    try rfl
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    try rfl
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    try rfl
  · by_cases hq : q.val < 128 <;> simp only [hq, ↓reduceDIte, not_false_eq_true, hv30, a1_0, a1_1, a1_2, a1_3, a2_0, a2_1, a2_2, a2_3, a3_0, a3_1, a3_2, a3_3, a4_0, a4_1, a4_2, a4_3, a13_0, a13_1, a13_2, a13_3] <;> rfl
  · by_cases hq : q.val < 128 <;> simp only [hq, ↓reduceDIte, not_false_eq_true, hv30, a1_0, a1_1, a1_2, a1_3, a2_0, a2_1, a2_2, a2_3, a3_0, a3_1, a3_2, a3_3, a4_0, a4_1, a4_2, a4_3, a13_0, a13_1, a13_2, a13_3] <;> rfl
  · by_cases hq : q.val < 128 <;> simp only [hq, ↓reduceDIte, not_false_eq_true, hv30, a1_0, a1_1, a1_2, a1_3, a2_0, a2_1, a2_2, a2_3, a3_0, a3_1, a3_2, a3_3, a4_0, a4_1, a4_2, a4_3, a13_0, a13_1, a13_2, a13_3] <;> rfl
  · by_cases hq : q.val < 128 <;> simp only [hq, ↓reduceDIte, not_false_eq_true, hv30, a1_0, a1_1, a1_2, a1_3, a2_0, a2_1, a2_2, a2_3, a3_0, a3_1, a3_2, a3_3, a4_0, a4_1, a4_2, a4_3, a13_0, a13_1, a13_2, a13_3] <;> rfl
  · simp only [hv30, dite_eq_ite, ite_self, a1_0, a1_1, a1_2, a1_3, a2_0, a2_1, a2_2, a2_3, a3_0, a3_1, a3_2, a3_3, a4_0, a4_1, a4_2, a4_3, a13_0, a13_1, a13_2, a13_3]
    simp only [Nat.mul_add, laneSum, pairSum, hx, hh]
    rw [show acc (ix2 p q) = laneSum (hx x dy g r) p q.val (4 * k.val) from hI.hs p q]
    try rfl

end Cert.KernelIdeal.Val

end
-- ==== Proof.Val.Trip2.lean ====
module

public import proofs.«01_k».proof.Proof.Val.Facts

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

/-- What holds before trip `n` of loop 2. -/
abbrev I2 (c : Dev nD) (arg1 : Memref sig .tc .vmem S32x18432 .bf16) (arg2 : Memref sig .tc .vmem S32x18432 .bf16) (arg3 : Memref sig .tc .vmem S32x18432 .bf16) (arg4 : Memref sig .tc .vmem S1x18432 .f32) (arg7 : Memref sig .tc .vmem S32x18432 .bf16) (arg10 : Memref sig .tc .vmem S72x32x256 .f32) (arg11 : Memref sig .tc .vmem S72x32x256 .f32) (arg12 : Memref sig .tc .vmem S72x32x256 .f32) (arg13 : Memref sig .tc .vmem S72x8x256 .f32) (f1 : arg1.view.ty.Contents (Elt Ideal)) (f2 : arg2.view.ty.Contents (Elt Ideal)) (f3 : arg3.view.ty.Contents (Elt Ideal)) (f4 : arg4.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (n : ℕ) (acc : FVec Ideal S32x128 .f32 × FVec Ideal S32x128 .f32) : sProp 𝕄 :=
  iprop(At (F := Ideal) c arg1 f1 ∗ At (F := Ideal) c arg2 f2 ∗ At (F := Ideal) c arg3 f3 ∗ At (F := Ideal) c arg4 f4 ∗ (∃ f7 f10 f11 f12 f13, At (F := Ideal) c arg7 f7 ∗ At (F := Ideal) c arg10 f10 ∗ At (F := Ideal) c arg11 f11 ∗ At (F := Ideal) c arg12 f12 ∗ At (F := Ideal) c arg13 f13 ∗ ⌜FA x dy dr g r W0 X0 D0 n (arg10.view.read (Elt Ideal) f10) (arg11.view.read (Elt Ideal) f11) (arg13.view.read (Elt Ideal) f13) acc.1 ∧ FB (fun p c => W0 p c - X0 p c * κ p) V0 n (arg12.view.read (Elt Ideal) f12) (arg7.view.read (Elt Ideal) f7) acc.2⌝))

set_option maxHeartbeats 8000000 in
/-- One trip of loop 2. -/
theorem trip2 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond3 i = 1#1) (v30 v32 : Vec Ideal S32x128 .f32) (f1 : arg1.view.ty.Contents (Elt Ideal)) (f2 : arg2.view.ty.Contents (Elt Ideal)) (f3 : arg3.view.ty.Contents (Elt Ideal)) (f4 : arg4.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (i1 : ∀ p c, (arg1.view.read (Elt Ideal) f1) (ix2 p c) = x p c) (i2 : ∀ p c, (arg2.view.read (Elt Ideal) f2) (ix2 p c) = dy p c) (i3 : ∀ p c, (arg3.view.read (Elt Ideal) f3) (ix2 p c) = dr p c) (i4 : ∀ c, (arg4.view.read (Elt Ideal) f4) (ix2 0 c) = g c) (hv30 : ∀ p l, v30 (ix2 p l) = r p) (hv32 : ∀ p l, v32 (ix2 p l) = κ p)
    (k : Fin k0_t2_loop.trips) (acc : FVec Ideal S32x128 .f32 × FVec Ideal S32x128 .f32) :
    I2 c arg1 arg2 arg3 arg4 arg7 arg10 arg11 arg12 arg13 f1 f2 f3 f4 x dy dr g r κ ι W0 X0 V0 D0 k.val acc
      ⊢ wp frame (wpE (defs₀ (F := Ideal)) Variants.none c none) Set.univ (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 k acc)
          (fun acc' => I2 c arg1 arg2 arg3 arg4 arg7 arg10 arg11 arg12 arg13 f1 f2 f3 f4 x dy dr g r κ ι W0 X0 V0 D0 (k.val + 1) acc') := by
  obtain ⟨a0, a1⟩ := acc
  iintro ⟨H1, H2, H3, H4, %f7, %f10, %f11, %f12, %f13, H7, H10, H11, H12, H13, %hI⟩
  unfold k0_t2_body
  sl_exec
  sl_step
  isplitl [H1]; · iexact H1
  isplitl [H2]; · iexact H2
  isplitl [H3]; · iexact H3
  isplitl [H4]; · iexact H4
  iexists _, _, _, _, _
  isplitl [H7]; · iexact H7
  isplitl [H10]; · iexact H10
  isplitl [H11]; · iexact H11
  isplitl [H12]; · iexact H12
  isplitl [H13]; · iexact H13
  ipureintro
  have a1_0 : ∀ (p : Fin 32) (q : Fin 256), View.readAt (Elt Ideal) arg1.view (Rect.unit (s := S32x18432) (k0_off6 k 0#32) ![32, 256] (k0_off6_inb i k h 0)).toLoadRect f1 (ix2 p q) = x p (cl (4 * k.val) q.val) :=
    fun p q => (readAt2 arg1.view f1 k.isLt (u := 0) (by decide) (k0_off6_inb i k h 0) (k0_off6_eq k 0) p q).trans (i1 p _)
  have a1_1 : ∀ (p : Fin 32) (q : Fin 256), View.readAt (Elt Ideal) arg1.view (Rect.unit (s := S32x18432) (k0_off6 k 1#32) ![32, 256] (k0_off6_inb i k h 1)).toLoadRect f1 (ix2 p q) = x p (cl (4 * k.val + 1) q.val) :=
    fun p q => (readAt2 arg1.view f1 k.isLt (u := 1) (by decide) (k0_off6_inb i k h 1) (k0_off6_eq k 1) p q).trans (i1 p _)
  have a1_2 : ∀ (p : Fin 32) (q : Fin 256), View.readAt (Elt Ideal) arg1.view (Rect.unit (s := S32x18432) (k0_off6 k 2#32) ![32, 256] (k0_off6_inb i k h 2)).toLoadRect f1 (ix2 p q) = x p (cl (4 * k.val + 2) q.val) :=
    fun p q => (readAt2 arg1.view f1 k.isLt (u := 2) (by decide) (k0_off6_inb i k h 2) (k0_off6_eq k 2) p q).trans (i1 p _)
  have a1_3 : ∀ (p : Fin 32) (q : Fin 256), View.readAt (Elt Ideal) arg1.view (Rect.unit (s := S32x18432) (k0_off6 k 3#32) ![32, 256] (k0_off6_inb i k h 3)).toLoadRect f1 (ix2 p q) = x p (cl (4 * k.val + 3) q.val) :=
    fun p q => (readAt2 arg1.view f1 k.isLt (u := 3) (by decide) (k0_off6_inb i k h 3) (k0_off6_eq k 3) p q).trans (i1 p _)
  have a2_0 : ∀ (p : Fin 32) (q : Fin 256), View.readAt (Elt Ideal) arg2.view (Rect.unit (s := S32x18432) (k0_off6 k 0#32) ![32, 256] (k0_off6_inb i k h 0)).toLoadRect f2 (ix2 p q) = dy p (cl (4 * k.val) q.val) :=
    fun p q => (readAt2 arg2.view f2 k.isLt (u := 0) (by decide) (k0_off6_inb i k h 0) (k0_off6_eq k 0) p q).trans (i2 p _)
  have a2_1 : ∀ (p : Fin 32) (q : Fin 256), View.readAt (Elt Ideal) arg2.view (Rect.unit (s := S32x18432) (k0_off6 k 1#32) ![32, 256] (k0_off6_inb i k h 1)).toLoadRect f2 (ix2 p q) = dy p (cl (4 * k.val + 1) q.val) :=
    fun p q => (readAt2 arg2.view f2 k.isLt (u := 1) (by decide) (k0_off6_inb i k h 1) (k0_off6_eq k 1) p q).trans (i2 p _)
  have a2_2 : ∀ (p : Fin 32) (q : Fin 256), View.readAt (Elt Ideal) arg2.view (Rect.unit (s := S32x18432) (k0_off6 k 2#32) ![32, 256] (k0_off6_inb i k h 2)).toLoadRect f2 (ix2 p q) = dy p (cl (4 * k.val + 2) q.val) :=
    fun p q => (readAt2 arg2.view f2 k.isLt (u := 2) (by decide) (k0_off6_inb i k h 2) (k0_off6_eq k 2) p q).trans (i2 p _)
  have a2_3 : ∀ (p : Fin 32) (q : Fin 256), View.readAt (Elt Ideal) arg2.view (Rect.unit (s := S32x18432) (k0_off6 k 3#32) ![32, 256] (k0_off6_inb i k h 3)).toLoadRect f2 (ix2 p q) = dy p (cl (4 * k.val + 3) q.val) :=
    fun p q => (readAt2 arg2.view f2 k.isLt (u := 3) (by decide) (k0_off6_inb i k h 3) (k0_off6_eq k 3) p q).trans (i2 p _)
  have a3_0 : ∀ (p : Fin 32) (q : Fin 256), View.readAt (Elt Ideal) arg3.view (Rect.unit (s := S32x18432) (k0_off6 k 0#32) ![32, 256] (k0_off6_inb i k h 0)).toLoadRect f3 (ix2 p q) = dr p (cl (4 * k.val) q.val) :=
    fun p q => (readAt2 arg3.view f3 k.isLt (u := 0) (by decide) (k0_off6_inb i k h 0) (k0_off6_eq k 0) p q).trans (i3 p _)
  have a3_1 : ∀ (p : Fin 32) (q : Fin 256), View.readAt (Elt Ideal) arg3.view (Rect.unit (s := S32x18432) (k0_off6 k 1#32) ![32, 256] (k0_off6_inb i k h 1)).toLoadRect f3 (ix2 p q) = dr p (cl (4 * k.val + 1) q.val) :=
    fun p q => (readAt2 arg3.view f3 k.isLt (u := 1) (by decide) (k0_off6_inb i k h 1) (k0_off6_eq k 1) p q).trans (i3 p _)
  have a3_2 : ∀ (p : Fin 32) (q : Fin 256), View.readAt (Elt Ideal) arg3.view (Rect.unit (s := S32x18432) (k0_off6 k 2#32) ![32, 256] (k0_off6_inb i k h 2)).toLoadRect f3 (ix2 p q) = dr p (cl (4 * k.val + 2) q.val) :=
    fun p q => (readAt2 arg3.view f3 k.isLt (u := 2) (by decide) (k0_off6_inb i k h 2) (k0_off6_eq k 2) p q).trans (i3 p _)
  have a3_3 : ∀ (p : Fin 32) (q : Fin 256), View.readAt (Elt Ideal) arg3.view (Rect.unit (s := S32x18432) (k0_off6 k 3#32) ![32, 256] (k0_off6_inb i k h 3)).toLoadRect f3 (ix2 p q) = dr p (cl (4 * k.val + 3) q.val) :=
    fun p q => (readAt2 arg3.view f3 k.isLt (u := 3) (by decide) (k0_off6_inb i k h 3) (k0_off6_eq k 3) p q).trans (i3 p _)
  have a4_0 : ∀ (q : Fin 256), View.readAt (Elt Ideal) arg4.view (Rect.unit (s := S1x18432) (k0_off8 k 0#32) ![1, 256] (k0_off8_inb i k h 0)).toLoadRect f4 (ix2 0 q) = g (cl (4 * k.val) q.val) :=
    fun q => (readAt2 arg4.view f4 k.isLt (u := 0) (by decide) (k0_off8_inb i k h 0) (k0_off8_eq k 0) 0 q).trans (i4 _)
  have a4_1 : ∀ (q : Fin 256), View.readAt (Elt Ideal) arg4.view (Rect.unit (s := S1x18432) (k0_off8 k 1#32) ![1, 256] (k0_off8_inb i k h 1)).toLoadRect f4 (ix2 0 q) = g (cl (4 * k.val + 1) q.val) :=
    fun q => (readAt2 arg4.view f4 k.isLt (u := 1) (by decide) (k0_off8_inb i k h 1) (k0_off8_eq k 1) 0 q).trans (i4 _)
  have a4_2 : ∀ (q : Fin 256), View.readAt (Elt Ideal) arg4.view (Rect.unit (s := S1x18432) (k0_off8 k 2#32) ![1, 256] (k0_off8_inb i k h 2)).toLoadRect f4 (ix2 0 q) = g (cl (4 * k.val + 2) q.val) :=
    fun q => (readAt2 arg4.view f4 k.isLt (u := 2) (by decide) (k0_off8_inb i k h 2) (k0_off8_eq k 2) 0 q).trans (i4 _)
  have a4_3 : ∀ (q : Fin 256), View.readAt (Elt Ideal) arg4.view (Rect.unit (s := S1x18432) (k0_off8 k 3#32) ![1, 256] (k0_off8_inb i k h 3)).toLoadRect f4 (ix2 0 q) = g (cl (4 * k.val + 3) q.val) :=
    fun q => (readAt2 arg4.view f4 k.isLt (u := 3) (by decide) (k0_off8_inb i k h 3) (k0_off8_eq k 3) 0 q).trans (i4 _)
  have a10_0 : ∀ (p : Fin 32) (q : Fin 256), View.readAt (Elt Ideal) arg10.view (Rect.unit (s := S72x32x256) (k0_off5 k 0#32) ![1, 32, 256] (k0_off5_inb i k h 0)).toLoadRect f10 (ix3 0 p q) = W0 p (cl (4 * k.val) q.val) :=
    fun p q => (readAt3 arg10.view f10 k.isLt (u := 0) (by decide) (k0_off5_inb i k h 0) (k0_off5_eq k 0) 0 p q).trans ((hI.1.hW p _).trans (if_neg (by rw [cl_val (by have := k.isLt; have h' : k0_t2_loop.trips = 18 := rfl; omega) q.isLt]; omega)))
  have a10_1 : ∀ (p : Fin 32) (q : Fin 256), View.readAt (Elt Ideal) arg10.view (Rect.unit (s := S72x32x256) (k0_off5 k 1#32) ![1, 32, 256] (k0_off5_inb i k h 1)).toLoadRect f10 (ix3 0 p q) = W0 p (cl (4 * k.val + 1) q.val) :=
    fun p q => (readAt3 arg10.view f10 k.isLt (u := 1) (by decide) (k0_off5_inb i k h 1) (k0_off5_eq k 1) 0 p q).trans ((hI.1.hW p _).trans (if_neg (by rw [cl_val (by have := k.isLt; have h' : k0_t2_loop.trips = 18 := rfl; omega) q.isLt]; omega)))
  have a10_2 : ∀ (p : Fin 32) (q : Fin 256), View.readAt (Elt Ideal) arg10.view (Rect.unit (s := S72x32x256) (k0_off5 k 2#32) ![1, 32, 256] (k0_off5_inb i k h 2)).toLoadRect f10 (ix3 0 p q) = W0 p (cl (4 * k.val + 2) q.val) :=
    fun p q => (readAt3 arg10.view f10 k.isLt (u := 2) (by decide) (k0_off5_inb i k h 2) (k0_off5_eq k 2) 0 p q).trans ((hI.1.hW p _).trans (if_neg (by rw [cl_val (by have := k.isLt; have h' : k0_t2_loop.trips = 18 := rfl; omega) q.isLt]; omega)))
  have a10_3 : ∀ (p : Fin 32) (q : Fin 256), View.readAt (Elt Ideal) arg10.view (Rect.unit (s := S72x32x256) (k0_off5 k 3#32) ![1, 32, 256] (k0_off5_inb i k h 3)).toLoadRect f10 (ix3 0 p q) = W0 p (cl (4 * k.val + 3) q.val) :=
    fun p q => (readAt3 arg10.view f10 k.isLt (u := 3) (by decide) (k0_off5_inb i k h 3) (k0_off5_eq k 3) 0 p q).trans ((hI.1.hW p _).trans (if_neg (by rw [cl_val (by have := k.isLt; have h' : k0_t2_loop.trips = 18 := rfl; omega) q.isLt]; omega)))
  have a11_0 : ∀ (p : Fin 32) (q : Fin 256), View.readAt (Elt Ideal) arg11.view (Rect.unit (s := S72x32x256) (k0_off5 k 0#32) ![1, 32, 256] (k0_off5_inb i k h 0)).toLoadRect f11 (ix3 0 p q) = X0 p (cl (4 * k.val) q.val) :=
    fun p q => (readAt3 arg11.view f11 k.isLt (u := 0) (by decide) (k0_off5_inb i k h 0) (k0_off5_eq k 0) 0 p q).trans ((hI.1.hX p _).trans (if_neg (by rw [cl_val (by have := k.isLt; have h' : k0_t2_loop.trips = 18 := rfl; omega) q.isLt]; omega)))
  have a11_1 : ∀ (p : Fin 32) (q : Fin 256), View.readAt (Elt Ideal) arg11.view (Rect.unit (s := S72x32x256) (k0_off5 k 1#32) ![1, 32, 256] (k0_off5_inb i k h 1)).toLoadRect f11 (ix3 0 p q) = X0 p (cl (4 * k.val + 1) q.val) :=
    fun p q => (readAt3 arg11.view f11 k.isLt (u := 1) (by decide) (k0_off5_inb i k h 1) (k0_off5_eq k 1) 0 p q).trans ((hI.1.hX p _).trans (if_neg (by rw [cl_val (by have := k.isLt; have h' : k0_t2_loop.trips = 18 := rfl; omega) q.isLt]; omega)))
  have a11_2 : ∀ (p : Fin 32) (q : Fin 256), View.readAt (Elt Ideal) arg11.view (Rect.unit (s := S72x32x256) (k0_off5 k 2#32) ![1, 32, 256] (k0_off5_inb i k h 2)).toLoadRect f11 (ix3 0 p q) = X0 p (cl (4 * k.val + 2) q.val) :=
    fun p q => (readAt3 arg11.view f11 k.isLt (u := 2) (by decide) (k0_off5_inb i k h 2) (k0_off5_eq k 2) 0 p q).trans ((hI.1.hX p _).trans (if_neg (by rw [cl_val (by have := k.isLt; have h' : k0_t2_loop.trips = 18 := rfl; omega) q.isLt]; omega)))
  have a11_3 : ∀ (p : Fin 32) (q : Fin 256), View.readAt (Elt Ideal) arg11.view (Rect.unit (s := S72x32x256) (k0_off5 k 3#32) ![1, 32, 256] (k0_off5_inb i k h 3)).toLoadRect f11 (ix3 0 p q) = X0 p (cl (4 * k.val + 3) q.val) :=
    fun p q => (readAt3 arg11.view f11 k.isLt (u := 3) (by decide) (k0_off5_inb i k h 3) (k0_off5_eq k 3) 0 p q).trans ((hI.1.hX p _).trans (if_neg (by rw [cl_val (by have := k.isLt; have h' : k0_t2_loop.trips = 18 := rfl; omega) q.isLt]; omega)))
  have a13_0 : ∀ (p : Fin 8) (q : Fin 256), View.readAt (Elt Ideal) arg13.view (Rect.unit (s := S72x8x256) (k0_off7 k 0#32) ![1, 8, 256] (k0_off7_inb i k h 0)).toLoadRect f13 (ix3 0 p q) = D0 p (cl (4 * k.val) q.val) :=
    fun p q => (readAt3 arg13.view f13 k.isLt (u := 0) (by decide) (k0_off7_inb i k h 0) (k0_off7_eq k 0) 0 p q).trans ((hI.1.hD p _).trans (if_neg (by rw [cl_val (by have := k.isLt; have h' : k0_t2_loop.trips = 18 := rfl; omega) q.isLt]; omega)))
  have a13_1 : ∀ (p : Fin 8) (q : Fin 256), View.readAt (Elt Ideal) arg13.view (Rect.unit (s := S72x8x256) (k0_off7 k 1#32) ![1, 8, 256] (k0_off7_inb i k h 1)).toLoadRect f13 (ix3 0 p q) = D0 p (cl (4 * k.val + 1) q.val) :=
    fun p q => (readAt3 arg13.view f13 k.isLt (u := 1) (by decide) (k0_off7_inb i k h 1) (k0_off7_eq k 1) 0 p q).trans ((hI.1.hD p _).trans (if_neg (by rw [cl_val (by have := k.isLt; have h' : k0_t2_loop.trips = 18 := rfl; omega) q.isLt]; omega)))
  have a13_2 : ∀ (p : Fin 8) (q : Fin 256), View.readAt (Elt Ideal) arg13.view (Rect.unit (s := S72x8x256) (k0_off7 k 2#32) ![1, 8, 256] (k0_off7_inb i k h 2)).toLoadRect f13 (ix3 0 p q) = D0 p (cl (4 * k.val + 2) q.val) :=
    fun p q => (readAt3 arg13.view f13 k.isLt (u := 2) (by decide) (k0_off7_inb i k h 2) (k0_off7_eq k 2) 0 p q).trans ((hI.1.hD p _).trans (if_neg (by rw [cl_val (by have := k.isLt; have h' : k0_t2_loop.trips = 18 := rfl; omega) q.isLt]; omega)))
  have a13_3 : ∀ (p : Fin 8) (q : Fin 256), View.readAt (Elt Ideal) arg13.view (Rect.unit (s := S72x8x256) (k0_off7 k 3#32) ![1, 8, 256] (k0_off7_inb i k h 3)).toLoadRect f13 (ix3 0 p q) = D0 p (cl (4 * k.val + 3) q.val) :=
    fun p q => (readAt3 arg13.view f13 k.isLt (u := 3) (by decide) (k0_off7_inb i k h 3) (k0_off7_eq k 3) 0 p q).trans ((hI.1.hD p _).trans (if_neg (by rw [cl_val (by have := k.isLt; have h' : k0_t2_loop.trips = 18 := rfl; omega) q.isLt]; omega)))
  refine ⟨⟨step3 arg10.view f10 k.isLt (k0_off5_eq k 0) (k0_off5_eq k 1) (k0_off5_eq k 2) (k0_off5_eq k 3) _ _ _ _ (ww dy dr g r) W0 hI.1.hW ?_ ?_ ?_ ?_, step3 arg11.view f11 k.isLt (k0_off5_eq k 0) (k0_off5_eq k 1) (k0_off5_eq k 2) (k0_off5_eq k 3) _ _ _ _ x X0 hI.1.hX ?_ ?_ ?_ ?_, step3 arg13.view f13 k.isLt (k0_off7_eq k 0) (k0_off7_eq k 1) (k0_off7_eq k 2) (k0_off7_eq k 3) _ _ _ _ (fun a c => D0 a c + dg4 x dy r a c) D0 hI.1.hD ?_ ?_ ?_ ?_, ?_⟩, ⟨step3 arg12.view f12 k.isLt (k0_off5_eq k 0) (k0_off5_eq k 1) (k0_off5_eq k 2) (k0_off5_eq k 3) _ _ _ _ (fun p c => W0 p c - X0 p c * κ p) V0 hI.2.hV ?_ ?_ ?_ ?_, step2 arg7.view f7 k.isLt (k0_off6_eq k 0) (k0_off6_eq k 1) (k0_off6_eq k 2) (k0_off6_eq k 3) _ _ _ _ (fun p c => W0 p c - X0 p c * κ p) hI.2.hT ?_ ?_ ?_ ?_, ?_⟩⟩
  all_goals (intro p q; sl_unfold_run_names; pointwise [k0_pay100, k0_pay102, k0_pay103, k0_pay104, k0_pay105, k0_pay106, k0_pay99])
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · by_cases hq : q.val < 128 <;> simp only [hq, ↓reduceDIte, not_false_eq_true, hv30, hv32, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3] <;> rfl
  · by_cases hq : q.val < 128 <;> simp only [hq, ↓reduceDIte, not_false_eq_true, hv30, hv32, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3] <;> rfl
  · by_cases hq : q.val < 128 <;> simp only [hq, ↓reduceDIte, not_false_eq_true, hv30, hv32, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3] <;> rfl
  · by_cases hq : q.val < 128 <;> simp only [hq, ↓reduceDIte, not_false_eq_true, hv30, hv32, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3] <;> rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    simp only [Nat.mul_add, laneSum, pairSum, hx, hh]
    rw [show a0 (ix2 p q) = laneSum (hx x dy g r) p q.val (4 * k.val) from hI.1.hs p q]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    try rfl
  · simp only [hv30, hv32, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a13_0, a13_1, a13_2, a13_3]
    simp only [Nat.mul_add, laneMax, pairMax, absE]
    rw [show a1 (ix2 p q) = laneMax (fun p c => W0 p c - X0 p c * κ p) p q.val (4 * k.val) from hI.2.hs p q]
    try rfl

end Cert.KernelIdeal.Val

end
-- ==== Proof.Val.Trip3.lean ====
module

public import proofs.«01_k».proof.Proof.Val.Facts

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

/-- What holds before trip `n` of loop 3. -/
abbrev I3 (c : Dev nD) (arg1 : Memref sig .tc .vmem S32x18432 .bf16) (arg2 : Memref sig .tc .vmem S32x18432 .bf16) (arg3 : Memref sig .tc .vmem S32x18432 .bf16) (arg4 : Memref sig .tc .vmem S1x18432 .f32) (arg7 : Memref sig .tc .vmem S32x18432 .bf16) (arg8 : Memref sig .tc .vmem S32x18432 .fp8e5m2) (arg10 : Memref sig .tc .vmem S72x32x256 .f32) (arg11 : Memref sig .tc .vmem S72x32x256 .f32) (arg12 : Memref sig .tc .vmem S72x32x256 .f32) (arg13 : Memref sig .tc .vmem S72x8x256 .f32) (f1 : arg1.view.ty.Contents (Elt Ideal)) (f2 : arg2.view.ty.Contents (Elt Ideal)) (f3 : arg3.view.ty.Contents (Elt Ideal)) (f4 : arg4.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (n : ℕ) (acc : FVec Ideal S32x128 .f32 × FVec Ideal S32x128 .f32) : sProp 𝕄 :=
  iprop(At (F := Ideal) c arg1 f1 ∗ At (F := Ideal) c arg2 f2 ∗ At (F := Ideal) c arg3 f3 ∗ At (F := Ideal) c arg4 f4 ∗ (∃ f7 f8 f10 f11 f12 f13, At (F := Ideal) c arg7 f7 ∗ At (F := Ideal) c arg8 f8 ∗ At (F := Ideal) c arg10 f10 ∗ At (F := Ideal) c arg11 f11 ∗ At (F := Ideal) c arg12 f12 ∗ At (F := Ideal) c arg13 f13 ∗ ⌜FA x dy dr g r W0 X0 D0 n (arg10.view.read (Elt Ideal) f10) (arg11.view.read (Elt Ideal) f11) (arg13.view.read (Elt Ideal) f13) acc.1 ∧ FB (fun p c => W0 p c - X0 p c * κ p) V0 n (arg12.view.read (Elt Ideal) f12) (arg7.view.read (Elt Ideal) f7) acc.2 ∧ FC V0 ι n (arg8.view.read (Elt Ideal) f8)⌝))

set_option maxHeartbeats 8000000 in
/-- One trip of loop 3. -/
theorem trip3 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond4 i = 1#1) (v30 v32 v34 : Vec Ideal S32x128 .f32) (f1 : arg1.view.ty.Contents (Elt Ideal)) (f2 : arg2.view.ty.Contents (Elt Ideal)) (f3 : arg3.view.ty.Contents (Elt Ideal)) (f4 : arg4.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (i1 : ∀ p c, (arg1.view.read (Elt Ideal) f1) (ix2 p c) = x p c) (i2 : ∀ p c, (arg2.view.read (Elt Ideal) f2) (ix2 p c) = dy p c) (i3 : ∀ p c, (arg3.view.read (Elt Ideal) f3) (ix2 p c) = dr p c) (i4 : ∀ c, (arg4.view.read (Elt Ideal) f4) (ix2 0 c) = g c) (hv30 : ∀ p l, v30 (ix2 p l) = r p) (hv32 : ∀ p l, v32 (ix2 p l) = κ p) (hv34 : ∀ p l, v34 (ix2 p l) = ι p)
    (k : Fin k0_t3_loop.trips) (acc : FVec Ideal S32x128 .f32 × FVec Ideal S32x128 .f32) :
    I3 c arg1 arg2 arg3 arg4 arg7 arg8 arg10 arg11 arg12 arg13 f1 f2 f3 f4 x dy dr g r κ ι W0 X0 V0 D0 k.val acc
      ⊢ wp frame (wpE (defs₀ (F := Ideal)) Variants.none c none) Set.univ (k0_t3_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 v34 k acc)
          (fun acc' => I3 c arg1 arg2 arg3 arg4 arg7 arg8 arg10 arg11 arg12 arg13 f1 f2 f3 f4 x dy dr g r κ ι W0 X0 V0 D0 (k.val + 1) acc') := by
  obtain ⟨a0, a1⟩ := acc
  iintro ⟨H1, H2, H3, H4, %f7, %f8, %f10, %f11, %f12, %f13, H7, H8, H10, H11, H12, H13, %hI⟩
  unfold k0_t3_body
  sl_exec
  sl_step
  isplitl [H1]; · iexact H1
  isplitl [H2]; · iexact H2
  isplitl [H3]; · iexact H3
  isplitl [H4]; · iexact H4
  iexists _, _, _, _, _, _
  isplitl [H7]; · iexact H7
  isplitl [H8]; · iexact H8
  isplitl [H10]; · iexact H10
  isplitl [H11]; · iexact H11
  isplitl [H12]; · iexact H12
  isplitl [H13]; · iexact H13
  ipureintro
  have a1_0 : ∀ (p : Fin 32) (q : Fin 256), View.readAt (Elt Ideal) arg1.view (Rect.unit (s := S32x18432) (k0_off10 k 0#32) ![32, 256] (k0_off10_inb i k h 0)).toLoadRect f1 (ix2 p q) = x p (cl (4 * k.val) q.val) :=
    fun p q => (readAt2 arg1.view f1 k.isLt (u := 0) (by decide) (k0_off10_inb i k h 0) (k0_off10_eq k 0) p q).trans (i1 p _)
  have a1_1 : ∀ (p : Fin 32) (q : Fin 256), View.readAt (Elt Ideal) arg1.view (Rect.unit (s := S32x18432) (k0_off10 k 1#32) ![32, 256] (k0_off10_inb i k h 1)).toLoadRect f1 (ix2 p q) = x p (cl (4 * k.val + 1) q.val) :=
    fun p q => (readAt2 arg1.view f1 k.isLt (u := 1) (by decide) (k0_off10_inb i k h 1) (k0_off10_eq k 1) p q).trans (i1 p _)
  have a1_2 : ∀ (p : Fin 32) (q : Fin 256), View.readAt (Elt Ideal) arg1.view (Rect.unit (s := S32x18432) (k0_off10 k 2#32) ![32, 256] (k0_off10_inb i k h 2)).toLoadRect f1 (ix2 p q) = x p (cl (4 * k.val + 2) q.val) :=
    fun p q => (readAt2 arg1.view f1 k.isLt (u := 2) (by decide) (k0_off10_inb i k h 2) (k0_off10_eq k 2) p q).trans (i1 p _)
  have a1_3 : ∀ (p : Fin 32) (q : Fin 256), View.readAt (Elt Ideal) arg1.view (Rect.unit (s := S32x18432) (k0_off10 k 3#32) ![32, 256] (k0_off10_inb i k h 3)).toLoadRect f1 (ix2 p q) = x p (cl (4 * k.val + 3) q.val) :=
    fun p q => (readAt2 arg1.view f1 k.isLt (u := 3) (by decide) (k0_off10_inb i k h 3) (k0_off10_eq k 3) p q).trans (i1 p _)
  have a2_0 : ∀ (p : Fin 32) (q : Fin 256), View.readAt (Elt Ideal) arg2.view (Rect.unit (s := S32x18432) (k0_off10 k 0#32) ![32, 256] (k0_off10_inb i k h 0)).toLoadRect f2 (ix2 p q) = dy p (cl (4 * k.val) q.val) :=
    fun p q => (readAt2 arg2.view f2 k.isLt (u := 0) (by decide) (k0_off10_inb i k h 0) (k0_off10_eq k 0) p q).trans (i2 p _)
  have a2_1 : ∀ (p : Fin 32) (q : Fin 256), View.readAt (Elt Ideal) arg2.view (Rect.unit (s := S32x18432) (k0_off10 k 1#32) ![32, 256] (k0_off10_inb i k h 1)).toLoadRect f2 (ix2 p q) = dy p (cl (4 * k.val + 1) q.val) :=
    fun p q => (readAt2 arg2.view f2 k.isLt (u := 1) (by decide) (k0_off10_inb i k h 1) (k0_off10_eq k 1) p q).trans (i2 p _)
  have a2_2 : ∀ (p : Fin 32) (q : Fin 256), View.readAt (Elt Ideal) arg2.view (Rect.unit (s := S32x18432) (k0_off10 k 2#32) ![32, 256] (k0_off10_inb i k h 2)).toLoadRect f2 (ix2 p q) = dy p (cl (4 * k.val + 2) q.val) :=
    fun p q => (readAt2 arg2.view f2 k.isLt (u := 2) (by decide) (k0_off10_inb i k h 2) (k0_off10_eq k 2) p q).trans (i2 p _)
  have a2_3 : ∀ (p : Fin 32) (q : Fin 256), View.readAt (Elt Ideal) arg2.view (Rect.unit (s := S32x18432) (k0_off10 k 3#32) ![32, 256] (k0_off10_inb i k h 3)).toLoadRect f2 (ix2 p q) = dy p (cl (4 * k.val + 3) q.val) :=
    fun p q => (readAt2 arg2.view f2 k.isLt (u := 3) (by decide) (k0_off10_inb i k h 3) (k0_off10_eq k 3) p q).trans (i2 p _)
  have a3_0 : ∀ (p : Fin 32) (q : Fin 256), View.readAt (Elt Ideal) arg3.view (Rect.unit (s := S32x18432) (k0_off10 k 0#32) ![32, 256] (k0_off10_inb i k h 0)).toLoadRect f3 (ix2 p q) = dr p (cl (4 * k.val) q.val) :=
    fun p q => (readAt2 arg3.view f3 k.isLt (u := 0) (by decide) (k0_off10_inb i k h 0) (k0_off10_eq k 0) p q).trans (i3 p _)
  have a3_1 : ∀ (p : Fin 32) (q : Fin 256), View.readAt (Elt Ideal) arg3.view (Rect.unit (s := S32x18432) (k0_off10 k 1#32) ![32, 256] (k0_off10_inb i k h 1)).toLoadRect f3 (ix2 p q) = dr p (cl (4 * k.val + 1) q.val) :=
    fun p q => (readAt2 arg3.view f3 k.isLt (u := 1) (by decide) (k0_off10_inb i k h 1) (k0_off10_eq k 1) p q).trans (i3 p _)
  have a3_2 : ∀ (p : Fin 32) (q : Fin 256), View.readAt (Elt Ideal) arg3.view (Rect.unit (s := S32x18432) (k0_off10 k 2#32) ![32, 256] (k0_off10_inb i k h 2)).toLoadRect f3 (ix2 p q) = dr p (cl (4 * k.val + 2) q.val) :=
    fun p q => (readAt2 arg3.view f3 k.isLt (u := 2) (by decide) (k0_off10_inb i k h 2) (k0_off10_eq k 2) p q).trans (i3 p _)
  have a3_3 : ∀ (p : Fin 32) (q : Fin 256), View.readAt (Elt Ideal) arg3.view (Rect.unit (s := S32x18432) (k0_off10 k 3#32) ![32, 256] (k0_off10_inb i k h 3)).toLoadRect f3 (ix2 p q) = dr p (cl (4 * k.val + 3) q.val) :=
    fun p q => (readAt2 arg3.view f3 k.isLt (u := 3) (by decide) (k0_off10_inb i k h 3) (k0_off10_eq k 3) p q).trans (i3 p _)
  have a4_0 : ∀ (q : Fin 256), View.readAt (Elt Ideal) arg4.view (Rect.unit (s := S1x18432) (k0_off12 k 0#32) ![1, 256] (k0_off12_inb i k h 0)).toLoadRect f4 (ix2 0 q) = g (cl (4 * k.val) q.val) :=
    fun q => (readAt2 arg4.view f4 k.isLt (u := 0) (by decide) (k0_off12_inb i k h 0) (k0_off12_eq k 0) 0 q).trans (i4 _)
  have a4_1 : ∀ (q : Fin 256), View.readAt (Elt Ideal) arg4.view (Rect.unit (s := S1x18432) (k0_off12 k 1#32) ![1, 256] (k0_off12_inb i k h 1)).toLoadRect f4 (ix2 0 q) = g (cl (4 * k.val + 1) q.val) :=
    fun q => (readAt2 arg4.view f4 k.isLt (u := 1) (by decide) (k0_off12_inb i k h 1) (k0_off12_eq k 1) 0 q).trans (i4 _)
  have a4_2 : ∀ (q : Fin 256), View.readAt (Elt Ideal) arg4.view (Rect.unit (s := S1x18432) (k0_off12 k 2#32) ![1, 256] (k0_off12_inb i k h 2)).toLoadRect f4 (ix2 0 q) = g (cl (4 * k.val + 2) q.val) :=
    fun q => (readAt2 arg4.view f4 k.isLt (u := 2) (by decide) (k0_off12_inb i k h 2) (k0_off12_eq k 2) 0 q).trans (i4 _)
  have a4_3 : ∀ (q : Fin 256), View.readAt (Elt Ideal) arg4.view (Rect.unit (s := S1x18432) (k0_off12 k 3#32) ![1, 256] (k0_off12_inb i k h 3)).toLoadRect f4 (ix2 0 q) = g (cl (4 * k.val + 3) q.val) :=
    fun q => (readAt2 arg4.view f4 k.isLt (u := 3) (by decide) (k0_off12_inb i k h 3) (k0_off12_eq k 3) 0 q).trans (i4 _)
  have a10_0 : ∀ (p : Fin 32) (q : Fin 256), View.readAt (Elt Ideal) arg10.view (Rect.unit (s := S72x32x256) (k0_off9 k 0#32) ![1, 32, 256] (k0_off9_inb i k h 0)).toLoadRect f10 (ix3 0 p q) = W0 p (cl (4 * k.val) q.val) :=
    fun p q => (readAt3 arg10.view f10 k.isLt (u := 0) (by decide) (k0_off9_inb i k h 0) (k0_off9_eq k 0) 0 p q).trans ((hI.1.hW p _).trans (if_neg (by rw [cl_val (by have := k.isLt; have h' : k0_t3_loop.trips = 18 := rfl; omega) q.isLt]; omega)))
  have a10_1 : ∀ (p : Fin 32) (q : Fin 256), View.readAt (Elt Ideal) arg10.view (Rect.unit (s := S72x32x256) (k0_off9 k 1#32) ![1, 32, 256] (k0_off9_inb i k h 1)).toLoadRect f10 (ix3 0 p q) = W0 p (cl (4 * k.val + 1) q.val) :=
    fun p q => (readAt3 arg10.view f10 k.isLt (u := 1) (by decide) (k0_off9_inb i k h 1) (k0_off9_eq k 1) 0 p q).trans ((hI.1.hW p _).trans (if_neg (by rw [cl_val (by have := k.isLt; have h' : k0_t3_loop.trips = 18 := rfl; omega) q.isLt]; omega)))
  have a10_2 : ∀ (p : Fin 32) (q : Fin 256), View.readAt (Elt Ideal) arg10.view (Rect.unit (s := S72x32x256) (k0_off9 k 2#32) ![1, 32, 256] (k0_off9_inb i k h 2)).toLoadRect f10 (ix3 0 p q) = W0 p (cl (4 * k.val + 2) q.val) :=
    fun p q => (readAt3 arg10.view f10 k.isLt (u := 2) (by decide) (k0_off9_inb i k h 2) (k0_off9_eq k 2) 0 p q).trans ((hI.1.hW p _).trans (if_neg (by rw [cl_val (by have := k.isLt; have h' : k0_t3_loop.trips = 18 := rfl; omega) q.isLt]; omega)))
  have a10_3 : ∀ (p : Fin 32) (q : Fin 256), View.readAt (Elt Ideal) arg10.view (Rect.unit (s := S72x32x256) (k0_off9 k 3#32) ![1, 32, 256] (k0_off9_inb i k h 3)).toLoadRect f10 (ix3 0 p q) = W0 p (cl (4 * k.val + 3) q.val) :=
    fun p q => (readAt3 arg10.view f10 k.isLt (u := 3) (by decide) (k0_off9_inb i k h 3) (k0_off9_eq k 3) 0 p q).trans ((hI.1.hW p _).trans (if_neg (by rw [cl_val (by have := k.isLt; have h' : k0_t3_loop.trips = 18 := rfl; omega) q.isLt]; omega)))
  have a11_0 : ∀ (p : Fin 32) (q : Fin 256), View.readAt (Elt Ideal) arg11.view (Rect.unit (s := S72x32x256) (k0_off9 k 0#32) ![1, 32, 256] (k0_off9_inb i k h 0)).toLoadRect f11 (ix3 0 p q) = X0 p (cl (4 * k.val) q.val) :=
    fun p q => (readAt3 arg11.view f11 k.isLt (u := 0) (by decide) (k0_off9_inb i k h 0) (k0_off9_eq k 0) 0 p q).trans ((hI.1.hX p _).trans (if_neg (by rw [cl_val (by have := k.isLt; have h' : k0_t3_loop.trips = 18 := rfl; omega) q.isLt]; omega)))
  have a11_1 : ∀ (p : Fin 32) (q : Fin 256), View.readAt (Elt Ideal) arg11.view (Rect.unit (s := S72x32x256) (k0_off9 k 1#32) ![1, 32, 256] (k0_off9_inb i k h 1)).toLoadRect f11 (ix3 0 p q) = X0 p (cl (4 * k.val + 1) q.val) :=
    fun p q => (readAt3 arg11.view f11 k.isLt (u := 1) (by decide) (k0_off9_inb i k h 1) (k0_off9_eq k 1) 0 p q).trans ((hI.1.hX p _).trans (if_neg (by rw [cl_val (by have := k.isLt; have h' : k0_t3_loop.trips = 18 := rfl; omega) q.isLt]; omega)))
  have a11_2 : ∀ (p : Fin 32) (q : Fin 256), View.readAt (Elt Ideal) arg11.view (Rect.unit (s := S72x32x256) (k0_off9 k 2#32) ![1, 32, 256] (k0_off9_inb i k h 2)).toLoadRect f11 (ix3 0 p q) = X0 p (cl (4 * k.val + 2) q.val) :=
    fun p q => (readAt3 arg11.view f11 k.isLt (u := 2) (by decide) (k0_off9_inb i k h 2) (k0_off9_eq k 2) 0 p q).trans ((hI.1.hX p _).trans (if_neg (by rw [cl_val (by have := k.isLt; have h' : k0_t3_loop.trips = 18 := rfl; omega) q.isLt]; omega)))
  have a11_3 : ∀ (p : Fin 32) (q : Fin 256), View.readAt (Elt Ideal) arg11.view (Rect.unit (s := S72x32x256) (k0_off9 k 3#32) ![1, 32, 256] (k0_off9_inb i k h 3)).toLoadRect f11 (ix3 0 p q) = X0 p (cl (4 * k.val + 3) q.val) :=
    fun p q => (readAt3 arg11.view f11 k.isLt (u := 3) (by decide) (k0_off9_inb i k h 3) (k0_off9_eq k 3) 0 p q).trans ((hI.1.hX p _).trans (if_neg (by rw [cl_val (by have := k.isLt; have h' : k0_t3_loop.trips = 18 := rfl; omega) q.isLt]; omega)))
  have a12_0 : ∀ (p : Fin 32) (q : Fin 256), View.readAt (Elt Ideal) arg12.view (Rect.unit (s := S72x32x256) (k0_off9 k 0#32) ![1, 32, 256] (k0_off9_inb i k h 0)).toLoadRect f12 (ix3 0 p q) = V0 p (cl (4 * k.val) q.val) :=
    fun p q => (readAt3 arg12.view f12 k.isLt (u := 0) (by decide) (k0_off9_inb i k h 0) (k0_off9_eq k 0) 0 p q).trans ((hI.2.1.hV p _).trans (if_neg (by rw [cl_val (by have := k.isLt; have h' : k0_t3_loop.trips = 18 := rfl; omega) q.isLt]; omega)))
  have a12_1 : ∀ (p : Fin 32) (q : Fin 256), View.readAt (Elt Ideal) arg12.view (Rect.unit (s := S72x32x256) (k0_off9 k 1#32) ![1, 32, 256] (k0_off9_inb i k h 1)).toLoadRect f12 (ix3 0 p q) = V0 p (cl (4 * k.val + 1) q.val) :=
    fun p q => (readAt3 arg12.view f12 k.isLt (u := 1) (by decide) (k0_off9_inb i k h 1) (k0_off9_eq k 1) 0 p q).trans ((hI.2.1.hV p _).trans (if_neg (by rw [cl_val (by have := k.isLt; have h' : k0_t3_loop.trips = 18 := rfl; omega) q.isLt]; omega)))
  have a12_2 : ∀ (p : Fin 32) (q : Fin 256), View.readAt (Elt Ideal) arg12.view (Rect.unit (s := S72x32x256) (k0_off9 k 2#32) ![1, 32, 256] (k0_off9_inb i k h 2)).toLoadRect f12 (ix3 0 p q) = V0 p (cl (4 * k.val + 2) q.val) :=
    fun p q => (readAt3 arg12.view f12 k.isLt (u := 2) (by decide) (k0_off9_inb i k h 2) (k0_off9_eq k 2) 0 p q).trans ((hI.2.1.hV p _).trans (if_neg (by rw [cl_val (by have := k.isLt; have h' : k0_t3_loop.trips = 18 := rfl; omega) q.isLt]; omega)))
  have a12_3 : ∀ (p : Fin 32) (q : Fin 256), View.readAt (Elt Ideal) arg12.view (Rect.unit (s := S72x32x256) (k0_off9 k 3#32) ![1, 32, 256] (k0_off9_inb i k h 3)).toLoadRect f12 (ix3 0 p q) = V0 p (cl (4 * k.val + 3) q.val) :=
    fun p q => (readAt3 arg12.view f12 k.isLt (u := 3) (by decide) (k0_off9_inb i k h 3) (k0_off9_eq k 3) 0 p q).trans ((hI.2.1.hV p _).trans (if_neg (by rw [cl_val (by have := k.isLt; have h' : k0_t3_loop.trips = 18 := rfl; omega) q.isLt]; omega)))
  have a13_0 : ∀ (p : Fin 8) (q : Fin 256), View.readAt (Elt Ideal) arg13.view (Rect.unit (s := S72x8x256) (k0_off11 k 0#32) ![1, 8, 256] (k0_off11_inb i k h 0)).toLoadRect f13 (ix3 0 p q) = D0 p (cl (4 * k.val) q.val) :=
    fun p q => (readAt3 arg13.view f13 k.isLt (u := 0) (by decide) (k0_off11_inb i k h 0) (k0_off11_eq k 0) 0 p q).trans ((hI.1.hD p _).trans (if_neg (by rw [cl_val (by have := k.isLt; have h' : k0_t3_loop.trips = 18 := rfl; omega) q.isLt]; omega)))
  have a13_1 : ∀ (p : Fin 8) (q : Fin 256), View.readAt (Elt Ideal) arg13.view (Rect.unit (s := S72x8x256) (k0_off11 k 1#32) ![1, 8, 256] (k0_off11_inb i k h 1)).toLoadRect f13 (ix3 0 p q) = D0 p (cl (4 * k.val + 1) q.val) :=
    fun p q => (readAt3 arg13.view f13 k.isLt (u := 1) (by decide) (k0_off11_inb i k h 1) (k0_off11_eq k 1) 0 p q).trans ((hI.1.hD p _).trans (if_neg (by rw [cl_val (by have := k.isLt; have h' : k0_t3_loop.trips = 18 := rfl; omega) q.isLt]; omega)))
  have a13_2 : ∀ (p : Fin 8) (q : Fin 256), View.readAt (Elt Ideal) arg13.view (Rect.unit (s := S72x8x256) (k0_off11 k 2#32) ![1, 8, 256] (k0_off11_inb i k h 2)).toLoadRect f13 (ix3 0 p q) = D0 p (cl (4 * k.val + 2) q.val) :=
    fun p q => (readAt3 arg13.view f13 k.isLt (u := 2) (by decide) (k0_off11_inb i k h 2) (k0_off11_eq k 2) 0 p q).trans ((hI.1.hD p _).trans (if_neg (by rw [cl_val (by have := k.isLt; have h' : k0_t3_loop.trips = 18 := rfl; omega) q.isLt]; omega)))
  have a13_3 : ∀ (p : Fin 8) (q : Fin 256), View.readAt (Elt Ideal) arg13.view (Rect.unit (s := S72x8x256) (k0_off11 k 3#32) ![1, 8, 256] (k0_off11_inb i k h 3)).toLoadRect f13 (ix3 0 p q) = D0 p (cl (4 * k.val + 3) q.val) :=
    fun p q => (readAt3 arg13.view f13 k.isLt (u := 3) (by decide) (k0_off11_inb i k h 3) (k0_off11_eq k 3) 0 p q).trans ((hI.1.hD p _).trans (if_neg (by rw [cl_val (by have := k.isLt; have h' : k0_t3_loop.trips = 18 := rfl; omega) q.isLt]; omega)))
  refine ⟨⟨step3 arg10.view f10 k.isLt (k0_off9_eq k 0) (k0_off9_eq k 1) (k0_off9_eq k 2) (k0_off9_eq k 3) _ _ _ _ (ww dy dr g r) W0 hI.1.hW ?_ ?_ ?_ ?_, step3 arg11.view f11 k.isLt (k0_off9_eq k 0) (k0_off9_eq k 1) (k0_off9_eq k 2) (k0_off9_eq k 3) _ _ _ _ x X0 hI.1.hX ?_ ?_ ?_ ?_, step3 arg13.view f13 k.isLt (k0_off11_eq k 0) (k0_off11_eq k 1) (k0_off11_eq k 2) (k0_off11_eq k 3) _ _ _ _ (fun a c => D0 a c + dg4 x dy r a c) D0 hI.1.hD ?_ ?_ ?_ ?_, ?_⟩, ⟨step3 arg12.view f12 k.isLt (k0_off9_eq k 0) (k0_off9_eq k 1) (k0_off9_eq k 2) (k0_off9_eq k 3) _ _ _ _ (fun p c => W0 p c - X0 p c * κ p) V0 hI.2.1.hV ?_ ?_ ?_ ?_, step2 arg7.view f7 k.isLt (k0_off10_eq k 0) (k0_off10_eq k 1) (k0_off10_eq k 2) (k0_off10_eq k 3) _ _ _ _ (fun p c => W0 p c - X0 p c * κ p) hI.2.1.hT ?_ ?_ ?_ ?_, ?_⟩, ⟨step2 arg8.view f8 k.isLt (k0_off10_eq k 0) (k0_off10_eq k 1) (k0_off10_eq k 2) (k0_off10_eq k 3) _ _ _ _ (fun p c => clipE (V0 p c * ι p)) hI.2.2.hC ?_ ?_ ?_ ?_⟩⟩
  all_goals (intro p q; sl_unfold_run_names; pointwise [k0_pay177, k0_pay178, k0_pay179, k0_pay181, k0_pay182, k0_pay183, k0_pay184, k0_pay185])
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · by_cases hq : q.val < 128 <;> simp only [hq, ↓reduceDIte, not_false_eq_true, hv30, hv32, hv34, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3] <;> rfl
  · by_cases hq : q.val < 128 <;> simp only [hq, ↓reduceDIte, not_false_eq_true, hv30, hv32, hv34, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3] <;> rfl
  · by_cases hq : q.val < 128 <;> simp only [hq, ↓reduceDIte, not_false_eq_true, hv30, hv32, hv34, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3] <;> rfl
  · by_cases hq : q.val < 128 <;> simp only [hq, ↓reduceDIte, not_false_eq_true, hv30, hv32, hv34, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3] <;> rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    simp only [Nat.mul_add, laneSum, pairSum, hx, hh]
    rw [show a0 (ix2 p q) = laneSum (hx x dy g r) p q.val (4 * k.val) from hI.1.hs p q]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    simp only [Nat.mul_add, laneMax, pairMax, absE]
    rw [show a1 (ix2 p q) = laneMax (fun p c => W0 p c - X0 p c * κ p) p q.val (4 * k.val) from hI.2.1.hs p q]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl
  · simp only [hv30, hv32, hv34, dite_eq_ite, ite_self, a1_0, a1_1, a1_2, a1_3, a2_0, a2_1, a2_2, a2_3, a3_0, a3_1, a3_2, a3_3, a4_0, a4_1, a4_2, a4_3, a10_0, a10_1, a10_2, a10_3, a11_0, a11_1, a11_2, a11_3, a12_0, a12_1, a12_2, a12_3, a13_0, a13_1, a13_2, a13_3]
    try rfl

end Cert.KernelIdeal.Val

end
-- ==== Proof.Val.Trip4.lean ====
module

public import proofs.«01_k».proof.Proof.Val.Facts

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

/-- What holds before trip `n` of loop 4. -/
abbrev I4 (c : Dev nD) (arg7 : Memref sig .tc .vmem S32x18432 .bf16) (arg8 : Memref sig .tc .vmem S32x18432 .fp8e5m2) (arg10 : Memref sig .tc .vmem S72x32x256 .f32) (arg11 : Memref sig .tc .vmem S72x32x256 .f32) (arg12 : Memref sig .tc .vmem S72x32x256 .f32) (f10 : arg10.view.ty.Contents (Elt Ideal)) (f11 : arg11.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (n : ℕ) (acc : FVec Ideal S32x128 .f32) : sProp 𝕄 :=
  iprop(At (F := Ideal) c arg10 f10 ∗ At (F := Ideal) c arg11 f11 ∗ (∃ f7 f8 f12, At (F := Ideal) c arg7 f7 ∗ At (F := Ideal) c arg8 f8 ∗ At (F := Ideal) c arg12 f12 ∗ ⌜FB (fun p c => W0 p c - X0 p c * κ p) V0 n (arg12.view.read (Elt Ideal) f12) (arg7.view.read (Elt Ideal) f7) acc ∧ FC V0 ι n (arg8.view.read (Elt Ideal) f8)⌝))

set_option maxHeartbeats 8000000 in
/-- One trip of loop 4. -/
theorem trip4 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond5 i = 1#1) (v30 v32 : Vec Ideal S32x128 .f32) (f10 : arg10.view.ty.Contents (Elt Ideal)) (f11 : arg11.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (i10 : ∀ p c, (arg10.view.read (Elt Ideal) f10) (at3 p c) = W0 p c) (i11 : ∀ p c, (arg11.view.read (Elt Ideal) f11) (at3 p c) = X0 p c) (hv30 : ∀ p l, v30 (ix2 p l) = κ p) (hv32 : ∀ p l, v32 (ix2 p l) = ι p)
    (k : Fin k0_t4_loop.trips) (acc : FVec Ideal S32x128 .f32) :
    I4 c arg7 arg8 arg10 arg11 arg12 f10 f11 x dy dr g r κ ι W0 X0 V0 D0 k.val acc
      ⊢ wp frame (wpE (defs₀ (F := Ideal)) Variants.none c none) Set.univ (k0_t4_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 v32 k acc)
          (fun acc' => I4 c arg7 arg8 arg10 arg11 arg12 f10 f11 x dy dr g r κ ι W0 X0 V0 D0 (k.val + 1) acc') := by
  skip
  iintro ⟨H10, H11, %f7, %f8, %f12, H7, H8, H12, %hI⟩
  unfold k0_t4_body
  sl_exec
  sl_step
  isplitl [H10]; · iexact H10
  isplitl [H11]; · iexact H11
  iexists _, _, _
  isplitl [H7]; · iexact H7
  isplitl [H8]; · iexact H8
  isplitl [H12]; · iexact H12
  ipureintro
  have a10_0 : ∀ (p : Fin 32) (q : Fin 256), View.readAt (Elt Ideal) arg10.view (Rect.unit (s := S72x32x256) (k0_off13 k 0#32) ![1, 32, 256] (k0_off13_inb i k h 0)).toLoadRect f10 (ix3 0 p q) = W0 p (cl (4 * k.val) q.val) :=
    fun p q => (readAt3 arg10.view f10 k.isLt (u := 0) (by decide) (k0_off13_inb i k h 0) (k0_off13_eq k 0) 0 p q).trans (i10 p _)
  have a10_1 : ∀ (p : Fin 32) (q : Fin 256), View.readAt (Elt Ideal) arg10.view (Rect.unit (s := S72x32x256) (k0_off13 k 1#32) ![1, 32, 256] (k0_off13_inb i k h 1)).toLoadRect f10 (ix3 0 p q) = W0 p (cl (4 * k.val + 1) q.val) :=
    fun p q => (readAt3 arg10.view f10 k.isLt (u := 1) (by decide) (k0_off13_inb i k h 1) (k0_off13_eq k 1) 0 p q).trans (i10 p _)
  have a10_2 : ∀ (p : Fin 32) (q : Fin 256), View.readAt (Elt Ideal) arg10.view (Rect.unit (s := S72x32x256) (k0_off13 k 2#32) ![1, 32, 256] (k0_off13_inb i k h 2)).toLoadRect f10 (ix3 0 p q) = W0 p (cl (4 * k.val + 2) q.val) :=
    fun p q => (readAt3 arg10.view f10 k.isLt (u := 2) (by decide) (k0_off13_inb i k h 2) (k0_off13_eq k 2) 0 p q).trans (i10 p _)
  have a10_3 : ∀ (p : Fin 32) (q : Fin 256), View.readAt (Elt Ideal) arg10.view (Rect.unit (s := S72x32x256) (k0_off13 k 3#32) ![1, 32, 256] (k0_off13_inb i k h 3)).toLoadRect f10 (ix3 0 p q) = W0 p (cl (4 * k.val + 3) q.val) :=
    fun p q => (readAt3 arg10.view f10 k.isLt (u := 3) (by decide) (k0_off13_inb i k h 3) (k0_off13_eq k 3) 0 p q).trans (i10 p _)
  have a11_0 : ∀ (p : Fin 32) (q : Fin 256), View.readAt (Elt Ideal) arg11.view (Rect.unit (s := S72x32x256) (k0_off13 k 0#32) ![1, 32, 256] (k0_off13_inb i k h 0)).toLoadRect f11 (ix3 0 p q) = X0 p (cl (4 * k.val) q.val) :=
    fun p q => (readAt3 arg11.view f11 k.isLt (u := 0) (by decide) (k0_off13_inb i k h 0) (k0_off13_eq k 0) 0 p q).trans (i11 p _)
  have a11_1 : ∀ (p : Fin 32) (q : Fin 256), View.readAt (Elt Ideal) arg11.view (Rect.unit (s := S72x32x256) (k0_off13 k 1#32) ![1, 32, 256] (k0_off13_inb i k h 1)).toLoadRect f11 (ix3 0 p q) = X0 p (cl (4 * k.val + 1) q.val) :=
    fun p q => (readAt3 arg11.view f11 k.isLt (u := 1) (by decide) (k0_off13_inb i k h 1) (k0_off13_eq k 1) 0 p q).trans (i11 p _)
  have a11_2 : ∀ (p : Fin 32) (q : Fin 256), View.readAt (Elt Ideal) arg11.view (Rect.unit (s := S72x32x256) (k0_off13 k 2#32) ![1, 32, 256] (k0_off13_inb i k h 2)).toLoadRect f11 (ix3 0 p q) = X0 p (cl (4 * k.val + 2) q.val) :=
    fun p q => (readAt3 arg11.view f11 k.isLt (u := 2) (by decide) (k0_off13_inb i k h 2) (k0_off13_eq k 2) 0 p q).trans (i11 p _)
  have a11_3 : ∀ (p : Fin 32) (q : Fin 256), View.readAt (Elt Ideal) arg11.view (Rect.unit (s := S72x32x256) (k0_off13 k 3#32) ![1, 32, 256] (k0_off13_inb i k h 3)).toLoadRect f11 (ix3 0 p q) = X0 p (cl (4 * k.val + 3) q.val) :=
    fun p q => (readAt3 arg11.view f11 k.isLt (u := 3) (by decide) (k0_off13_inb i k h 3) (k0_off13_eq k 3) 0 p q).trans (i11 p _)
  have a12_0 : ∀ (p : Fin 32) (q : Fin 256), View.readAt (Elt Ideal) arg12.view (Rect.unit (s := S72x32x256) (k0_off13 k 0#32) ![1, 32, 256] (k0_off13_inb i k h 0)).toLoadRect f12 (ix3 0 p q) = V0 p (cl (4 * k.val) q.val) :=
    fun p q => (readAt3 arg12.view f12 k.isLt (u := 0) (by decide) (k0_off13_inb i k h 0) (k0_off13_eq k 0) 0 p q).trans ((hI.1.hV p _).trans (if_neg (by rw [cl_val (by have := k.isLt; have h' : k0_t4_loop.trips = 18 := rfl; omega) q.isLt]; omega)))
  have a12_1 : ∀ (p : Fin 32) (q : Fin 256), View.readAt (Elt Ideal) arg12.view (Rect.unit (s := S72x32x256) (k0_off13 k 1#32) ![1, 32, 256] (k0_off13_inb i k h 1)).toLoadRect f12 (ix3 0 p q) = V0 p (cl (4 * k.val + 1) q.val) :=
    fun p q => (readAt3 arg12.view f12 k.isLt (u := 1) (by decide) (k0_off13_inb i k h 1) (k0_off13_eq k 1) 0 p q).trans ((hI.1.hV p _).trans (if_neg (by rw [cl_val (by have := k.isLt; have h' : k0_t4_loop.trips = 18 := rfl; omega) q.isLt]; omega)))
  have a12_2 : ∀ (p : Fin 32) (q : Fin 256), View.readAt (Elt Ideal) arg12.view (Rect.unit (s := S72x32x256) (k0_off13 k 2#32) ![1, 32, 256] (k0_off13_inb i k h 2)).toLoadRect f12 (ix3 0 p q) = V0 p (cl (4 * k.val + 2) q.val) :=
    fun p q => (readAt3 arg12.view f12 k.isLt (u := 2) (by decide) (k0_off13_inb i k h 2) (k0_off13_eq k 2) 0 p q).trans ((hI.1.hV p _).trans (if_neg (by rw [cl_val (by have := k.isLt; have h' : k0_t4_loop.trips = 18 := rfl; omega) q.isLt]; omega)))
  have a12_3 : ∀ (p : Fin 32) (q : Fin 256), View.readAt (Elt Ideal) arg12.view (Rect.unit (s := S72x32x256) (k0_off13 k 3#32) ![1, 32, 256] (k0_off13_inb i k h 3)).toLoadRect f12 (ix3 0 p q) = V0 p (cl (4 * k.val + 3) q.val) :=
    fun p q => (readAt3 arg12.view f12 k.isLt (u := 3) (by decide) (k0_off13_inb i k h 3) (k0_off13_eq k 3) 0 p q).trans ((hI.1.hV p _).trans (if_neg (by rw [cl_val (by have := k.isLt; have h' : k0_t4_loop.trips = 18 := rfl; omega) q.isLt]; omega)))
  refine ⟨⟨step3 arg12.view f12 k.isLt (k0_off13_eq k 0) (k0_off13_eq k 1) (k0_off13_eq k 2) (k0_off13_eq k 3) _ _ _ _ (fun p c => W0 p c - X0 p c * κ p) V0 hI.1.hV ?_ ?_ ?_ ?_, step2 arg7.view f7 k.isLt (k0_off14_eq k 0) (k0_off14_eq k 1) (k0_off14_eq k 2) (k0_off14_eq k 3) _ _ _ _ (fun p c => W0 p c - X0 p c * κ p) hI.1.hT ?_ ?_ ?_ ?_, ?_⟩, ⟨step2 arg8.view f8 k.isLt (k0_off14_eq k 0) (k0_off14_eq k 1) (k0_off14_eq k 2) (k0_off14_eq k 3) _ _ _ _ (fun p c => clipE (V0 p c * ι p)) hI.2.hC ?_ ?_ ?_ ?_⟩⟩
  all_goals (intro p q; sl_unfold_run_names; pointwise [k0_pay218, k0_pay219, k0_pay221, k0_pay222, k0_pay223, k0_pay224])
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    simp only [Nat.mul_add, laneMax, pairMax, absE]
    rw [show acc (ix2 p q) = laneMax (fun p c => W0 p c - X0 p c * κ p) p q.val (4 * k.val) from hI.1.hs p q]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl
  · simp only [hv30, hv32, dite_eq_ite, ite_self, a10_0, a10_1, a10_2, a10_3, a11_0, a11_1, a11_2, a11_3, a12_0, a12_1, a12_2, a12_3]
    try rfl

end Cert.KernelIdeal.Val

end
-- ==== Proof.Val.Trip5.lean ====
module

public import proofs.«01_k».proof.Proof.Val.Facts

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

/-- What holds before trip `n` of loop 5. -/
abbrev I5 (c : Dev nD) (arg8 : Memref sig .tc .vmem S32x18432 .fp8e5m2) (arg12 : Memref sig .tc .vmem S72x32x256 .f32) (f12 : arg12.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (n : ℕ) (acc : Unit) : sProp 𝕄 :=
  iprop(At (F := Ideal) c arg12 f12 ∗ (∃ f8, At (F := Ideal) c arg8 f8 ∗ ⌜FC V0 ι n (arg8.view.read (Elt Ideal) f8)⌝))

set_option maxHeartbeats 8000000 in
/-- One trip of loop 5. -/
theorem trip5 (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h : k0_cond6 i = 1#1) (v30 : Vec Ideal S32x128 .f32) (f12 : arg12.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (i12 : ∀ p c, (arg12.view.read (Elt Ideal) f12) (at3 p c) = V0 p c) (hv30 : ∀ p l, v30 (ix2 p l) = ι p)
    (k : Fin k0_t5_loop.trips) (acc : Unit) :
    I5 c arg8 arg12 f12 x dy dr g r κ ι W0 X0 V0 D0 k.val acc
      ⊢ wp frame (wpE (defs₀ (F := Ideal)) Variants.none c none) Set.univ (k0_t5_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h v30 k acc)
          (fun acc' => I5 c arg8 arg12 f12 x dy dr g r κ ι W0 X0 V0 D0 (k.val + 1) acc') := by
  skip
  iintro ⟨H12, %f8, H8, %hI⟩
  unfold k0_t5_body
  sl_exec
  sl_step
  isplitl [H12]; · iexact H12
  iexists _
  isplitl [H8]; · iexact H8
  ipureintro
  have a12_0 : ∀ (p : Fin 32) (q : Fin 256), View.readAt (Elt Ideal) arg12.view (Rect.unit (s := S72x32x256) (k0_off15 k 0#32) ![1, 32, 256] (k0_off15_inb i k h 0)).toLoadRect f12 (ix3 0 p q) = V0 p (cl (4 * k.val) q.val) :=
    fun p q => (readAt3 arg12.view f12 k.isLt (u := 0) (by decide) (k0_off15_inb i k h 0) (k0_off15_eq k 0) 0 p q).trans (i12 p _)
  have a12_1 : ∀ (p : Fin 32) (q : Fin 256), View.readAt (Elt Ideal) arg12.view (Rect.unit (s := S72x32x256) (k0_off15 k 1#32) ![1, 32, 256] (k0_off15_inb i k h 1)).toLoadRect f12 (ix3 0 p q) = V0 p (cl (4 * k.val + 1) q.val) :=
    fun p q => (readAt3 arg12.view f12 k.isLt (u := 1) (by decide) (k0_off15_inb i k h 1) (k0_off15_eq k 1) 0 p q).trans (i12 p _)
  have a12_2 : ∀ (p : Fin 32) (q : Fin 256), View.readAt (Elt Ideal) arg12.view (Rect.unit (s := S72x32x256) (k0_off15 k 2#32) ![1, 32, 256] (k0_off15_inb i k h 2)).toLoadRect f12 (ix3 0 p q) = V0 p (cl (4 * k.val + 2) q.val) :=
    fun p q => (readAt3 arg12.view f12 k.isLt (u := 2) (by decide) (k0_off15_inb i k h 2) (k0_off15_eq k 2) 0 p q).trans (i12 p _)
  have a12_3 : ∀ (p : Fin 32) (q : Fin 256), View.readAt (Elt Ideal) arg12.view (Rect.unit (s := S72x32x256) (k0_off15 k 3#32) ![1, 32, 256] (k0_off15_inb i k h 3)).toLoadRect f12 (ix3 0 p q) = V0 p (cl (4 * k.val + 3) q.val) :=
    fun p q => (readAt3 arg12.view f12 k.isLt (u := 3) (by decide) (k0_off15_inb i k h 3) (k0_off15_eq k 3) 0 p q).trans (i12 p _)
  refine ⟨step2 arg8.view f8 k.isLt (k0_off16_eq k 0) (k0_off16_eq k 1) (k0_off16_eq k 2) (k0_off16_eq k 3) _ _ _ _ (fun p c => clipE (V0 p c * ι p)) hI.hC ?_ ?_ ?_ ?_⟩
  all_goals (intro p q; sl_unfold_run_names; pointwise [k0_pay15, k0_pay16, k0_pay17])
  · simp only [hv30, dite_eq_ite, ite_self, a12_0, a12_1, a12_2, a12_3]
    try rfl
  · simp only [hv30, dite_eq_ite, ite_self, a12_0, a12_1, a12_2, a12_3]
    try rfl
  · simp only [hv30, dite_eq_ite, ite_self, a12_0, a12_1, a12_2, a12_3]
    try rfl
  · simp only [hv30, dite_eq_ite, ite_self, a12_0, a12_1, a12_2, a12_3]
    try rfl

end Cert.KernelIdeal.Val

end
-- ==== Proof.Val.Zero.lean ====
module

public import proofs.«01_k».proof.Proof.Val.Trip1
public import proofs.«01_k».proof.Proof.Val.Trip2
public import proofs.«01_k».proof.Proof.Val.Trip3
public import proofs.«01_k».proof.Proof.Val.Trip4
public import proofs.«01_k».proof.Proof.Val.Trip5

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

theorem FA.zero {x dy dr : Fin 32 → Fin 18432 → EReal} {g : Fin 18432 → EReal} {r : Fin 32 → EReal} {W0 X0 : Fin 32 → Fin 18432 → EReal}
    {D0 : Fin 8 → Fin 18432 → EReal} {W X : S72x32x256.Idx → EReal} {D : S72x8x256.Idx → EReal} {s : S32x128.Idx → EReal}
    (hW : ∀ p c, W (at3 p c) = W0 p c) (hX : ∀ p c, X (at3 p c) = X0 p c) (hD : ∀ a c, D (at3 a c) = D0 a c) (hs : ∀ p l, s (ix2 p l) = 0) :
    FA x dy dr g r W0 X0 D0 0 W X D s :=
  ⟨fun p c => (hW p c).trans (if_neg (by omega)).symm, fun p c => (hX p c).trans (if_neg (by omega)).symm,
    fun p c => (hD p c).trans (if_neg (by omega)).symm, fun p l => (hs p l).trans rfl⟩

theorem FB.zero {vn V0 : Fin 32 → Fin 18432 → EReal} {V : S72x32x256.Idx → EReal} {T : S32x18432.Idx → EReal} {s : S32x128.Idx → EReal}
    (hV : ∀ p c, V (at3 p c) = V0 p c) (hs : ∀ p l, s (ix2 p l) = 0) : FB vn V0 0 V T s :=
  ⟨fun p c => (hV p c).trans (if_neg (by omega)).symm, fun p c h => absurd h (by omega), fun p l => (hs p l).trans rfl⟩

theorem FC.zero {V0 : Fin 32 → Fin 18432 → EReal} {ι : Fin 32 → EReal} {C : S32x18432.Idx → EReal} : FC V0 ι 0 C :=
  ⟨fun p c h => absurd h (by omega)⟩

end Cert.KernelIdeal.Val

end
-- ==== Proof.Val.Rows.lean ====
module

public import proofs.«01_k».proof.Proof.Val.Zero

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

/-! ### Vectors of one row group -/

/-- Which lane of a tile is which row of the group that starts at lane `off`. -/
def diagV (off : BitVec 32) : IVec S32x128 1 :=
  cmpi .eq (iota .tc S32x128 32 [1] iota_S32x128_d1_w32) (addi (iota .tc S32x128 32 [0] iota_S32x128_d0_w32) (broadcast S32x128 off))

/-- The row of batch `b`, if `m` holds. -/
def pickV (b : BitVec 32) (m : BitVec 1) : IVec S2x128 1 :=
  andi (cmpi .eq (iota .tc S2x128 32 [0] iota_S2x128_d0_w32) (broadcast S2x128 b)) (broadcast S2x128 m)

/-- The lanes of a group, one to a row. -/
def rowsOf (v : FVec Ideal S2x128 .f32) (off : BitVec 32) : FVec Ideal S32x128 .f32 :=
  shapeCast S32x128 (broadcastTo S32x128 (shapeCast S32x1 (shapeCast S32x1 (multiReduction .add [1] S32 (select (diagV off) (broadcastTo S32x128 (shapeCast S1x128 (shapeCast S1x128 (multiReduction .add [0] S128 v 0x00000000#32 reduces_S2x128_S128 (.inl rfl) rfl) shapeCasts_S128_S1x128) shapeCasts_S1x128_S1x128) broadcasts_S1x128_S32x128) (broadcast S32x128 (Scalar.ofBits .f32 0x00000000#32))) 0x00000000#32 reduces_S32x128_S32 (.inl rfl) rfl) shapeCasts_S32_S32x1) shapeCasts_S32x1_S32x1) broadcasts_S32x1_S32x128) shapeCasts_S32x128_S32x128

/-- The reciprocal deviations of a group, read from the five tiles. -/
def loadRV (b : BitVec 32) (m0 m1 m2 m3 m4 : BitVec 1) (off : BitVec 32) (u0 u1 u2 u3 u4 : FVec Ideal S2x128 .f32) : FVec Ideal S32x128 .f32 :=
  rowsOf (select (pickV b m4) u4 (select (pickV b m3) u3 (select (pickV b m2) u2 (select (pickV b m1) u1 (select (pickV b m0) u0
    (broadcast S2x128 (Scalar.ofBits .f32 0x00000000#32))))))) off

/-- A tile of the scales with those of a group added. -/
def storeV (b : BitVec 32) (m : BitVec 1) (off : BitVec 32) (sc : FVec Ideal S32x128 .f32) (old : FVec Ideal S2x128 .f32) : FVec Ideal S2x128 .f32 :=
  addf (shapeCast S2x128 old shapeCasts_S2x128_S2x128) (select (pickV b m) (broadcastTo S2x128 (shapeCast S1x128 (shapeCast S1x128 (multiReduction .add [0] S128 (select (diagV off) sc (broadcast S32x128 (Scalar.ofBits .f32 0x00000000#32))) 0x00000000#32 reduces_S32x128_S128 (.inl rfl) rfl) shapeCasts_S128_S1x128) shapeCasts_S1x128_S1x128) broadcasts_S1x128_S2x128) (broadcast S2x128 (Scalar.ofBits .f32 0x00000000#32)))

/-- One step of the search for the exponent. -/
def vstep (bit : BitVec 32) (t : FVec Ideal S32x128 .f32) (b : IVec S32x128 32) : IVec S32x128 32 :=
  select (cmpf .oge t (bitcastToFloat .f32 (shli (addi b (broadcast S32x128 bit)) (broadcast S32x128 23#32)))) (addi b (broadcast S32x128 bit)) b

/-- The biased exponent. -/
def vbias (t : FVec Ideal S32x128 .f32) : IVec S32x128 32 :=
  vstep 1#32 t (vstep 2#32 t (vstep 4#32 t (vstep 8#32 t (vstep 16#32 t (vstep 32#32 t (vstep 64#32 t (vstep 128#32 t (broadcast S32x128 0#32))))))))

/-- The exponent of the scale. -/
def vexp (b : IVec S32x128 32) : IVec S32x128 32 :=
  select (ori (cmpi .eq b (broadcast S32x128 0#32)) (cmpi .eq b (broadcast S32x128 255#32))) (broadcast S32x128 0#32) (subi b (broadcast S32x128 126#32))

/-- A power of two by its exponent. -/
def vpow (n : IVec S32x128 32) : FVec Ideal S32x128 .f32 :=
  bitcastToFloat .f32 (select (cmpi .sle (addi n (broadcast S32x128 127#32)) (broadcast S32x128 0#32)) (broadcast S32x128 0#32)
    (select (cmpi .sge (addi n (broadcast S32x128 127#32)) (broadcast S32x128 255#32)) (broadcast S32x128 2139095040#32)
      (shli (addi n (broadcast S32x128 127#32)) (broadcast S32x128 23#32))))

/-- The largest lane, scaled. -/
def vtop (v : FVec Ideal S32x128 .f32) : FVec Ideal S32x128 .f32 :=
  mulf (broadcastTo S32x128 (shapeCast S32x1 (shapeCast S32x1 (multiReduction .maximumf [1] S32 v 0xFF800000#32 reduces_S32x128_S32 (.inl rfl) rfl) shapeCasts_S32_S32x1) shapeCasts_S32x1_S32x1) broadcasts_S32x1_S32x128)
    (broadcast S32x128 (Scalar.ofBits .f32 0x37924925#32))

def vscale (v : FVec Ideal S32x128 .f32) : FVec Ideal S32x128 .f32 := vpow (vexp (vbias (vtop v)))
def vinv (v : FVec Ideal S32x128 .f32) : FVec Ideal S32x128 .f32 :=
  shapeCast S32x128 (vpow (subi (broadcast S32x128 0#32) (vexp (vbias (vtop v))))) shapeCasts_S32x128_S32x128

/-! ### Their entries -/

/-- One step of the search at one entry. -/
def bstep (bit : BitVec 32) (t : EReal) (b : BitVec 32) : BitVec 32 :=
  if Ideal.ofBits .f32 (IntOp.shli ArithUnit.vector (IntOp.addi b bit) 23#32) ≤ t then IntOp.addi b bit else b
def bias (t : EReal) : BitVec 32 := bstep 1#32 t (bstep 2#32 t (bstep 4#32 t (bstep 8#32 t (bstep 16#32 t (bstep 32#32 t (bstep 64#32 t (bstep 128#32 t 0#32)))))))
def expo (b : BitVec 32) : BitVec 32 := Scalar.select (IntOp.ori (IntOp.cmpi .eq b 0#32) (IntOp.cmpi .eq b 255#32)) 0#32 (IntOp.subi b 126#32)
def powE (n : BitVec 32) : EReal :=
  Ideal.ofBits .f32 (Scalar.select (IntOp.cmpi .sle (IntOp.addi n 127#32) 0#32) 0#32
    (Scalar.select (IntOp.cmpi .sge (IntOp.addi n 127#32) 255#32) 2139095040#32 (IntOp.shli ArithUnit.vector (IntOp.addi n 127#32) 23#32)))
/-- The largest entry of the row of lanes, scaled. -/
def topE (f : Fin 128 → EReal) : EReal := Finset.fold max (Ideal.ofBits .f32 4286578688#32) f Finset.univ * Ideal.ofBits .f32 932333861#32
/-- The scale of a row and its inverse, from the lane maxima. -/
def scaleE (f : Fin 128 → EReal) : EReal := powE (expo (bias (topE f)))
def invE (f : Fin 128 → EReal) : EReal := powE (IntOp.subi 0#32 (expo (bias (topE f))))

theorem vstep_apply (bit : BitVec 32) (t : FVec Ideal S32x128 .f32) (b : IVec S32x128 32) (p : Fin 32) (l : Fin 128) :
    vstep bit t b (ix2 p l) = bstep bit (t (ix2 p l)) (b (ix2 p l)) := by
  pointwise [vstep]
  rfl
theorem vbias_apply (t : FVec Ideal S32x128 .f32) (p : Fin 32) (l : Fin 128) : vbias t (ix2 p l) = bias (t (ix2 p l)) := by
  unfold vbias bias
  simp only [vstep_apply]
  rfl
theorem vexp_apply (b : IVec S32x128 32) (p : Fin 32) (l : Fin 128) : vexp b (ix2 p l) = expo (b (ix2 p l)) := by
  pointwise [vexp]
  rfl
theorem vpow_apply (b : IVec S32x128 32) (p : Fin 32) (l : Fin 128) : vpow b (ix2 p l) = powE (b (ix2 p l)) := by
  pointwise [vpow]
  rfl
theorem vtop_apply (v : FVec Ideal S32x128 .f32) (p : Fin 32) (l : Fin 128) : vtop v (ix2 p l) = topE (fun x => v (ix2 p x)) := by
  pointwise [vtop]
  rfl
theorem vscale_apply (v : FVec Ideal S32x128 .f32) (p : Fin 32) (l : Fin 128) : vscale v (ix2 p l) = scaleE (fun x => v (ix2 p x)) :=
  (vpow_apply _ p l).trans (congrArg powE ((vexp_apply _ p l).trans (congrArg expo ((vbias_apply _ p l).trans (congrArg bias (vtop_apply v p l))))))
theorem cast_apply (X : FVec Ideal S32x128 .f32) (p : Fin 32) (l : Fin 128) : shapeCast S32x128 X shapeCasts_S32x128_S32x128 (ix2 p l) = X (ix2 p l) := by
  pointwise
theorem vneg_apply (b : IVec S32x128 32) (p : Fin 32) (l : Fin 128) : subi (broadcast S32x128 0#32) b (ix2 p l) = IntOp.subi 0#32 (b (ix2 p l)) := by
  pointwise
theorem vinv_apply (v : FVec Ideal S32x128 .f32) (p : Fin 32) (l : Fin 128) : vinv v (ix2 p l) = invE (fun x => v (ix2 p x)) :=
  (cast_apply _ p l).trans ((vpow_apply _ p l).trans (congrArg powE ((vneg_apply _ p l).trans (congrArg (IntOp.subi 0#32)
    ((vexp_apply _ p l).trans (congrArg expo ((vbias_apply _ p l).trans (congrArg bias (vtop_apply v p l)))))))))

theorem sel_one {α : Type} {c : BitVec 1} (h : c = 1#1) (a b : α) : Scalar.select c a b = a := by subst h; rfl
theorem sel_zero {α : Type} {c : BitVec 1} (h : c = 0#1) (a b : α) : Scalar.select c a b = b := by subst h; rfl
theorem cmp_eq_one {x y : BitVec 32} (h : x = y) : IntOp.cmpi .eq x y = 1#1 := by subst h; simp [IntOp.cmpi]
theorem cmp_eq_zero {x y : BitVec 32} (h : x ≠ y) : IntOp.cmpi .eq x y = 0#1 := by
  show BitVec.ofBool (x == y) = 0#1
  rw [beq_eq_false_iff_ne.mpr h]; rfl
theorem ofNat_ne {a b : ℕ} (ha : a < 4096) (hb : b < 4096) (h : a ≠ b) : BitVec.ofNat 32 a ≠ BitVec.ofNat 32 b := fun e => h (by
  have := congrArg BitVec.toNat e
  simp only [BitVec.toNat_ofNat] at this
  omega)

theorem rowsOf_apply (v : FVec Ideal S2x128 .f32) {off : BitVec 32} {o : ℕ} (ho : o < 4) (hoff : off = BitVec.ofNat 32 (32 * o)) (p : Fin 32) (l : Fin 128) :
    rowsOf v off (ix2 p l) = ∑ s : Fin 2, v (ix2 s ⟨32 * o + p.val, by omega⟩) := by
  pointwise [rowsOf, diagV]
  subst hoff
  have e : IntOp.addi (BitVec.ofNat 32 p.val) (BitVec.ofNat 32 (32 * o)) = BitVec.ofNat 32 (32 * o + p.val) := by
    rw [add_comm]; exact (BitVec.ofNat_add _ _).symm
  rw [e, Finset.sum_eq_single (⟨32 * o + p.val, by omega⟩ : Fin 128)]
  · exact sel_one (cmp_eq_one rfl) _ _
  · intro b _ hb
    exact sel_zero (cmp_eq_zero (ofNat_ne (by omega) (by omega) (fun h => hb (Fin.ext h)))) _ _
  · exact fun h => absurd (Finset.mem_univ _) h

theorem pick_on {b : BitVec 32} {m : BitVec 1} {B : Fin 2} (hb : b = BitVec.ofNat 32 B.val) (hm : m = 1#1) (l : Fin 128) : pickV b m (ix2 B l) = 1#1 := by
  pointwise [pickV]
  rw [cmp_eq_one hb.symm, hm]; rfl
theorem pick_off {b : BitVec 32} {m : BitVec 1} {s : Fin 2} (h : m = 0#1 ∨ b ≠ BitVec.ofNat 32 s.val) (l : Fin 128) : pickV b m (ix2 s l) = 0#1 := by
  pointwise [pickV]
  rcases h with h | h
  · rw [h]; exact BitVec.and_zero
  · rw [cmp_eq_zero h.symm]; exact BitVec.zero_and

theorem sel_apply {s : Shape} (c : IVec s 1) (a b : FVec Ideal s .f32) (i : s.Idx) : select c a b i = Scalar.select (c i) (a i) (b i) := rfl

/-- The reciprocal deviations of the group at lanes `128 T + 32 o …` of batch `B`. -/
theorem loadRV_apply {b : BitVec 32} {m0 m1 m2 m3 m4 : BitVec 1} {off : BitVec 32} {u0 u1 u2 u3 u4 : FVec Ideal S2x128 .f32}
    (RR : Fin 2 → Fin 640 → EReal) {B : Fin 2} {T o : ℕ} (hT : T < 5) (ho : o < 4) (hb : b = BitVec.ofNat 32 B.val) (hoff : off = BitVec.ofNat 32 (32 * o))
    (h0 : m0 = if T = 0 then 1#1 else 0#1) (h1 : m1 = if T = 1 then 1#1 else 0#1) (h2 : m2 = if T = 2 then 1#1 else 0#1)
    (h3 : m3 = if T = 3 then 1#1 else 0#1) (h4 : m4 = if T = 4 then 1#1 else 0#1)
    (e0 : ∀ s (l : Fin 128), u0 (ix2 s l) = RR s ⟨l.val, by omega⟩) (e1 : ∀ s (l : Fin 128), u1 (ix2 s l) = RR s ⟨128 + l.val, by omega⟩)
    (e2 : ∀ s (l : Fin 128), u2 (ix2 s l) = RR s ⟨256 + l.val, by omega⟩) (e3 : ∀ s (l : Fin 128), u3 (ix2 s l) = RR s ⟨384 + l.val, by omega⟩)
    (e4 : ∀ s (l : Fin 128), u4 (ix2 s l) = RR s ⟨512 + l.val, by omega⟩) (p : Fin 32) (l : Fin 128) :
    loadRV b m0 m1 m2 m3 m4 off u0 u1 u2 u3 u4 (ix2 p l) = RR B ⟨128 * T + (32 * o + p.val), by omega⟩ := by
  unfold loadRV
  rw [rowsOf_apply _ ho hoff]
  have hz : (broadcast S2x128 (Scalar.ofBits (F := Ideal) .f32 0x00000000#32) : FVec Ideal S2x128 .f32) = fun _ => 0 := by
    funext i; exact Ideal.ofBits_zero .f32
  rw [Finset.sum_eq_single B]
  · simp only [sel_apply]
    interval_cases T <;> simp only [Nat.reduceEqDiff, OfNat.ofNat_ne_zero, OfNat.zero_ne_ofNat, OfNat.one_ne_ofNat, OfNat.ofNat_ne_one, one_ne_zero, zero_ne_one, reduceIte] at h0 h1 h2 h3 h4
    · rw [sel_zero (pick_off (.inl h4) _), sel_zero (pick_off (.inl h3) _), sel_zero (pick_off (.inl h2) _), sel_zero (pick_off (.inl h1) _), sel_one (pick_on hb h0 _), e0]
      exact congrArg (RR B) (Fin.ext (by simp))
    · rw [sel_zero (pick_off (.inl h4) _), sel_zero (pick_off (.inl h3) _), sel_zero (pick_off (.inl h2) _), sel_one (pick_on hb h1 _), e1]
    · rw [sel_zero (pick_off (.inl h4) _), sel_zero (pick_off (.inl h3) _), sel_one (pick_on hb h2 _), e2]
    · rw [sel_zero (pick_off (.inl h4) _), sel_one (pick_on hb h3 _), e3]
    · rw [sel_one (pick_on hb h4 _), e4]
  · intro s _ hs
    have hn : b ≠ BitVec.ofNat 32 s.val := by
      rw [hb]; exact ofNat_ne (by omega) (by omega) (fun h => hs (Fin.ext h.symm))
    simp only [sel_apply]
    rw [sel_zero (pick_off (.inr hn) _), sel_zero (pick_off (.inr hn) _), sel_zero (pick_off (.inr hn) _), sel_zero (pick_off (.inr hn) _), sel_zero (pick_off (.inr hn) _), hz]
  · exact fun h => absurd (Finset.mem_univ _) h

/-- The tile with the scales `S` of the group at lanes `32 o …` of batch `B` added, if this is its tile. -/
theorem storeV_apply {b : BitVec 32} {m : BitVec 1} {off : BitVec 32} {sc : FVec Ideal S32x128 .f32} (old : FVec Ideal S2x128 .f32)
    (S : Fin 32 → EReal) (hS : ∀ p l, sc (ix2 p l) = S p) {B : Fin 2} {T o t : ℕ} (ho : o < 4) (hb : b = BitVec.ofNat 32 B.val) (hoff : off = BitVec.ofNat 32 (32 * o))
    (hm : m = if T = t then 1#1 else 0#1) (s : Fin 2) (l : Fin 128) :
    storeV b m off sc old (ix2 s l) = old (ix2 s l) + if s = B ∧ T = t ∧ l.val / 32 = o then S ⟨l.val % 32, by omega⟩ else 0 := by
  pointwise [storeV, diagV, pickV]
  refine congrArg (old (ix2 s l) + ·) ?_
  show Scalar.select (IntOp.andi (IntOp.cmpi .eq (BitVec.ofNat 32 s.val) b) m) _ _ = _
  have hq : IntOp.andi (IntOp.cmpi .eq (BitVec.ofNat 32 s.val) b) m = if s = B ∧ T = t then 1#1 else 0#1 := by
    by_cases h : s = B
    · subst h
      rw [cmp_eq_one hb.symm, hm]
      by_cases h' : T = t <;> simp [h', IntOp.andi]
    · rw [cmp_eq_zero (by rw [hb]; exact ofNat_ne (by omega) (by omega) (fun e => h (Fin.ext e))), if_neg (fun e => h e.1)]
      exact BitVec.zero_and
  rw [hq]
  by_cases h : s = B ∧ T = t
  swap
  · rw [if_neg h, if_neg (fun e => h ⟨e.1, e.2.1⟩)]; rfl
  rw [if_pos h, sel_one rfl]
  subst hoff
  have e : ∀ x : Fin 32, IntOp.addi (BitVec.ofNat 32 x.val) (BitVec.ofNat 32 (32 * o)) = BitVec.ofNat 32 (32 * o + x.val) := fun x => by
    rw [add_comm]; exact (BitVec.ofNat_add _ _).symm
  by_cases hl : l.val / 32 = o
  · rw [if_pos ⟨h.1, h.2, hl⟩, Finset.sum_eq_single (⟨l.val % 32, by omega⟩ : Fin 32)]
    · rw [sel_one (cmp_eq_one (by rw [e]; exact congrArg (BitVec.ofNat 32) (by show l.val = 32 * o + l.val % 32; omega))), hS]
    · intro x _ hx
      refine sel_zero (cmp_eq_zero ?_) _ _
      rw [e]
      exact ofNat_ne (by omega) (by omega) (fun h => hx (Fin.ext (by show x.val = l.val % 32; omega)))
    · exact fun h => absurd (Finset.mem_univ _) h
  · rw [if_neg (fun e => hl e.2.2)]
    refine Finset.sum_eq_zero fun x _ => sel_zero (cmp_eq_zero ?_) _ _
    rw [e]
    exact ofNat_ne (by omega) (by omega) (fun h => hl (by omega))

/-- The reciprocal of the row length, as the body multiplies by it. -/
def invD : EReal := (Named.named κ "inv_d" 0x38638E39#32 : Ideal .f32)

/-- The lane sum, and the correction factor of a row. -/
def vk (r s : FVec Ideal S32x128 .f32) : FVec Ideal S32x128 .f32 := k0_pay186 r s
theorem dup_apply (v : FVec Ideal S32x128 .f32) (p : Fin 32) (l : Fin 128) : k0_pay177 v (ix2 p ⟨l.val, by omega⟩) = v (ix2 p l) := by
  pointwise [k0_pay177]
theorem vk_apply (r s : FVec Ideal S32x128 .f32) (p : Fin 32) (l : Fin 128) :
    vk r s (ix2 p l) = r (ix2 p l) * (r (ix2 p l) * ((∑ x, s (ix2 p x)) * invD)) := by
  pointwise [vk, k0_pay186]
  simp only [dup_apply]
  rfl

/-- The reciprocal deviations of the rows of group `n`. -/
def rrow (RR : Fin 2 → Fin 640 → EReal) (n : ℕ) (p : Fin 32) : EReal :=
  RR ⟨n / 20 % 2, by omega⟩ ⟨128 * (n % 20 / 4) + (32 * (n % 4) + p.val), by omega⟩
/-- The correction factor of a row of a group. -/
def kE (x dy : Fin 32 → Fin 18432 → EReal) (g : Fin 18432 → EReal) (r : Fin 32 → EReal) (p : Fin 32) : EReal :=
  r p * (r p * ((∑ l : Fin 128, laneSum (hx x dy g r) p l.val 72) * invD))
/-- The scale of a row of a group, and its inverse. -/
def scE (v : Fin 32 → Fin 18432 → EReal) (p : Fin 32) : EReal := scaleE (fun l => laneMax v p l.val 72)
def ivE (v : Fin 32 → Fin 18432 → EReal) (p : Fin 32) : EReal := invE (fun l => laneMax v p l.val 72)
/-- The scales with those of group `n` added. -/
def sAdd (S9 : Fin 2 → Fin 640 → EReal) (n : ℕ) (S : Fin 32 → EReal) (s : Fin 2) (c : Fin 640) : EReal :=
  S9 s c + if s.val = n / 20 % 2 ∧ c.val / 128 = n % 20 / 4 ∧ c.val % 128 / 32 = n % 4 then S ⟨c.val % 128 % 32, by omega⟩ else 0

section
variable {sig : RefSig} {κ' : Kind} {sp : Space} {e : EltTy} {Val : EltTy → Type}

/-- A tile of 128 lanes read from a block of rows of 640. -/
theorem readTile (V : View sig κ' sp (⟨2, ![2, 640]⟩ : Shape) e) (f : V.ty.Contents Val) {o : ℕ} (ho : o ≤ 512)
    (inb : ∀ a, (![0, o] : Fin 2 → ℕ) a + (⟨2, ![2, 128]⟩ : Shape).size a ≤ (⟨2, ![2, 640]⟩ : Shape).size a) (s : Fin 2) (l : Fin 128) :
    V.readAt Val (Rect.unit (s := ⟨2, ![2, 640]⟩) ![0, o] (⟨2, ![2, 128]⟩ : Shape).size inb).toLoadRect f (ix2 s l)
      = V.read Val f (ix2 s ⟨o + l.val, by omega⟩) := by
  refine congrArg (V.read Val f) (funext fun a => Fin.ext ?_)
  match a with
  | ⟨0, _⟩ => show 0 + 1 * s.val = s.val; omega
  | ⟨1, _⟩ => show o + 1 * l.val = o + l.val; omega

theorem readFull {a b : ℕ} (V : View sig κ' sp (⟨2, ![a, b]⟩ : Shape) e) (f : V.ty.Contents Val)
    (inb : ∀ i, (![0, 0] : Fin 2 → ℕ) i + (⟨2, ![a, b]⟩ : Shape).size i ≤ (⟨2, ![a, b]⟩ : Shape).size i) (p : Fin a) (l : Fin b) :
    V.readAt Val (Rect.unit (s := ⟨2, ![a, b]⟩) ![0, 0] (⟨2, ![a, b]⟩ : Shape).size inb).toLoadRect f (ix2 p l) = V.read Val f (ix2 p l) :=
  congrFun (View.readAt_full V f inb) (ix2 p l)

theorem writeFull {a b : ℕ} (V : View sig κ' sp (⟨2, ![a, b]⟩ : Shape) e) (f : V.ty.Contents Val)
    (inb : ∀ i, (![0, 0] : Fin 2 → ℕ) i + (⟨2, ![a, b]⟩ : Shape).size i ≤ (⟨2, ![a, b]⟩ : Shape).size i) (w : (⟨2, ![a, b]⟩ : Shape).Idx → Val e)
    (L : List (View.Piece Val (⟨2, ![a, b]⟩ : Shape) e)) (p : Fin a) (l : Fin b) :
    V.read Val (V.writes Val f (⟨Rect.unit (s := ⟨2, ![a, b]⟩) ![0, 0] (⟨2, ![a, b]⟩ : Shape).size inb, w⟩ :: L)) (ix2 p l) = w (ix2 p l) :=
  congrFun (View.read_writes_full V f inb w L) (ix2 p l)

/-- Five tiles written. -/
theorem store5 (V : View sig κ' sp (⟨2, ![2, 640]⟩ : Shape) e) (f : V.ty.Contents Val)
    {i0 : ∀ a, (![0, 0] : Fin 2 → ℕ) a + (⟨2, ![2, 128]⟩ : Shape).size a ≤ (⟨2, ![2, 640]⟩ : Shape).size a}
    {i1 : ∀ a, (![0, 128] : Fin 2 → ℕ) a + (⟨2, ![2, 128]⟩ : Shape).size a ≤ (⟨2, ![2, 640]⟩ : Shape).size a}
    {i2 : ∀ a, (![0, 256] : Fin 2 → ℕ) a + (⟨2, ![2, 128]⟩ : Shape).size a ≤ (⟨2, ![2, 640]⟩ : Shape).size a}
    {i3 : ∀ a, (![0, 384] : Fin 2 → ℕ) a + (⟨2, ![2, 128]⟩ : Shape).size a ≤ (⟨2, ![2, 640]⟩ : Shape).size a}
    {i4 : ∀ a, (![0, 512] : Fin 2 → ℕ) a + (⟨2, ![2, 128]⟩ : Shape).size a ≤ (⟨2, ![2, 640]⟩ : Shape).size a}
    (w0 w1 w2 w3 w4 : (⟨2, ![2, 128]⟩ : Shape).Idx → Val e) (G : Fin 2 → Fin 640 → Val e)
    (h0 : ∀ s (l : Fin 128), w0 (ix2 s l) = G s ⟨0 + l.val, by omega⟩) (h1 : ∀ s (l : Fin 128), w1 (ix2 s l) = G s ⟨128 + l.val, by omega⟩)
    (h2 : ∀ s (l : Fin 128), w2 (ix2 s l) = G s ⟨256 + l.val, by omega⟩) (h3 : ∀ s (l : Fin 128), w3 (ix2 s l) = G s ⟨384 + l.val, by omega⟩)
    (h4 : ∀ s (l : Fin 128), w4 (ix2 s l) = G s ⟨512 + l.val, by omega⟩) (s : Fin 2) (c : Fin 640) :
    V.read Val (V.writes Val f [⟨Rect.unit (s := ⟨2, ![2, 640]⟩) ![0, 512] (⟨2, ![2, 128]⟩ : Shape).size i4, w4⟩,
        ⟨Rect.unit (s := ⟨2, ![2, 640]⟩) ![0, 384] (⟨2, ![2, 128]⟩ : Shape).size i3, w3⟩,
        ⟨Rect.unit (s := ⟨2, ![2, 640]⟩) ![0, 256] (⟨2, ![2, 128]⟩ : Shape).size i2, w2⟩,
        ⟨Rect.unit (s := ⟨2, ![2, 640]⟩) ![0, 128] (⟨2, ![2, 128]⟩ : Shape).size i1, w1⟩,
        ⟨Rect.unit (s := ⟨2, ![2, 640]⟩) ![0, 0] (⟨2, ![2, 128]⟩ : Shape).size i0, w0⟩]) (ix2 s c) = G s c := by
  have miss : ∀ {o : ℕ} (i : ∀ a, (![0, o] : Fin 2 → ℕ) a + (⟨2, ![2, 128]⟩ : Shape).size a ≤ (⟨2, ![2, 640]⟩ : Shape).size a) (w : (⟨2, ![2, 128]⟩ : Shape).Idx → Val e) (L : List (View.Piece Val (⟨2, ![2, 640]⟩ : Shape) e)),
      (c.val < o ∨ o + 128 ≤ c.val) →
      V.read Val (V.writes Val f (⟨Rect.unit (s := ⟨2, ![2, 640]⟩) ![0, o] (⟨2, ![2, 128]⟩ : Shape).size i, w⟩ :: L)) (ix2 s c)
        = V.read Val (V.writes Val f L) (ix2 s c) := fun {o} i w L hj =>
    V.read_writes_cons_unit_of_not_mem f i w L (ix2 s c) rfl (1 : Fin 2) hj
  have hit : ∀ {o : ℕ} (ho : o ≤ 512) (i : ∀ a, (![0, o] : Fin 2 → ℕ) a + (⟨2, ![2, 128]⟩ : Shape).size a ≤ (⟨2, ![2, 640]⟩ : Shape).size a) (w : (⟨2, ![2, 128]⟩ : Shape).Idx → Val e) (L : List (View.Piece Val (⟨2, ![2, 640]⟩ : Shape) e)),
      o ≤ c.val → c.val < o + 128 → (∀ s (l : Fin 128), w (ix2 s l) = G s ⟨o + l.val, by omega⟩) →
      V.read Val (V.writes Val f (⟨Rect.unit (s := ⟨2, ![2, 640]⟩) ![0, o] (⟨2, ![2, 128]⟩ : Shape).size i, w⟩ :: L)) (ix2 s c)
        = G s c := fun {o} ho i w L h1 h2 hw => by
    rw [V.read_writes_cons_unit_of_mem f i w L (ix2 s c) (ix2 s ⟨c.val - o, by omega⟩) rfl (fun a => ?_), hw]
    · exact congrArg (G s) (Fin.ext (by show o + (c.val - o) = c.val; omega))
    · match a with
      | ⟨0, _⟩ => show s.val = 0 + s.val; omega
      | ⟨1, _⟩ => show c.val = o + (c.val - o); omega
  by_cases c4 : 512 ≤ c.val
  · exact hit (by decide) i4 w4 _ c4 (by omega) h4
  rw [miss i4 w4 _ (.inl (by omega))]
  by_cases c3 : 384 ≤ c.val
  · exact hit (by decide) i3 w3 _ c3 (by omega) h3
  rw [miss i3 w3 _ (.inl (by omega))]
  by_cases c2 : 256 ≤ c.val
  · exact hit (by decide) i2 w2 _ c2 (by omega) h2
  rw [miss i2 w2 _ (.inl (by omega))]
  by_cases c1 : 128 ≤ c.val
  · exact hit (by decide) i1 w1 _ c1 (by omega) h1
  rw [miss i1 w1 _ (.inl (by omega))]
  exact hit (by decide) i0 w0 _ (by omega) (by omega) h0
end

/-- The rows of a group loaded, when the scalars of the body locate group `n`. -/
theorem loadRV_row {b : BitVec 32} {m0 m1 m2 m3 m4 : BitVec 1} {off : BitVec 32} {u0 u1 u2 u3 u4 : FVec Ideal S2x128 .f32}
    (RR : Fin 2 → Fin 640 → EReal) (n : ℕ) (hb : b = BitVec.ofNat 32 (n / 20 % 2)) (hoff : off = BitVec.ofNat 32 (32 * (n % 4)))
    (h0 : m0 = if n % 20 / 4 = 0 then 1#1 else 0#1) (h1 : m1 = if n % 20 / 4 = 1 then 1#1 else 0#1) (h2 : m2 = if n % 20 / 4 = 2 then 1#1 else 0#1)
    (h3 : m3 = if n % 20 / 4 = 3 then 1#1 else 0#1) (h4 : m4 = if n % 20 / 4 = 4 then 1#1 else 0#1)
    (e0 : ∀ s (l : Fin 128), u0 (ix2 s l) = RR s ⟨0 + l.val, by omega⟩) (e1 : ∀ s (l : Fin 128), u1 (ix2 s l) = RR s ⟨128 + l.val, by omega⟩)
    (e2 : ∀ s (l : Fin 128), u2 (ix2 s l) = RR s ⟨256 + l.val, by omega⟩) (e3 : ∀ s (l : Fin 128), u3 (ix2 s l) = RR s ⟨384 + l.val, by omega⟩)
    (e4 : ∀ s (l : Fin 128), u4 (ix2 s l) = RR s ⟨512 + l.val, by omega⟩) (p : Fin 32) (l : Fin 128) :
    loadRV b m0 m1 m2 m3 m4 off u0 u1 u2 u3 u4 (ix2 p l) = rrow RR n p :=
  loadRV_apply RR (B := ⟨n / 20 % 2, by omega⟩) (T := n % 20 / 4) (o := n % 4) (by omega) (by omega) hb hoff h0 h1 h2 h3 h4
    (fun s l => (e0 s l).trans (congrArg (RR s) (Fin.ext (Nat.zero_add _)))) e1 e2 e3 e4 p l

/-- A tile of the scales, when the scalars of the body locate group `n`. -/
theorem storeV_row {b : BitVec 32} {m : BitVec 1} {off : BitVec 32} {sc : FVec Ideal S32x128 .f32} {old : FVec Ideal S2x128 .f32} (S9 : Fin 2 → Fin 640 → EReal)
    (n : ℕ) (S : Fin 32 → EReal) (hb : b = BitVec.ofNat 32 (n / 20 % 2)) (hoff : off = BitVec.ofNat 32 (32 * (n % 4)))
    (o t : ℕ) (ht : t < 5) (ho : o = 128 * t) (hm : m = if n % 20 / 4 = t then 1#1 else 0#1) (hS : ∀ p l, sc (ix2 p l) = S p)
    (hold : ∀ s (l : Fin 128), old (ix2 s l) = S9 s ⟨o + l.val, by omega⟩) (s : Fin 2) (l : Fin 128) :
    storeV b m off sc old (ix2 s l) = sAdd S9 n S s ⟨o + l.val, by omega⟩ := by
  subst ho
  rw [storeV_apply old S hS (B := ⟨n / 20 % 2, by omega⟩) (T := n % 20 / 4) (o := n % 4) (t := t) (by omega) hb hoff hm, hold]
  refine congrArg (S9 s ⟨128 * t + l.val, by omega⟩ + ·) ?_
  have e1 : (128 * t + l.val) % 128 = l.val := by omega
  have e2 : (128 * t + l.val) / 128 = t := by omega
  simp only [e1, e2, Fin.ext_iff]
  by_cases h : s.val = n / 20 % 2 ∧ n % 20 / 4 = t ∧ l.val / 32 = n % 4
  · rw [if_pos h, if_pos ⟨h.1, h.2.1.symm, h.2.2⟩]
  · rw [if_neg h, if_neg (fun e => h ⟨e.1, e.2.1.symm, e.2.2⟩)]

/-- What the buffers of the first stage hold after it. -/
structure PA (x dy dr : Fin 32 → Fin 18432 → EReal) (g : Fin 18432 → EReal) (r : Fin 32 → EReal)
    (D0 : Fin 8 → Fin 18432 → EReal) (W X : S72x32x256.Idx → EReal) (D : S72x8x256.Idx → EReal) : Prop where
  hW : ∀ p c, W (at3 p c) = ww dy dr g r p c
  hX : ∀ p c, X (at3 p c) = x p c
  hD : ∀ a c, D (at3 a c) = D0 a c + dg4 x dy r a c
theorem FA.done {x dy dr : Fin 32 → Fin 18432 → EReal} {g : Fin 18432 → EReal} {r : Fin 32 → EReal} {W0 X0 : Fin 32 → Fin 18432 → EReal}
    {D0 : Fin 8 → Fin 18432 → EReal} {n : ℕ} {W X : S72x32x256.Idx → EReal} {D : S72x8x256.Idx → EReal} {s : S32x128.Idx → EReal}
    (h : FA x dy dr g r W0 X0 D0 n W X D s) (hn : n = 18) : PA x dy dr g r D0 W X D := by
  subst hn
  exact ⟨fun p c => (h.hW p c).trans (if_pos (by omega)), fun p c => (h.hX p c).trans (if_pos (by omega)), fun p c => (h.hD p c).trans (if_pos (by omega))⟩

/-- What the buffers of the second stage hold after it. -/
structure PB (vn : Fin 32 → Fin 18432 → EReal) (V : S72x32x256.Idx → EReal) (T : S32x18432.Idx → EReal) : Prop where
  hV : ∀ p c, V (at3 p c) = vn p c
  hT : ∀ p (c : Fin 18432), T (ix2 p c) = vn p c
theorem FB.done {vn V0 : Fin 32 → Fin 18432 → EReal} {n : ℕ} {V : S72x32x256.Idx → EReal} {T : S32x18432.Idx → EReal} {s : S32x128.Idx → EReal}
    (h : FB vn V0 n V T s) (hn : n = 18) : PB vn V T := by
  subst hn
  exact ⟨fun p c => (h.hV p c).trans (if_pos (by omega)), fun p c => h.hT p c (by omega)⟩
theorem FC.done {V0 : Fin 32 → Fin 18432 → EReal} {ι : Fin 32 → EReal} {n : ℕ} {C : S32x18432.Idx → EReal} (h : FC V0 ι n C) (hn : n = 18) :
    ∀ p (c : Fin 18432), C (ix2 p c) = clipE (V0 p c * ι p) := by
  subst hn
  exact fun p c => h.hC p c (by omega)

/-- The correction factor from the lane sums of the whole row. -/
theorem vk_row {x dy dr : Fin 32 → Fin 18432 → EReal} {g : Fin 18432 → EReal} {r : Fin 32 → EReal} {W0 X0 : Fin 32 → Fin 18432 → EReal}
    {D0 : Fin 8 → Fin 18432 → EReal} {n : ℕ} {W X : S72x32x256.Idx → EReal} {D : S72x8x256.Idx → EReal} {s rv : FVec Ideal S32x128 .f32}
    (h : FA x dy dr g r W0 X0 D0 n W X D s) (hn : n = 18) (hr : ∀ p l, rv (ix2 p l) = r p) (p : Fin 32) (l : Fin 128) : vk rv s (ix2 p l) = kE x dy g r p := by
  subst hn
  rw [vk_apply, hr]
  exact congrArg (fun z => r p * (r p * (z * invD))) (Finset.sum_congr rfl fun l _ => h.hs p l)
theorem vscale_row {vn V0 : Fin 32 → Fin 18432 → EReal} {n : ℕ} {V : S72x32x256.Idx → EReal} {T : S32x18432.Idx → EReal} {s : FVec Ideal S32x128 .f32}
    (h : FB vn V0 n V T s) (hn : n = 18) (p : Fin 32) (l : Fin 128) : vscale s (ix2 p l) = scE vn p := by
  subst hn
  rw [vscale_apply]
  exact congrArg scaleE (funext fun l => h.hs p l)
theorem vinv_row {vn V0 : Fin 32 → Fin 18432 → EReal} {n : ℕ} {V : S72x32x256.Idx → EReal} {T : S32x18432.Idx → EReal} {s : FVec Ideal S32x128 .f32}
    (h : FB vn V0 n V T s) (hn : n = 18) (p : Fin 32) (l : Fin 128) : vinv s (ix2 p l) = ivE vn p := by
  subst hn
  rw [vinv_apply]
  exact congrArg invE (funext fun l => h.hs p l)

end Cert.KernelIdeal.Val

end
-- ==== Proof.Val.Data.lean ====
module

public import proofs.«01_k».proof.Proof.Val.Rows
public import proofs.«01_k».proof.Proof.KernelIdeal.Frame

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At ms0 ms1 ms2 ms3 ms4 ms5 ms6 ms7 ms8 hs0 hs1 hs2 hs3 hs4 hs5 hs6 hs7 hs8 sc0 sc1 sc2 sc3 sc4 sc5 sc6 hcond1 hcond2 hcond3 hcond4 hcond5 hcond6 hcond7 hcond8)
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (c : Dev nD)

/-- Point `n` of the grid. -/
def pt (n : ℕ) : Fin cfg0.N := ⟨n % 42, lt_of_lt_of_eq (Nat.mod_lt _ (by decide)) (show 42 = cfg0.N from N_0.symm)⟩
theorem pt_val (t : Fin cfg0.N) : pt t.val = t :=
  Fin.ext (Nat.mod_eq_of_lt (lt_of_lt_of_eq t.isLt (show cfg0.N = 42 from N_0)))

/-- Group `n` of rows of `x`, of `dy` and of `dresid`; `gamma`; the reciprocal deviations. -/
def xg (n : ℕ) (p : Fin 32) (q : Fin 18432) : EReal := (iblk m c 0 (pt n) : S32x18432.Idx → EReal) (ix2 p q)
def dyg (n : ℕ) (p : Fin 32) (q : Fin 18432) : EReal := (iblk m c 1 (pt n) : S32x18432.Idx → EReal) (ix2 p q)
def drg (n : ℕ) (p : Fin 32) (q : Fin 18432) : EReal := (iblk m c 2 (pt n) : S32x18432.Idx → EReal) (ix2 p q)
def gg (q : Fin 18432) : EReal := (iblk m c 3 (pt 0) : S1x18432.Idx → EReal) (ix2 0 q)
def RRg (s : Fin 2) (q : Fin 640) : EReal := (iblk m c 4 (pt 0) : S2x640.Idx → EReal) (ix2 s q)
/-- The reciprocal deviations of group `n`, its correction factors, the two parts of its gradient, the gradient. -/
def rg (n : ℕ) : Fin 32 → EReal := rrow (RRg m c) n
def kg (n : ℕ) : Fin 32 → EReal := kE (xg m c n) (dyg m c n) (gg m c) (rg m c n)
def wg (n : ℕ) : Fin 32 → Fin 18432 → EReal := ww (dyg m c n) (drg m c n) (gg m c) (rg m c n)
def vg (n : ℕ) : Fin 32 → Fin 18432 → EReal := fun p q => wg m c n p q - xg m c n p q * kg m c n p
/-- The eight partial sums of the gradient of `gamma` over the groups below `n`. -/
def DG : ℕ → Fin 8 → Fin 18432 → EReal
  | 0 => fun _ _ => 0
  | n + 1 => fun a q => DG n a q + dg4 (xg m c n) (dyg m c n) (rg m c n) a q

/-- What the scratch buffers hold before point `t`. -/
structure Scr (t : ℕ) (d0 d1 d2 : S72x32x256.Idx → EReal) (d3 : S72x8x256.Idx → EReal) (d4 d5 d6 : S32x128.Idx → EReal) : Prop where
  hW : ∀ n, t = n + 1 → n < 40 → ∀ p q, d0 (at3 p q) = wg m c n p q
  hX : ∀ n, t = n + 1 → n < 40 → ∀ p q, d1 (at3 p q) = xg m c n p q
  hV : ∀ n, t = n + 2 → n < 40 → ∀ p q, d2 (at3 p q) = vg m c n p q
  hD : 1 ≤ t → t ≤ 40 → ∀ a q, d3 (at3 a q) = DG m c t a q
  hR : 1 ≤ t → t ≤ 39 → ∀ p l, d4 (ix2 p l) = rg m c t p
  hK : ∀ n, t = n + 1 → n < 40 → ∀ p l, d5 (ix2 p l) = kg m c n p
  hI : ∀ n, t = n + 2 → n < 40 → ∀ p l, d6 (ix2 p l) = ivE (vg m c n) p

/-- What point `t` leaves in the buffer of the gradient of `gamma`, of the gradient, of the codes and of the scales. -/
def R5 (t : ℕ) (Y X : S1x18432.Idx → EReal) : Prop :=
  (t = 40 → ∀ q, X (ix2 0 q) = ∑ a : Fin 8, DG m c 40 a q) ∧ (t = 41 → X = Y)
def R6 (t : ℕ) (Y X : S32x18432.Idx → EReal) : Prop :=
  (∀ n, t = n + 1 → n < 40 → ∀ p q, X (ix2 p q) = vg m c n p q) ∧ (t = 41 → X = Y)
def R7 (t : ℕ) (_ X : S32x18432.Idx → EReal) : Prop :=
  ∀ n, t = n + 2 → n < 40 → ∀ p q, X (ix2 p q) = clipE (vg m c n p q * ivE (vg m c n) p)
def R8 (t : ℕ) (Y X : S2x640.Idx → EReal) : Prop :=
  (t = 0 → ∀ s q, X (ix2 s q) = 0) ∧ (∀ n, t = n + 1 → n < 40 → ∀ s q, X (ix2 s q) = sAdd (fun s q => Y (ix2 s q)) n (scE (vg m c n)) s q) ∧ (t = 41 → X = Y)

theorem coords_val : ∀ t : Fin cfg0.N, (grid0.coords t 0).val = t.val :=
  (by decide +kernel : ∀ t : Fin grid0.N, (grid0.coords t 0).val = t.val)

end Cert.KernelIdeal.Val

end
-- ==== Proof.Val.Ends.lean ====
module

public import proofs.«01_k».proof.Proof.Val.Rows

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

/-- The zeros the first step stores. -/
theorem zero_dg (a : Fin 8) (c : Fin 18432) : k0_pay21 (F := Ideal) (at3 a c) = 0 := by
  unfold at3
  pointwise [k0_pay21]
theorem zero_sc (s : Fin 2) (c : Fin 640) : k0_pay22 (F := Ideal) (ix2 s c) = 0 := by
  pointwise [k0_pay22]

/-- The eight running sums of a chunk of columns, added. -/
theorem colSum_apply (v : FVec Ideal S1x8x256 .f32) (z : Fin 1) (q : Fin 256) : k0_pay19 v (ix2 z q) = ∑ a : Fin 8, v (ix3 0 a q) := by
  pointwise [k0_pay19]

section
variable {sig : RefSig} {κ' : Kind} {sp : Space}

theorem colSum_row (V : View sig κ' sp S72x8x256 .f32) (f : V.ty.Contents (Elt Ideal)) {D0 : Fin 8 → Fin 18432 → EReal} (hD : ∀ a c, V.read (Elt Ideal) f (at3 a c) = D0 a c)
    (t o : ℕ) (ht : t < 72) (ho : o = 256 * t) (inb : ∀ a, (![t, 0, 0] : Fin 3 → ℕ) a + S1x8x256.size a ≤ S72x8x256.size a) (q : Fin 256) :
    k0_pay19 (V.readAt (Elt Ideal) (Rect.unit (s := S72x8x256) ![t, 0, 0] S1x8x256.size inb).toLoadRect f) (ix2 0 q)
      = (fun c : Fin 18432 => ∑ a : Fin 8, D0 a c) ⟨o + q.val, by omega⟩ := by
  subst ho
  rw [colSum_apply]
  refine Finset.sum_congr rfl fun a _ => ?_
  refine Eq.trans (congrArg (V.read (Elt Ideal) f) (funext fun b => Fin.ext ?_)) (hD a _)
  match b with
  | ⟨0, _⟩ => show t + 1 * 0 = (256 * t + q.val) / 256; omega
  | ⟨1, _⟩ => show 0 + 1 * a.val = a.val; omega
  | ⟨2, _⟩ => show 0 + 1 * q.val = (256 * t + q.val) % 256; omega

variable {e : EltTy} {Val : EltTy → Type}

/-- One more chunk of columns written to a row. -/
theorem colStep (V : View sig κ' sp S1x18432 e) (f : V.ty.Contents Val) (G : Fin 18432 → Val e) (o n : ℕ) (hn : n < 72) (ho : o = 256 * n)
    {inb : ∀ a, (![0, o] : Fin 2 → ℕ) a + S1x256.size a ≤ S1x18432.size a} {w : S1x256.Idx → Val e} {L : List (View.Piece Val S1x18432 e)}
    (hw : ∀ q : Fin 256, w (ix2 0 q) = G ⟨o + q.val, by omega⟩) (h : ∀ c : Fin 18432, c.val < 256 * n → V.read Val (V.writes Val f L) (ix2 0 c) = G c) :
    ∀ c : Fin 18432, c.val < 256 * (n + 1) → V.read Val (V.writes Val f (⟨Rect.unit (s := S1x18432) ![0, o] S1x256.size inb, w⟩ :: L)) (ix2 0 c) = G c := by
  intro c hc
  by_cases hlt : c.val < 256 * n
  · rw [V.read_writes_cons_unit_of_not_mem f inb w L (ix2 0 c) rfl (1 : Fin 2) (.inl (by show c.val < o; omega))]
    exact h c hlt
  · rw [V.read_writes_cons_unit_of_mem f inb w L (ix2 0 c) (ix2 0 ⟨c.val - o, by omega⟩) rfl (fun a => ?_), hw]
    · exact congrArg G (Fin.ext (by show o + (c.val - o) = c.val; omega))
    · match a with
      | ⟨0, _⟩ => show 0 = 0 + 0; omega
      | ⟨1, _⟩ => show c.val = o + (c.val - o); omega
end

end Cert.KernelIdeal.Val

end
-- ==== Proof.Val.RunA.lean ====
module

public import proofs.«01_k».proof.Proof.Val.Ends

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

set_option pp.maxSteps 400 in
set_option maxHeartbeats 8000000 in
/-- The step in case A, with what it leaves. -/
theorem runA (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h1 : k0_cond1 i = 1#1) (h2 : k0_cond2 i = 1#1) (h7 : Scalar.cmpi .ne (Scalar.extui (Scalar.cmpi .slt (Scalar.addi (BitVec.ofNat 32 (i 0).val) 1#32) 40#32)) 0#32 = 1#1) (h3 : ¬(k0_cond3 i = 1#1)) (h4 : ¬(k0_cond4 i = 1#1)) (h5 : ¬(k0_cond5 i = 1#1)) (h6 : ¬(k0_cond6 i = 1#1)) (h8 : ¬(k0_cond8 i = 1#1)) (f1 : arg1.view.ty.Contents (Elt Ideal)) (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (RR S9 : Fin 2 → Fin 640 → EReal) (i1 : ∀ p c, (arg1.view.read (Elt Ideal) f1) (ix2 p c) = x p c) (i2 : ∀ p c, (arg2.view.read (Elt Ideal) f2) (ix2 p c) = dy p c) (i3 : ∀ p c, (arg3.view.read (Elt Ideal) f3) (ix2 p c) = dr p c) (i4 : ∀ c, (arg4.view.read (Elt Ideal) f4) (ix2 0 c) = g c) (i5 : ∀ s c, (arg5.view.read (Elt Ideal) f5) (ix2 s c) = RR s c) (i10 : ∀ p c, (arg10.view.read (Elt Ideal) f10) (at3 p c) = W0 p c) (i11 : ∀ p c, (arg11.view.read (Elt Ideal) f11) (at3 p c) = X0 p c)  (hj : (i 0).val < 39) (hz : (i 0).val = 0) (K : PUnit → sProp 𝕄) :
    iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg7 f7 ∗ At (F := Ideal) c arg8 f8 ∗ At (F := Ideal) c arg9 f9 ∗ At (F := Ideal) c arg10 f10 ∗ At (F := Ideal) c arg11 f11 ∗ At (F := Ideal) c arg12 f12 ∗ At (F := Ideal) c arg13 f13 ∗ At (F := Ideal) c arg14 f14 ∗ At (F := Ideal) c arg15 f15 ∗ At (F := Ideal) c arg16 f16 ∗ (iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg7 f7 ∗ At (F := Ideal) c arg8 f8 ∗ At (F := Ideal) c arg12 f12 ∗ At (F := Ideal) c arg16 f16 ∗ (∃ g9 g10 g11 g13 g14 g15, At (F := Ideal) c arg9 g9 ∗ At (F := Ideal) c arg10 g10 ∗ At (F := Ideal) c arg11 g11 ∗ At (F := Ideal) c arg13 g13 ∗ At (F := Ideal) c arg14 g14 ∗ At (F := Ideal) c arg15 g15 ∗ ⌜PA x dy dr g (rrow RR 0) (fun _ _ => 0) (arg10.view.read (Elt Ideal) g10) (arg11.view.read (Elt Ideal) g11) (arg13.view.read (Elt Ideal) g13) ∧ (∀ p (l : Fin 128), (arg14.view.read (Elt Ideal) g14) (ix2 p l) = rrow RR ((i 0).val + 1) p) ∧ (∀ p (l : Fin 128), (arg15.view.read (Elt Ideal) g15) (ix2 p l) = kE x dy g (rrow RR 0) p) ∧ (∀ s c, (arg9.view.read (Elt Ideal) g9) (ix2 s c) = 0)⌝)) -∗ K ⟨⟩))
      ⊢ wp frame (wpE (defs₀ (F := Ideal)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨H1, H2, H3, H4, H5, H6, H7, H8, H9, H10, H11, H12, H13, H14, H15, H16, Hk⟩
  sl_exec (disch := first | sl_exact h1 | sl_exact h2 | sl_exact h7 | sl_exact h3 | sl_exact h4 | sl_exact h5 | sl_exact h6 | sl_exact h8)
  sl_for (fun n acc => I1 c arg1 arg2 arg3 arg4 arg10 arg11 arg13 f1 f2 f3 f4 x dy dr g (rrow RR 0) κ ι W0 X0 V0 (fun _ _ => 0) n acc) $$ [H1 H2 H3 H4 H10 H11 H13]
  case region => exact fun k acc => trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f1 f2 f3 f4 x dy dr g (rrow RR 0) κ ι W0 X0 V0 (fun _ _ => 0) i1 i2 i3 i4 (by sl_unfold_run_names; exact (fun p l => (congrFun (View.readCov_full arg14.view _ _ _ _) (ix2 p l)).trans (loadRV_row RR 0 rfl rfl rfl rfl rfl rfl rfl (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) p l))) k acc
  ·
    isplitl [H1]; · iexact H1
    isplitl [H2]; · iexact H2
    isplitl [H3]; · iexact H3
    isplitl [H4]; · iexact H4
    iexists _, _, _
    isplitl [H10]; · iexact H10
    isplitl [H11]; · iexact H11
    isplitl [H13]; · iexact H13
    ipureintro
    sl_unfold_run_names
    exact FA.zero i10 i11 (fun a c => (congrFun (View.read_writes_full _ _ _ _ _) (at3 a c)).trans (zero_dg a c)) (fun p l => Ideal.ofBits_zero .f32)
  iintro %acc ⟨H1, H2, H3, H4, %g10, %g11, %g13, H10, H11, H13, %hI⟩
  have e18 : Scf.trips k0_t1_loop.lb k0_t1_loop.ub k0_t1_loop.st = 18 := by decide
  sl_exec (disch := first | sl_exact h1 | sl_exact h2 | sl_exact h7 | sl_exact h3 | sl_exact h4 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H12]; · iexact H12
  isplitl [H16]; · iexact H16
  iexists _, _, _, _, _, _
  isplitl [H9]; · iexact H9
  isplitl [H10]; · iexact H10
  isplitl [H11]; · iexact H11
  isplitl [H13]; · iexact H13
  isplitl [H14]; · iexact H14
  isplitl [H15]; · iexact H15
  ipureintro
  sl_unfold_run_names
  refine ⟨?_, ?_, ?_, ?_⟩
  · exact hI.done e18
  · refine fun p l => (writeFull _ _ _ _ _ p l).trans (loadRV_row RR ((i 0).val + 1) ?_ ?_ ?_ ?_ ?_ ?_ ?_ (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) p l)
    · generalize i 0 = n at hj ⊢; revert hj; revert n; change ∀ n : Fin 42, _; decide +kernel
    · generalize i 0 = n at hj ⊢; revert hj; revert n; change ∀ n : Fin 42, _; decide +kernel
    · generalize i 0 = n at hj ⊢; revert hj; revert n; change ∀ n : Fin 42, _; decide +kernel
    · generalize i 0 = n at hj ⊢; revert hj; revert n; change ∀ n : Fin 42, _; decide +kernel
    · generalize i 0 = n at hj ⊢; revert hj; revert n; change ∀ n : Fin 42, _; decide +kernel
    · generalize i 0 = n at hj ⊢; revert hj; revert n; change ∀ n : Fin 42, _; decide +kernel
    · generalize i 0 = n at hj ⊢; revert hj; revert n; change ∀ n : Fin 42, _; decide +kernel
  · exact fun p l => (writeFull _ _ _ _ _ p l).trans (vk_row hI e18 (fun p l => (congrFun (View.readCov_full arg14.view _ _ _ _) (ix2 p l)).trans (loadRV_row RR 0 rfl rfl rfl rfl rfl rfl rfl (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) p l)) p l)
  · exact fun s c => (writeFull _ _ _ _ _ s c).trans (zero_sc s c)
  skip

end Cert.KernelIdeal.Val

end
-- ==== Proof.Val.StepA.lean ====
module

public import proofs.«01_k».proof.Proof.Val.Data
public import proofs.«01_k».proof.Proof.Val.RunA

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At ms0 ms1 ms2 ms3 ms4 ms5 ms6 ms7 ms8 hs0 hs1 hs2 hs3 hs4 hs5 hs6 hs7 hs8 sc0 sc1 sc2 sc3 sc4 sc5 sc6 hcond1 hcond2 hcond3 hcond4 hcond5 hcond6 hcond7 hcond8)
open Idealize.ShloMosaic.Pipeline (Dat Cfg Window BodyObligation cellOf)

local notation "𝕄" => MT nD τ sig Unit (Elt Ideal) ℕ (UR sig nD τ) ℕ

set_option maxHeartbeats 4000000 in
/-- The step in case A, on the buffers of point `t`. -/
theorem stepA (m : (ℓ : Loc nD τ sig) → Buf (Elt Ideal) ℓ) (c : Dev nD) (t : Fin cfg0.N) (ht : t.val = 0) (f1 : (ms0 t).view.ty.Contents (Elt Ideal)) (f2 : (ms1 t).view.ty.Contents (Elt Ideal)) (f3 : (ms2 t).view.ty.Contents (Elt Ideal)) (f4 : (ms3 t).view.ty.Contents (Elt Ideal)) (f5 : (ms4 t).view.ty.Contents (Elt Ideal)) (f6 : (ms5 t).view.ty.Contents (Elt Ideal)) (f7 : (ms6 t).view.ty.Contents (Elt Ideal)) (f8 : (ms7 t).view.ty.Contents (Elt Ideal)) (f9 : (ms8 t).view.ty.Contents (Elt Ideal)) (f10 : sc0.view.ty.Contents (Elt Ideal)) (f11 : sc1.view.ty.Contents (Elt Ideal)) (f12 : sc2.view.ty.Contents (Elt Ideal)) (f13 : sc3.view.ty.Contents (Elt Ideal)) (f14 : sc4.view.ty.Contents (Elt Ideal)) (f15 : sc5.view.ty.Contents (Elt Ideal)) (f16 : sc6.view.ty.Contents (Elt Ideal))
    (i1 : ∀ p q, ((ms0 t).view.read (Elt Ideal) f1) (ix2 p q) = xg m c t.val p q) (i2 : ∀ p q, ((ms1 t).view.read (Elt Ideal) f2) (ix2 p q) = dyg m c t.val p q) (i3 : ∀ p q, ((ms2 t).view.read (Elt Ideal) f3) (ix2 p q) = drg m c t.val p q) (i4 : ∀ q, ((ms3 t).view.read (Elt Ideal) f4) (ix2 0 q) = gg m c q) (i5 : ∀ s q, ((ms4 t).view.read (Elt Ideal) f5) (ix2 s q) = RRg m c s q)
    (hS : Scr m c t.val (sc0.view.read (Elt Ideal) f10) (sc1.view.read (Elt Ideal) f11) (sc2.view.read (Elt Ideal) f12) (sc3.view.read (Elt Ideal) f13) (sc4.view.read (Elt Ideal) f14) (sc5.view.read (Elt Ideal) f15) (sc6.view.read (Elt Ideal) f16)) (K : PUnit → sProp 𝕄) :
    iprop(At (F := Ideal) c (ms0 t) f1 ∗ At (F := Ideal) c (ms1 t) f2 ∗ At (F := Ideal) c (ms2 t) f3 ∗ At (F := Ideal) c (ms3 t) f4 ∗ At (F := Ideal) c (ms4 t) f5 ∗ At (F := Ideal) c (ms5 t) f6 ∗ At (F := Ideal) c (ms6 t) f7 ∗ At (F := Ideal) c (ms7 t) f8 ∗ At (F := Ideal) c (ms8 t) f9 ∗ At (F := Ideal) c sc0 f10 ∗ At (F := Ideal) c sc1 f11 ∗ At (F := Ideal) c sc2 f12 ∗ At (F := Ideal) c sc3 f13 ∗ At (F := Ideal) c sc4 f14 ∗ At (F := Ideal) c sc5 f15 ∗ At (F := Ideal) c sc6 f16 ∗ (iprop(At (F := Ideal) c (ms0 t) f1 ∗ At (F := Ideal) c (ms1 t) f2 ∗ At (F := Ideal) c (ms2 t) f3 ∗ At (F := Ideal) c (ms3 t) f4 ∗ At (F := Ideal) c (ms4 t) f5 ∗ (∃ g6 g7 g8 g9 g10 g11 g12 g13 g14 g15 g16, At (F := Ideal) c (ms5 t) g6 ∗ At (F := Ideal) c (ms6 t) g7 ∗ At (F := Ideal) c (ms7 t) g8 ∗ At (F := Ideal) c (ms8 t) g9 ∗ At (F := Ideal) c sc0 g10 ∗ At (F := Ideal) c sc1 g11 ∗ At (F := Ideal) c sc2 g12 ∗ At (F := Ideal) c sc3 g13 ∗ At (F := Ideal) c sc4 g14 ∗ At (F := Ideal) c sc5 g15 ∗ At (F := Ideal) c sc6 g16
      ∗ ⌜R5 m c t.val ((ms5 t).view.read (Elt Ideal) f6) ((ms5 t).view.read (Elt Ideal) g6) ∧ R6 m c t.val ((ms6 t).view.read (Elt Ideal) f7) ((ms6 t).view.read (Elt Ideal) g7) ∧ R7 m c t.val ((ms7 t).view.read (Elt Ideal) f8) ((ms7 t).view.read (Elt Ideal) g8) ∧ R8 m c t.val ((ms8 t).view.read (Elt Ideal) f9) ((ms8 t).view.read (Elt Ideal) g9) ∧ Scr m c (t.val + 1) (sc0.view.read (Elt Ideal) g10) (sc1.view.read (Elt Ideal) g11) (sc2.view.read (Elt Ideal) g12) (sc3.view.read (Elt Ideal) g13) (sc4.view.read (Elt Ideal) g14) (sc5.view.read (Elt Ideal) g15) (sc6.view.read (Elt Ideal) g16)⌝)) -∗ K ⟨⟩))
      ⊢ wp frame (wpE (defs₀ (F := Ideal)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  iintro ⟨H1, H2, H3, H4, H5, H6, H7, H8, H9, H10, H11, H12, H13, H14, H15, H16, Hk⟩
  iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond1 t).mpr (by omega)) ((hcond2 t).mpr (by omega)) ((hcond7 t).mpr (by omega)) (fun hh => absurd ((hcond3 t).mp hh) (by omega)) (fun hh => absurd ((hcond4 t).mp hh) (by omega)) (fun hh => absurd ((hcond5 t).mp hh) (by omega)) (fun hh => absurd ((hcond6 t).mp hh) (by omega)) (fun hh => absurd ((hcond8 t).mp hh) (by omega)) f1 f2 f3 f4 f5 f6 f7 f8 f9 f10 f11 f12 f13 f14 f15 f16 (xg m c 0) (dyg m c 0) (drg m c 0) (gg m c) (rg m c 0) (fun _ => 0) (fun _ => 0) (fun p q => (sc0.view.read (Elt Ideal) f10) (at3 p q)) (fun p q => (sc1.view.read (Elt Ideal) f11) (at3 p q)) (fun p q => (sc2.view.read (Elt Ideal) f12) (at3 p q)) (fun _ _ => 0) (RRg m c) (fun s q => ((ms8 t).view.read (Elt Ideal) f9) (ix2 s q)) (fun p q => (i1 p q).trans (by rw [ht])) (fun p q => (i2 p q).trans (by rw [ht])) (fun p q => (i3 p q).trans (by rw [ht])) i4 i5 (fun _ _ => rfl) (fun _ _ => rfl) (by rw [coords_val]; omega) (by rw [coords_val]; omega) K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H12, H16, %g9, %g10, %g11, %g13, %g14, %g15, H9, H10, H11, H13, H14, H15, %hf⟩
  iapply Hk
  isplitl [H1]; · iexact H1
  isplitl [H2]; · iexact H2
  isplitl [H3]; · iexact H3
  isplitl [H4]; · iexact H4
  isplitl [H5]; · iexact H5
  iexists f6, f7, f8, g9, g10, g11, f12, g13, g14, g15, f16
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨hA, hL, hk, h0⟩ := hf
  exact ⟨⟨fun e => absurd e (by omega), fun e => absurd e (by omega)⟩, ⟨fun k e _ => absurd e (by omega), fun e => absurd e (by omega)⟩, fun k e _ => absurd e (by omega), ⟨fun _ => h0, fun k e _ => absurd e (by omega), fun e => absurd e (by omega)⟩, ⟨fun k e _ => (by obtain rfl : k = 0 := (by omega); exact hA.hW), fun k e _ => (by obtain rfl : k = 0 := (by omega); exact hA.hX), fun k e _ => absurd e (by omega), fun _ _ a q => (hA.hD a q).trans (by rw [ht]; rfl), fun _ _ p l => (hL p l).trans (by rw [coords_val]; rfl), fun k e _ => (by obtain rfl : k = 0 := (by omega); exact hk), fun k e _ => absurd e (by omega)⟩⟩

end Cert.KernelIdeal.Val

end
-- ==== Proof.Val.RunB.lean ====
module

public import proofs.«01_k».proof.Proof.Val.Rows

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

set_option pp.maxSteps 400 in
set_option maxHeartbeats 8000000 in
/-- The step in case B, with what it leaves. -/
theorem runB (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h3 : k0_cond3 i = 1#1) (h7 : Scalar.cmpi .ne (Scalar.extui (Scalar.cmpi .slt (Scalar.addi (BitVec.ofNat 32 (i 0).val) 1#32) 40#32)) 0#32 = 1#1) (h1 : ¬(k0_cond1 i = 1#1)) (h2 : ¬(k0_cond2 i = 1#1)) (h4 : ¬(k0_cond4 i = 1#1)) (h5 : ¬(k0_cond5 i = 1#1)) (h6 : ¬(k0_cond6 i = 1#1)) (h8 : ¬(k0_cond8 i = 1#1)) (f1 : arg1.view.ty.Contents (Elt Ideal)) (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (RR S9 : Fin 2 → Fin 640 → EReal) (i1 : ∀ p c, (arg1.view.read (Elt Ideal) f1) (ix2 p c) = x p c) (i2 : ∀ p c, (arg2.view.read (Elt Ideal) f2) (ix2 p c) = dy p c) (i3 : ∀ p c, (arg3.view.read (Elt Ideal) f3) (ix2 p c) = dr p c) (i4 : ∀ c, (arg4.view.read (Elt Ideal) f4) (ix2 0 c) = g c) (i5 : ∀ s c, (arg5.view.read (Elt Ideal) f5) (ix2 s c) = RR s c) (i9 : ∀ s c, (arg9.view.read (Elt Ideal) f9) (ix2 s c) = S9 s c) (i10 : ∀ p c, (arg10.view.read (Elt Ideal) f10) (at3 p c) = W0 p c) (i11 : ∀ p c, (arg11.view.read (Elt Ideal) f11) (at3 p c) = X0 p c) (i12 : ∀ p c, (arg12.view.read (Elt Ideal) f12) (at3 p c) = V0 p c) (i13 : ∀ p c, (arg13.view.read (Elt Ideal) f13) (at3 p c) = D0 p c) (i14 : ∀ p l, (arg14.view.read (Elt Ideal) f14) (ix2 p l) = r p) (i15 : ∀ p l, (arg15.view.read (Elt Ideal) f15) (ix2 p l) = κ p) (hi : 1 ≤ (i 0).val) (hi' : (i 0).val ≤ 40) (hj : (i 0).val < 39) (K : PUnit → sProp 𝕄) :
    iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg7 f7 ∗ At (F := Ideal) c arg8 f8 ∗ At (F := Ideal) c arg9 f9 ∗ At (F := Ideal) c arg10 f10 ∗ At (F := Ideal) c arg11 f11 ∗ At (F := Ideal) c arg12 f12 ∗ At (F := Ideal) c arg13 f13 ∗ At (F := Ideal) c arg14 f14 ∗ At (F := Ideal) c arg15 f15 ∗ At (F := Ideal) c arg16 f16 ∗ (iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg8 f8 ∗ (∃ g7 g9 g10 g11 g12 g13 g14 g15 g16, At (F := Ideal) c arg7 g7 ∗ At (F := Ideal) c arg9 g9 ∗ At (F := Ideal) c arg10 g10 ∗ At (F := Ideal) c arg11 g11 ∗ At (F := Ideal) c arg12 g12 ∗ At (F := Ideal) c arg13 g13 ∗ At (F := Ideal) c arg14 g14 ∗ At (F := Ideal) c arg15 g15 ∗ At (F := Ideal) c arg16 g16 ∗ ⌜PA x dy dr g r D0 (arg10.view.read (Elt Ideal) g10) (arg11.view.read (Elt Ideal) g11) (arg13.view.read (Elt Ideal) g13) ∧ PB (fun p c => W0 p c - X0 p c * κ p) (arg12.view.read (Elt Ideal) g12) (arg7.view.read (Elt Ideal) g7) ∧ (∀ p (l : Fin 128), (arg14.view.read (Elt Ideal) g14) (ix2 p l) = rrow RR ((i 0).val + 1) p) ∧ (∀ p (l : Fin 128), (arg15.view.read (Elt Ideal) g15) (ix2 p l) = kE x dy g r p) ∧ (∀ p (l : Fin 128), (arg16.view.read (Elt Ideal) g16) (ix2 p l) = ivE (fun p c => W0 p c - X0 p c * κ p) p) ∧ (∀ s c, (arg9.view.read (Elt Ideal) g9) (ix2 s c) = sAdd S9 ((i 0).val - 1) (scE (fun p c => W0 p c - X0 p c * κ p)) s c)⌝)) -∗ K ⟨⟩))
      ⊢ wp frame (wpE (defs₀ (F := Ideal)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨H1, H2, H3, H4, H5, H6, H7, H8, H9, H10, H11, H12, H13, H14, H15, H16, Hk⟩
  sl_exec (disch := first | sl_exact h3 | sl_exact h7 | sl_exact h1 | sl_exact h2 | sl_exact h4 | sl_exact h5 | sl_exact h6 | sl_exact h8)
  sl_for (fun n acc => I2 c arg1 arg2 arg3 arg4 arg7 arg10 arg11 arg12 arg13 f1 f2 f3 f4 x dy dr g r κ ι W0 X0 V0 D0 n acc) $$ [H1 H2 H3 H4 H7 H10 H11 H12 H13]
  case region => exact fun k acc => trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ f1 f2 f3 f4 x dy dr g r κ ι W0 X0 V0 D0 i1 i2 i3 i4 (fun p l => (readFull arg14.view f14 _ p l).trans (i14 p l)) (fun p l => (readFull arg15.view f15 _ p l).trans (i15 p l)) k acc
  ·
    isplitl [H1]; · iexact H1
    isplitl [H2]; · iexact H2
    isplitl [H3]; · iexact H3
    isplitl [H4]; · iexact H4
    iexists _, _, _, _, _
    isplitl [H7]; · iexact H7
    isplitl [H10]; · iexact H10
    isplitl [H11]; · iexact H11
    isplitl [H12]; · iexact H12
    isplitl [H13]; · iexact H13
    ipureintro
    exact ⟨FA.zero i10 i11 i13 (fun p l => Ideal.ofBits_zero .f32), FB.zero i12 (fun p l => Ideal.ofBits_zero .f32)⟩
  iintro %acc ⟨H1, H2, H3, H4, %g7, %g10, %g11, %g12, %g13, H7, H10, H11, H12, H13, %hI⟩
  have e18 : Scf.trips k0_t2_loop.lb k0_t2_loop.ub k0_t2_loop.st = 18 := by decide
  sl_exec (disch := first | sl_exact h3 | sl_exact h7 | sl_exact h1 | sl_exact h2 | sl_exact h4 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H8]; · iexact H8
  iexists _, _, _, _, _, _, _, _, _
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  sl_unfold_run_names
  refine ⟨?_, ?_, ?_, ?_, ?_, ?_⟩
  · exact hI.1.done e18
  · exact hI.2.done e18
  · refine fun p l => (writeFull _ _ _ _ _ p l).trans (loadRV_row RR ((i 0).val + 1) ?_ ?_ ?_ ?_ ?_ ?_ ?_ (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) p l)
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
  · exact fun p l => (writeFull _ _ _ _ _ p l).trans (vk_row hI.1 e18 (fun p l => (readFull arg14.view f14 _ p l).trans (i14 p l)) p l)
  · exact fun p l => (writeFull _ _ _ _ _ p l).trans (vinv_row hI.2 e18 p l)
  · refine store5 (Val := Elt Ideal) arg9.view f9 _ _ _ _ _ (sAdd S9 ((i 0).val - 1) (scE (fun p c => W0 p c - X0 p c * κ p))) ?_ ?_ ?_ ?_ ?_
    · refine storeV_row S9 ((i 0).val - 1) _ ?_ ?_ 0 0 (by decide) rfl ?_ (vscale_row hI.2 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
    · refine storeV_row S9 ((i 0).val - 1) _ ?_ ?_ 128 1 (by decide) rfl ?_ (vscale_row hI.2 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
    · refine storeV_row S9 ((i 0).val - 1) _ ?_ ?_ 256 2 (by decide) rfl ?_ (vscale_row hI.2 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
    · refine storeV_row S9 ((i 0).val - 1) _ ?_ ?_ 384 3 (by decide) rfl ?_ (vscale_row hI.2 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
    · refine storeV_row S9 ((i 0).val - 1) _ ?_ ?_ 512 4 (by decide) rfl ?_ (vscale_row hI.2 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
  skip

end Cert.KernelIdeal.Val

end
-- ==== Proof.Val.StepB.lean ====
module

public import proofs.«01_k».proof.Proof.Val.Data
public import proofs.«01_k».proof.Proof.Val.RunB

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At ms0 ms1 ms2 ms3 ms4 ms5 ms6 ms7 ms8 hs0 hs1 hs2 hs3 hs4 hs5 hs6 hs7 hs8 sc0 sc1 sc2 sc3 sc4 sc5 sc6 hcond1 hcond2 hcond3 hcond4 hcond5 hcond6 hcond7 hcond8)
open Idealize.ShloMosaic.Pipeline (Dat Cfg Window BodyObligation cellOf)

local notation "𝕄" => MT nD τ sig Unit (Elt Ideal) ℕ (UR sig nD τ) ℕ

set_option maxHeartbeats 4000000 in
/-- The step in case B, on the buffers of point `t`. -/
theorem stepB (m : (ℓ : Loc nD τ sig) → Buf (Elt Ideal) ℓ) (c : Dev nD) (t : Fin cfg0.N) (ht : t.val = 1) (f1 : (ms0 t).view.ty.Contents (Elt Ideal)) (f2 : (ms1 t).view.ty.Contents (Elt Ideal)) (f3 : (ms2 t).view.ty.Contents (Elt Ideal)) (f4 : (ms3 t).view.ty.Contents (Elt Ideal)) (f5 : (ms4 t).view.ty.Contents (Elt Ideal)) (f6 : (ms5 t).view.ty.Contents (Elt Ideal)) (f7 : (ms6 t).view.ty.Contents (Elt Ideal)) (f8 : (ms7 t).view.ty.Contents (Elt Ideal)) (f9 : (ms8 t).view.ty.Contents (Elt Ideal)) (f10 : sc0.view.ty.Contents (Elt Ideal)) (f11 : sc1.view.ty.Contents (Elt Ideal)) (f12 : sc2.view.ty.Contents (Elt Ideal)) (f13 : sc3.view.ty.Contents (Elt Ideal)) (f14 : sc4.view.ty.Contents (Elt Ideal)) (f15 : sc5.view.ty.Contents (Elt Ideal)) (f16 : sc6.view.ty.Contents (Elt Ideal))
    (i1 : ∀ p q, ((ms0 t).view.read (Elt Ideal) f1) (ix2 p q) = xg m c t.val p q) (i2 : ∀ p q, ((ms1 t).view.read (Elt Ideal) f2) (ix2 p q) = dyg m c t.val p q) (i3 : ∀ p q, ((ms2 t).view.read (Elt Ideal) f3) (ix2 p q) = drg m c t.val p q) (i4 : ∀ q, ((ms3 t).view.read (Elt Ideal) f4) (ix2 0 q) = gg m c q) (i5 : ∀ s q, ((ms4 t).view.read (Elt Ideal) f5) (ix2 s q) = RRg m c s q)
    (hS : Scr m c t.val (sc0.view.read (Elt Ideal) f10) (sc1.view.read (Elt Ideal) f11) (sc2.view.read (Elt Ideal) f12) (sc3.view.read (Elt Ideal) f13) (sc4.view.read (Elt Ideal) f14) (sc5.view.read (Elt Ideal) f15) (sc6.view.read (Elt Ideal) f16)) (K : PUnit → sProp 𝕄) :
    iprop(At (F := Ideal) c (ms0 t) f1 ∗ At (F := Ideal) c (ms1 t) f2 ∗ At (F := Ideal) c (ms2 t) f3 ∗ At (F := Ideal) c (ms3 t) f4 ∗ At (F := Ideal) c (ms4 t) f5 ∗ At (F := Ideal) c (ms5 t) f6 ∗ At (F := Ideal) c (ms6 t) f7 ∗ At (F := Ideal) c (ms7 t) f8 ∗ At (F := Ideal) c (ms8 t) f9 ∗ At (F := Ideal) c sc0 f10 ∗ At (F := Ideal) c sc1 f11 ∗ At (F := Ideal) c sc2 f12 ∗ At (F := Ideal) c sc3 f13 ∗ At (F := Ideal) c sc4 f14 ∗ At (F := Ideal) c sc5 f15 ∗ At (F := Ideal) c sc6 f16 ∗ (iprop(At (F := Ideal) c (ms0 t) f1 ∗ At (F := Ideal) c (ms1 t) f2 ∗ At (F := Ideal) c (ms2 t) f3 ∗ At (F := Ideal) c (ms3 t) f4 ∗ At (F := Ideal) c (ms4 t) f5 ∗ (∃ g6 g7 g8 g9 g10 g11 g12 g13 g14 g15 g16, At (F := Ideal) c (ms5 t) g6 ∗ At (F := Ideal) c (ms6 t) g7 ∗ At (F := Ideal) c (ms7 t) g8 ∗ At (F := Ideal) c (ms8 t) g9 ∗ At (F := Ideal) c sc0 g10 ∗ At (F := Ideal) c sc1 g11 ∗ At (F := Ideal) c sc2 g12 ∗ At (F := Ideal) c sc3 g13 ∗ At (F := Ideal) c sc4 g14 ∗ At (F := Ideal) c sc5 g15 ∗ At (F := Ideal) c sc6 g16
      ∗ ⌜R5 m c t.val ((ms5 t).view.read (Elt Ideal) f6) ((ms5 t).view.read (Elt Ideal) g6) ∧ R6 m c t.val ((ms6 t).view.read (Elt Ideal) f7) ((ms6 t).view.read (Elt Ideal) g7) ∧ R7 m c t.val ((ms7 t).view.read (Elt Ideal) f8) ((ms7 t).view.read (Elt Ideal) g8) ∧ R8 m c t.val ((ms8 t).view.read (Elt Ideal) f9) ((ms8 t).view.read (Elt Ideal) g9) ∧ Scr m c (t.val + 1) (sc0.view.read (Elt Ideal) g10) (sc1.view.read (Elt Ideal) g11) (sc2.view.read (Elt Ideal) g12) (sc3.view.read (Elt Ideal) g13) (sc4.view.read (Elt Ideal) g14) (sc5.view.read (Elt Ideal) g15) (sc6.view.read (Elt Ideal) g16)⌝)) -∗ K ⟨⟩))
      ⊢ wp frame (wpE (defs₀ (F := Ideal)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  iintro ⟨H1, H2, H3, H4, H5, H6, H7, H8, H9, H10, H11, H12, H13, H14, H15, H16, Hk⟩
  iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond3 t).mpr (by omega)) ((hcond7 t).mpr (by omega)) (fun hh => absurd ((hcond1 t).mp hh) (by omega)) (fun hh => absurd ((hcond2 t).mp hh) (by omega)) (fun hh => absurd ((hcond4 t).mp hh) (by omega)) (fun hh => absurd ((hcond5 t).mp hh) (by omega)) (fun hh => absurd ((hcond6 t).mp hh) (by omega)) (fun hh => absurd ((hcond8 t).mp hh) (by omega)) f1 f2 f3 f4 f5 f6 f7 f8 f9 f10 f11 f12 f13 f14 f15 f16 (xg m c 1) (dyg m c 1) (drg m c 1) (gg m c) (rg m c 1) (kg m c 0) (fun _ => 0) (wg m c 0) (xg m c 0) (fun p q => (sc2.view.read (Elt Ideal) f12) (at3 p q)) (DG m c 1) (RRg m c) (fun s q => ((ms8 t).view.read (Elt Ideal) f9) (ix2 s q)) (fun p q => (i1 p q).trans (by rw [ht])) (fun p q => (i2 p q).trans (by rw [ht])) (fun p q => (i3 p q).trans (by rw [ht])) i4 i5 (fun _ _ => rfl) (hS.hW 0 (by omega) (by omega)) (hS.hX 0 (by omega) (by omega)) (fun _ _ => rfl) (fun a q => (hS.hD (by omega) (by omega) a q).trans (by rw [ht])) (fun p l => (hS.hR (by omega) (by omega) p l).trans (by rw [ht])) (hS.hK 0 (by omega) (by omega)) (by rw [coords_val]; omega) (by rw [coords_val]; omega) (by rw [coords_val]; omega) K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H8, %g7, %g9, %g10, %g11, %g12, %g13, %g14, %g15, %g16, H7, H9, H10, H11, H12, H13, H14, H15, H16, %hf⟩
  iapply Hk
  isplitl [H1]; · iexact H1
  isplitl [H2]; · iexact H2
  isplitl [H3]; · iexact H3
  isplitl [H4]; · iexact H4
  isplitl [H5]; · iexact H5
  iexists f6, g7, f8, g9, g10, g11, g12, g13, g14, g15, g16
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨hA, hB, hL, hk, hi, h9⟩ := hf
  have h9' := h9; rw [show (grid0.coords t 0).val - 1 = 0 by rw [coords_val]; omega] at h9'
  exact ⟨⟨fun e => absurd e (by omega), fun e => absurd e (by omega)⟩, ⟨fun k e _ => (by obtain rfl : k = 0 := (by omega); exact hB.hT), fun e => absurd e (by omega)⟩, fun k e _ => absurd e (by omega), ⟨fun e => absurd e (by omega), fun k e _ => (by obtain rfl : k = 0 := (by omega); exact h9'), fun e => absurd e (by omega)⟩, ⟨fun k e _ => (by obtain rfl : k = 1 := (by omega); exact hA.hW), fun k e _ => (by obtain rfl : k = 1 := (by omega); exact hA.hX), fun k e _ => (by obtain rfl : k = 0 := (by omega); exact hB.hV), fun _ _ a q => (hA.hD a q).trans (by rw [ht]; rfl), fun _ _ p l => (hL p l).trans (by rw [coords_val]; rfl), fun k e _ => (by obtain rfl : k = 1 := (by omega); exact hk), fun k e _ => (by obtain rfl : k = 0 := (by omega); exact hi)⟩⟩

end Cert.KernelIdeal.Val

end
-- ==== Proof.Val.RunC.lean ====
module

public import proofs.«01_k».proof.Proof.Val.Rows

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

set_option pp.maxSteps 400 in
set_option maxHeartbeats 8000000 in
/-- The step in case C, with what it leaves. -/
theorem runC (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h4 : k0_cond4 i = 1#1) (h7 : Scalar.cmpi .ne (Scalar.extui (Scalar.cmpi .slt (Scalar.addi (BitVec.ofNat 32 (i 0).val) 1#32) 40#32)) 0#32 = 1#1) (h1 : ¬(k0_cond1 i = 1#1)) (h2 : ¬(k0_cond2 i = 1#1)) (h3 : ¬(k0_cond3 i = 1#1)) (h5 : ¬(k0_cond5 i = 1#1)) (h6 : ¬(k0_cond6 i = 1#1)) (h8 : ¬(k0_cond8 i = 1#1)) (f1 : arg1.view.ty.Contents (Elt Ideal)) (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (RR S9 : Fin 2 → Fin 640 → EReal) (i1 : ∀ p c, (arg1.view.read (Elt Ideal) f1) (ix2 p c) = x p c) (i2 : ∀ p c, (arg2.view.read (Elt Ideal) f2) (ix2 p c) = dy p c) (i3 : ∀ p c, (arg3.view.read (Elt Ideal) f3) (ix2 p c) = dr p c) (i4 : ∀ c, (arg4.view.read (Elt Ideal) f4) (ix2 0 c) = g c) (i5 : ∀ s c, (arg5.view.read (Elt Ideal) f5) (ix2 s c) = RR s c) (i9 : ∀ s c, (arg9.view.read (Elt Ideal) f9) (ix2 s c) = S9 s c) (i10 : ∀ p c, (arg10.view.read (Elt Ideal) f10) (at3 p c) = W0 p c) (i11 : ∀ p c, (arg11.view.read (Elt Ideal) f11) (at3 p c) = X0 p c) (i12 : ∀ p c, (arg12.view.read (Elt Ideal) f12) (at3 p c) = V0 p c) (i13 : ∀ p c, (arg13.view.read (Elt Ideal) f13) (at3 p c) = D0 p c) (i14 : ∀ p l, (arg14.view.read (Elt Ideal) f14) (ix2 p l) = r p) (i15 : ∀ p l, (arg15.view.read (Elt Ideal) f15) (ix2 p l) = κ p) (i16 : ∀ p l, (arg16.view.read (Elt Ideal) f16) (ix2 p l) = ι p) (hi : 1 ≤ (i 0).val) (hi' : (i 0).val ≤ 40) (hj : (i 0).val < 39) (K : PUnit → sProp 𝕄) :
    iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg7 f7 ∗ At (F := Ideal) c arg8 f8 ∗ At (F := Ideal) c arg9 f9 ∗ At (F := Ideal) c arg10 f10 ∗ At (F := Ideal) c arg11 f11 ∗ At (F := Ideal) c arg12 f12 ∗ At (F := Ideal) c arg13 f13 ∗ At (F := Ideal) c arg14 f14 ∗ At (F := Ideal) c arg15 f15 ∗ At (F := Ideal) c arg16 f16 ∗ (iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ (∃ g7 g8 g9 g10 g11 g12 g13 g14 g15 g16, At (F := Ideal) c arg7 g7 ∗ At (F := Ideal) c arg8 g8 ∗ At (F := Ideal) c arg9 g9 ∗ At (F := Ideal) c arg10 g10 ∗ At (F := Ideal) c arg11 g11 ∗ At (F := Ideal) c arg12 g12 ∗ At (F := Ideal) c arg13 g13 ∗ At (F := Ideal) c arg14 g14 ∗ At (F := Ideal) c arg15 g15 ∗ At (F := Ideal) c arg16 g16 ∗ ⌜PA x dy dr g r D0 (arg10.view.read (Elt Ideal) g10) (arg11.view.read (Elt Ideal) g11) (arg13.view.read (Elt Ideal) g13) ∧ PB (fun p c => W0 p c - X0 p c * κ p) (arg12.view.read (Elt Ideal) g12) (arg7.view.read (Elt Ideal) g7) ∧ (∀ p (c : Fin 18432), (arg8.view.read (Elt Ideal) g8) (ix2 p c) = clipE (V0 p c * ι p)) ∧ (∀ p (l : Fin 128), (arg14.view.read (Elt Ideal) g14) (ix2 p l) = rrow RR ((i 0).val + 1) p) ∧ (∀ p (l : Fin 128), (arg15.view.read (Elt Ideal) g15) (ix2 p l) = kE x dy g r p) ∧ (∀ p (l : Fin 128), (arg16.view.read (Elt Ideal) g16) (ix2 p l) = ivE (fun p c => W0 p c - X0 p c * κ p) p) ∧ (∀ s c, (arg9.view.read (Elt Ideal) g9) (ix2 s c) = sAdd S9 ((i 0).val - 1) (scE (fun p c => W0 p c - X0 p c * κ p)) s c)⌝)) -∗ K ⟨⟩))
      ⊢ wp frame (wpE (defs₀ (F := Ideal)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨H1, H2, H3, H4, H5, H6, H7, H8, H9, H10, H11, H12, H13, H14, H15, H16, Hk⟩
  sl_exec (disch := first | sl_exact h4 | sl_exact h7 | sl_exact h1 | sl_exact h2 | sl_exact h3 | sl_exact h5 | sl_exact h6 | sl_exact h8)
  sl_for (fun n acc => I3 c arg1 arg2 arg3 arg4 arg7 arg8 arg10 arg11 arg12 arg13 f1 f2 f3 f4 x dy dr g r κ ι W0 X0 V0 D0 n acc) $$ [H1 H2 H3 H4 H7 H8 H10 H11 H12 H13]
  case region => exact fun k acc => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ f1 f2 f3 f4 x dy dr g r κ ι W0 X0 V0 D0 i1 i2 i3 i4 (fun p l => (readFull arg14.view f14 _ p l).trans (i14 p l)) (fun p l => (readFull arg15.view f15 _ p l).trans (i15 p l)) (fun p l => (readFull arg16.view f16 _ p l).trans (i16 p l)) k acc
  ·
    isplitl [H1]; · iexact H1
    isplitl [H2]; · iexact H2
    isplitl [H3]; · iexact H3
    isplitl [H4]; · iexact H4
    iexists _, _, _, _, _, _
    isplitl [H7]; · iexact H7
    isplitl [H8]; · iexact H8
    isplitl [H10]; · iexact H10
    isplitl [H11]; · iexact H11
    isplitl [H12]; · iexact H12
    isplitl [H13]; · iexact H13
    ipureintro
    exact ⟨FA.zero i10 i11 i13 (fun p l => Ideal.ofBits_zero .f32), FB.zero i12 (fun p l => Ideal.ofBits_zero .f32), FC.zero⟩
  iintro %acc ⟨H1, H2, H3, H4, %g7, %g8, %g10, %g11, %g12, %g13, H7, H8, H10, H11, H12, H13, %hI⟩
  have e18 : Scf.trips k0_t3_loop.lb k0_t3_loop.ub k0_t3_loop.st = 18 := by decide
  sl_exec (disch := first | sl_exact h4 | sl_exact h7 | sl_exact h1 | sl_exact h2 | sl_exact h3 | sl_exact h5 | sl_exact h6 | sl_exact h8)
  sl_step
  iapply Hk
  isplitl [H1]; · iexact H1
  isplitl [H2]; · iexact H2
  isplitl [H3]; · iexact H3
  isplitl [H4]; · iexact H4
  isplitl [H5]; · iexact H5
  isplitl [H6]; · iexact H6
  iexists _, _, _, _, _, _, _, _, _, _
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  sl_unfold_run_names
  refine ⟨?_, ?_, ?_, ?_, ?_, ?_, ?_⟩
  · exact hI.1.done e18
  · exact hI.2.1.done e18
  · exact hI.2.2.done e18
  · refine fun p l => (writeFull _ _ _ _ _ p l).trans (loadRV_row RR ((i 0).val + 1) ?_ ?_ ?_ ?_ ?_ ?_ ?_ (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) (fun s l => (readTile _ _ (by decide) _ s l).trans (i5 s _)) p l)
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
    · generalize i 0 = n at hi hi' hj ⊢; revert hi hi' hj; revert n; change ∀ n : Fin 42, _; decide +kernel
  · exact fun p l => (writeFull _ _ _ _ _ p l).trans (vk_row hI.1 e18 (fun p l => (readFull arg14.view f14 _ p l).trans (i14 p l)) p l)
  · exact fun p l => (writeFull _ _ _ _ _ p l).trans (vinv_row hI.2.1 e18 p l)
  · refine store5 (Val := Elt Ideal) arg9.view f9 _ _ _ _ _ (sAdd S9 ((i 0).val - 1) (scE (fun p c => W0 p c - X0 p c * κ p))) ?_ ?_ ?_ ?_ ?_
    · refine storeV_row S9 ((i 0).val - 1) _ ?_ ?_ 0 0 (by decide) rfl ?_ (vscale_row hI.2.1 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
    · refine storeV_row S9 ((i 0).val - 1) _ ?_ ?_ 128 1 (by decide) rfl ?_ (vscale_row hI.2.1 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
    · refine storeV_row S9 ((i 0).val - 1) _ ?_ ?_ 256 2 (by decide) rfl ?_ (vscale_row hI.2.1 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
    · refine storeV_row S9 ((i 0).val - 1) _ ?_ ?_ 384 3 (by decide) rfl ?_ (vscale_row hI.2.1 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
    · refine storeV_row S9 ((i 0).val - 1) _ ?_ ?_ 512 4 (by decide) rfl ?_ (vscale_row hI.2.1 e18) (fun s l => (readTile _ _ (by decide) _ s l).trans (i9 s _))
      · generalize i 0 = n at hi hi' hj ⊢; revert hi hi' hj; revert n; change ∀ n : Fin 42, _; decide +kernel
      · generalize i 0 = n at hi hi' hj ⊢; revert hi hi' hj; revert n; change ∀ n : Fin 42, _; decide +kernel
      · generalize i 0 = n at hi hi' hj ⊢; revert hi hi' hj; revert n; change ∀ n : Fin 42, _; decide +kernel
  skip

end Cert.KernelIdeal.Val

end
-- ==== Proof.Val.StepC.lean ====
module

public import proofs.«01_k».proof.Proof.Val.Data
public import proofs.«01_k».proof.Proof.Val.RunC

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At ms0 ms1 ms2 ms3 ms4 ms5 ms6 ms7 ms8 hs0 hs1 hs2 hs3 hs4 hs5 hs6 hs7 hs8 sc0 sc1 sc2 sc3 sc4 sc5 sc6 hcond1 hcond2 hcond3 hcond4 hcond5 hcond6 hcond7 hcond8)
open Idealize.ShloMosaic.Pipeline (Dat Cfg Window BodyObligation cellOf)

local notation "𝕄" => MT nD τ sig Unit (Elt Ideal) ℕ (UR sig nD τ) ℕ

set_option maxHeartbeats 4000000 in
/-- The step in case C, on the buffers of point `t`. -/
theorem stepC (m : (ℓ : Loc nD τ sig) → Buf (Elt Ideal) ℓ) (c : Dev nD) (t : Fin cfg0.N) (n : ℕ) (ht : t.val = n + 2) (hn : n < 37) (f1 : (ms0 t).view.ty.Contents (Elt Ideal)) (f2 : (ms1 t).view.ty.Contents (Elt Ideal)) (f3 : (ms2 t).view.ty.Contents (Elt Ideal)) (f4 : (ms3 t).view.ty.Contents (Elt Ideal)) (f5 : (ms4 t).view.ty.Contents (Elt Ideal)) (f6 : (ms5 t).view.ty.Contents (Elt Ideal)) (f7 : (ms6 t).view.ty.Contents (Elt Ideal)) (f8 : (ms7 t).view.ty.Contents (Elt Ideal)) (f9 : (ms8 t).view.ty.Contents (Elt Ideal)) (f10 : sc0.view.ty.Contents (Elt Ideal)) (f11 : sc1.view.ty.Contents (Elt Ideal)) (f12 : sc2.view.ty.Contents (Elt Ideal)) (f13 : sc3.view.ty.Contents (Elt Ideal)) (f14 : sc4.view.ty.Contents (Elt Ideal)) (f15 : sc5.view.ty.Contents (Elt Ideal)) (f16 : sc6.view.ty.Contents (Elt Ideal))
    (i1 : ∀ p q, ((ms0 t).view.read (Elt Ideal) f1) (ix2 p q) = xg m c t.val p q) (i2 : ∀ p q, ((ms1 t).view.read (Elt Ideal) f2) (ix2 p q) = dyg m c t.val p q) (i3 : ∀ p q, ((ms2 t).view.read (Elt Ideal) f3) (ix2 p q) = drg m c t.val p q) (i4 : ∀ q, ((ms3 t).view.read (Elt Ideal) f4) (ix2 0 q) = gg m c q) (i5 : ∀ s q, ((ms4 t).view.read (Elt Ideal) f5) (ix2 s q) = RRg m c s q)
    (hS : Scr m c t.val (sc0.view.read (Elt Ideal) f10) (sc1.view.read (Elt Ideal) f11) (sc2.view.read (Elt Ideal) f12) (sc3.view.read (Elt Ideal) f13) (sc4.view.read (Elt Ideal) f14) (sc5.view.read (Elt Ideal) f15) (sc6.view.read (Elt Ideal) f16)) (K : PUnit → sProp 𝕄) :
    iprop(At (F := Ideal) c (ms0 t) f1 ∗ At (F := Ideal) c (ms1 t) f2 ∗ At (F := Ideal) c (ms2 t) f3 ∗ At (F := Ideal) c (ms3 t) f4 ∗ At (F := Ideal) c (ms4 t) f5 ∗ At (F := Ideal) c (ms5 t) f6 ∗ At (F := Ideal) c (ms6 t) f7 ∗ At (F := Ideal) c (ms7 t) f8 ∗ At (F := Ideal) c (ms8 t) f9 ∗ At (F := Ideal) c sc0 f10 ∗ At (F := Ideal) c sc1 f11 ∗ At (F := Ideal) c sc2 f12 ∗ At (F := Ideal) c sc3 f13 ∗ At (F := Ideal) c sc4 f14 ∗ At (F := Ideal) c sc5 f15 ∗ At (F := Ideal) c sc6 f16 ∗ (iprop(At (F := Ideal) c (ms0 t) f1 ∗ At (F := Ideal) c (ms1 t) f2 ∗ At (F := Ideal) c (ms2 t) f3 ∗ At (F := Ideal) c (ms3 t) f4 ∗ At (F := Ideal) c (ms4 t) f5 ∗ (∃ g6 g7 g8 g9 g10 g11 g12 g13 g14 g15 g16, At (F := Ideal) c (ms5 t) g6 ∗ At (F := Ideal) c (ms6 t) g7 ∗ At (F := Ideal) c (ms7 t) g8 ∗ At (F := Ideal) c (ms8 t) g9 ∗ At (F := Ideal) c sc0 g10 ∗ At (F := Ideal) c sc1 g11 ∗ At (F := Ideal) c sc2 g12 ∗ At (F := Ideal) c sc3 g13 ∗ At (F := Ideal) c sc4 g14 ∗ At (F := Ideal) c sc5 g15 ∗ At (F := Ideal) c sc6 g16
      ∗ ⌜R5 m c t.val ((ms5 t).view.read (Elt Ideal) f6) ((ms5 t).view.read (Elt Ideal) g6) ∧ R6 m c t.val ((ms6 t).view.read (Elt Ideal) f7) ((ms6 t).view.read (Elt Ideal) g7) ∧ R7 m c t.val ((ms7 t).view.read (Elt Ideal) f8) ((ms7 t).view.read (Elt Ideal) g8) ∧ R8 m c t.val ((ms8 t).view.read (Elt Ideal) f9) ((ms8 t).view.read (Elt Ideal) g9) ∧ Scr m c (t.val + 1) (sc0.view.read (Elt Ideal) g10) (sc1.view.read (Elt Ideal) g11) (sc2.view.read (Elt Ideal) g12) (sc3.view.read (Elt Ideal) g13) (sc4.view.read (Elt Ideal) g14) (sc5.view.read (Elt Ideal) g15) (sc6.view.read (Elt Ideal) g16)⌝)) -∗ K ⟨⟩))
      ⊢ wp frame (wpE (defs₀ (F := Ideal)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  iintro ⟨H1, H2, H3, H4, H5, H6, H7, H8, H9, H10, H11, H12, H13, H14, H15, H16, Hk⟩
  iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond4 t).mpr (by omega)) ((hcond7 t).mpr (by omega)) (fun hh => absurd ((hcond1 t).mp hh) (by omega)) (fun hh => absurd ((hcond2 t).mp hh) (by omega)) (fun hh => absurd ((hcond3 t).mp hh) (by omega)) (fun hh => absurd ((hcond5 t).mp hh) (by omega)) (fun hh => absurd ((hcond6 t).mp hh) (by omega)) (fun hh => absurd ((hcond8 t).mp hh) (by omega)) f1 f2 f3 f4 f5 f6 f7 f8 f9 f10 f11 f12 f13 f14 f15 f16 (xg m c (n + 2)) (dyg m c (n + 2)) (drg m c (n + 2)) (gg m c) (rg m c (n + 2)) (kg m c (n + 1)) (ivE (vg m c n)) (wg m c (n + 1)) (xg m c (n + 1)) (vg m c n) (DG m c (n + 2)) (RRg m c) (fun s q => ((ms8 t).view.read (Elt Ideal) f9) (ix2 s q)) (fun p q => (i1 p q).trans (by rw [ht])) (fun p q => (i2 p q).trans (by rw [ht])) (fun p q => (i3 p q).trans (by rw [ht])) i4 i5 (fun _ _ => rfl) (hS.hW (n + 1) (by omega) (by omega)) (hS.hX (n + 1) (by omega) (by omega)) (hS.hV n (by omega) (by omega)) (fun a q => (hS.hD (by omega) (by omega) a q).trans (by rw [ht])) (fun p l => (hS.hR (by omega) (by omega) p l).trans (by rw [ht])) (hS.hK (n + 1) (by omega) (by omega)) (hS.hI n (by omega) (by omega)) (by rw [coords_val]; omega) (by rw [coords_val]; omega) (by rw [coords_val]; omega) K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, %g7, %g8, %g9, %g10, %g11, %g12, %g13, %g14, %g15, %g16, H7, H8, H9, H10, H11, H12, H13, H14, H15, H16, %hf⟩
  iapply Hk
  isplitl [H1]; · iexact H1
  isplitl [H2]; · iexact H2
  isplitl [H3]; · iexact H3
  isplitl [H4]; · iexact H4
  isplitl [H5]; · iexact H5
  iexists f6, g7, g8, g9, g10, g11, g12, g13, g14, g15, g16
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨hA, hB, hC, hL, hk, hi, h9⟩ := hf
  have h9' := h9; rw [show (grid0.coords t 0).val - 1 = (n + 1) by rw [coords_val]; omega] at h9'
  exact ⟨⟨fun e => absurd e (by omega), fun e => absurd e (by omega)⟩, ⟨fun k e _ => (by obtain rfl : k = (n + 1) := (by omega); exact hB.hT), fun e => absurd e (by omega)⟩, fun k e _ => (by obtain rfl : k = n := (by omega); exact hC), ⟨fun e => absurd e (by omega), fun k e _ => (by obtain rfl : k = (n + 1) := (by omega); exact h9'), fun e => absurd e (by omega)⟩, ⟨fun k e _ => (by obtain rfl : k = (n + 2) := (by omega); exact hA.hW), fun k e _ => (by obtain rfl : k = (n + 2) := (by omega); exact hA.hX), fun k e _ => (by obtain rfl : k = (n + 1) := (by omega); exact hB.hV), fun _ _ a q => (hA.hD a q).trans (by rw [ht]; rfl), fun _ _ p l => (hL p l).trans (by rw [coords_val]; rfl), fun k e _ => (by obtain rfl : k = (n + 2) := (by omega); exact hk), fun k e _ => (by obtain rfl : k = (n + 1) := (by omega); exact hi)⟩⟩

end Cert.KernelIdeal.Val

end
-- ==== Proof.Val.RunD.lean ====
module

public import proofs.«01_k».proof.Proof.Val.Rows

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

set_option pp.maxSteps 400 in
set_option maxHeartbeats 8000000 in
/-- The step in case D, with what it leaves. -/
theorem runD (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h4 : k0_cond4 i = 1#1) (h1 : ¬(k0_cond1 i = 1#1)) (h2 : ¬(k0_cond2 i = 1#1)) (h3 : ¬(k0_cond3 i = 1#1)) (h5 : ¬(k0_cond5 i = 1#1)) (h6 : ¬(k0_cond6 i = 1#1)) (h7 : ¬(Scalar.cmpi .ne (Scalar.extui (Scalar.cmpi .slt (Scalar.addi (BitVec.ofNat 32 (i 0).val) 1#32) 40#32)) 0#32 = 1#1)) (h8 : ¬(k0_cond8 i = 1#1)) (f1 : arg1.view.ty.Contents (Elt Ideal)) (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (RR S9 : Fin 2 → Fin 640 → EReal) (i1 : ∀ p c, (arg1.view.read (Elt Ideal) f1) (ix2 p c) = x p c) (i2 : ∀ p c, (arg2.view.read (Elt Ideal) f2) (ix2 p c) = dy p c) (i3 : ∀ p c, (arg3.view.read (Elt Ideal) f3) (ix2 p c) = dr p c) (i4 : ∀ c, (arg4.view.read (Elt Ideal) f4) (ix2 0 c) = g c) (i9 : ∀ s c, (arg9.view.read (Elt Ideal) f9) (ix2 s c) = S9 s c) (i10 : ∀ p c, (arg10.view.read (Elt Ideal) f10) (at3 p c) = W0 p c) (i11 : ∀ p c, (arg11.view.read (Elt Ideal) f11) (at3 p c) = X0 p c) (i12 : ∀ p c, (arg12.view.read (Elt Ideal) f12) (at3 p c) = V0 p c) (i13 : ∀ p c, (arg13.view.read (Elt Ideal) f13) (at3 p c) = D0 p c) (i14 : ∀ p l, (arg14.view.read (Elt Ideal) f14) (ix2 p l) = r p) (i15 : ∀ p l, (arg15.view.read (Elt Ideal) f15) (ix2 p l) = κ p) (i16 : ∀ p l, (arg16.view.read (Elt Ideal) f16) (ix2 p l) = ι p) (hi : 1 ≤ (i 0).val) (hi' : (i 0).val ≤ 40) (K : PUnit → sProp 𝕄) :
    iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg7 f7 ∗ At (F := Ideal) c arg8 f8 ∗ At (F := Ideal) c arg9 f9 ∗ At (F := Ideal) c arg10 f10 ∗ At (F := Ideal) c arg11 f11 ∗ At (F := Ideal) c arg12 f12 ∗ At (F := Ideal) c arg13 f13 ∗ At (F := Ideal) c arg14 f14 ∗ At (F := Ideal) c arg15 f15 ∗ At (F := Ideal) c arg16 f16 ∗ (iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg14 f14 ∗ (∃ g7 g8 g9 g10 g11 g12 g13 g15 g16, At (F := Ideal) c arg7 g7 ∗ At (F := Ideal) c arg8 g8 ∗ At (F := Ideal) c arg9 g9 ∗ At (F := Ideal) c arg10 g10 ∗ At (F := Ideal) c arg11 g11 ∗ At (F := Ideal) c arg12 g12 ∗ At (F := Ideal) c arg13 g13 ∗ At (F := Ideal) c arg15 g15 ∗ At (F := Ideal) c arg16 g16 ∗ ⌜PA x dy dr g r D0 (arg10.view.read (Elt Ideal) g10) (arg11.view.read (Elt Ideal) g11) (arg13.view.read (Elt Ideal) g13) ∧ PB (fun p c => W0 p c - X0 p c * κ p) (arg12.view.read (Elt Ideal) g12) (arg7.view.read (Elt Ideal) g7) ∧ (∀ p (c : Fin 18432), (arg8.view.read (Elt Ideal) g8) (ix2 p c) = clipE (V0 p c * ι p)) ∧ (∀ p (l : Fin 128), (arg15.view.read (Elt Ideal) g15) (ix2 p l) = kE x dy g r p) ∧ (∀ p (l : Fin 128), (arg16.view.read (Elt Ideal) g16) (ix2 p l) = ivE (fun p c => W0 p c - X0 p c * κ p) p) ∧ (∀ s c, (arg9.view.read (Elt Ideal) g9) (ix2 s c) = sAdd S9 ((i 0).val - 1) (scE (fun p c => W0 p c - X0 p c * κ p)) s c)⌝)) -∗ K ⟨⟩))
      ⊢ wp frame (wpE (defs₀ (F := Ideal)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨H1, H2, H3, H4, H5, H6, H7, H8, H9, H10, H11, H12, H13, H14, H15, H16, Hk⟩
  sl_exec (disch := first | sl_exact h4 | sl_exact h1 | sl_exact h2 | sl_exact h3 | sl_exact h5 | sl_exact h6 | sl_exact h7 | sl_exact h8)
  sl_for (fun n acc => I3 c arg1 arg2 arg3 arg4 arg7 arg8 arg10 arg11 arg12 arg13 f1 f2 f3 f4 x dy dr g r κ ι W0 X0 V0 D0 n acc) $$ [H1 H2 H3 H4 H7 H8 H10 H11 H12 H13]
  case region => exact fun k acc => trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ f1 f2 f3 f4 x dy dr g r κ ι W0 X0 V0 D0 i1 i2 i3 i4 (fun p l => (readFull arg14.view f14 _ p l).trans (i14 p l)) (fun p l => (readFull arg15.view f15 _ p l).trans (i15 p l)) (fun p l => (readFull arg16.view f16 _ p l).trans (i16 p l)) k acc
  ·
    isplitl [H1]; · iexact H1
    isplitl [H2]; · iexact H2
    isplitl [H3]; · iexact H3
    isplitl [H4]; · iexact H4
    iexists _, _, _, _, _, _
    isplitl [H7]; · iexact H7
    isplitl [H8]; · iexact H8
    isplitl [H10]; · iexact H10
    isplitl [H11]; · iexact H11
    isplitl [H12]; · iexact H12
    isplitl [H13]; · iexact H13
    ipureintro
    exact ⟨FA.zero i10 i11 i13 (fun p l => Ideal.ofBits_zero .f32), FB.zero i12 (fun p l => Ideal.ofBits_zero .f32), FC.zero⟩
  iintro %acc ⟨H1, H2, H3, H4, %g7, %g8, %g10, %g11, %g12, %g13, H7, H8, H10, H11, H12, H13, %hI⟩
  have e18 : Scf.trips k0_t3_loop.lb k0_t3_loop.ub k0_t3_loop.st = 18 := by decide
  sl_exec (disch := first | sl_exact h4 | sl_exact h1 | sl_exact h2 | sl_exact h3 | sl_exact h5 | sl_exact h6 | sl_exact h7 | sl_exact h8)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H14]; · iexact H14
  iexists _, _, _, _, _, _, _, _, _
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H15]; · iexact H15
  isplitl [H16]; · iexact H16
  ipureintro
  sl_unfold_run_names
  refine ⟨?_, ?_, ?_, ?_, ?_, ?_⟩
  · exact hI.1.done e18
  · exact hI.2.1.done e18
  · exact hI.2.2.done e18
  · exact fun p l => (writeFull _ _ _ _ _ p l).trans (vk_row hI.1 e18 (fun p l => (readFull arg14.view f14 _ p l).trans (i14 p l)) p l)
  · exact fun p l => (writeFull _ _ _ _ _ p l).trans (vinv_row hI.2.1 e18 p l)
  · refine store5 (Val := Elt Ideal) arg9.view f9 _ _ _ _ _ (sAdd S9 ((i 0).val - 1) (scE (fun p c => W0 p c - X0 p c * κ p))) ?_ ?_ ?_ ?_ ?_
    · refine storeV_row S9 ((i 0).val - 1) _ ?_ ?_ 0 0 (by decide) rfl ?_ (vscale_row hI.2.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
    · refine storeV_row S9 ((i 0).val - 1) _ ?_ ?_ 128 1 (by decide) rfl ?_ (vscale_row hI.2.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
    · refine storeV_row S9 ((i 0).val - 1) _ ?_ ?_ 256 2 (by decide) rfl ?_ (vscale_row hI.2.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
    · refine storeV_row S9 ((i 0).val - 1) _ ?_ ?_ 384 3 (by decide) rfl ?_ (vscale_row hI.2.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
    · refine storeV_row S9 ((i 0).val - 1) _ ?_ ?_ 512 4 (by decide) rfl ?_ (vscale_row hI.2.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
  skip

end Cert.KernelIdeal.Val

end
-- ==== Proof.Val.StepD.lean ====
module

public import proofs.«01_k».proof.Proof.Val.Data
public import proofs.«01_k».proof.Proof.Val.RunD

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At ms0 ms1 ms2 ms3 ms4 ms5 ms6 ms7 ms8 hs0 hs1 hs2 hs3 hs4 hs5 hs6 hs7 hs8 sc0 sc1 sc2 sc3 sc4 sc5 sc6 hcond1 hcond2 hcond3 hcond4 hcond5 hcond6 hcond7 hcond8)
open Idealize.ShloMosaic.Pipeline (Dat Cfg Window BodyObligation cellOf)

local notation "𝕄" => MT nD τ sig Unit (Elt Ideal) ℕ (UR sig nD τ) ℕ

set_option maxHeartbeats 4000000 in
/-- The step in case D, on the buffers of point `t`. -/
theorem stepD (m : (ℓ : Loc nD τ sig) → Buf (Elt Ideal) ℓ) (c : Dev nD) (t : Fin cfg0.N) (ht : t.val = 39) (f1 : (ms0 t).view.ty.Contents (Elt Ideal)) (f2 : (ms1 t).view.ty.Contents (Elt Ideal)) (f3 : (ms2 t).view.ty.Contents (Elt Ideal)) (f4 : (ms3 t).view.ty.Contents (Elt Ideal)) (f5 : (ms4 t).view.ty.Contents (Elt Ideal)) (f6 : (ms5 t).view.ty.Contents (Elt Ideal)) (f7 : (ms6 t).view.ty.Contents (Elt Ideal)) (f8 : (ms7 t).view.ty.Contents (Elt Ideal)) (f9 : (ms8 t).view.ty.Contents (Elt Ideal)) (f10 : sc0.view.ty.Contents (Elt Ideal)) (f11 : sc1.view.ty.Contents (Elt Ideal)) (f12 : sc2.view.ty.Contents (Elt Ideal)) (f13 : sc3.view.ty.Contents (Elt Ideal)) (f14 : sc4.view.ty.Contents (Elt Ideal)) (f15 : sc5.view.ty.Contents (Elt Ideal)) (f16 : sc6.view.ty.Contents (Elt Ideal))
    (i1 : ∀ p q, ((ms0 t).view.read (Elt Ideal) f1) (ix2 p q) = xg m c t.val p q) (i2 : ∀ p q, ((ms1 t).view.read (Elt Ideal) f2) (ix2 p q) = dyg m c t.val p q) (i3 : ∀ p q, ((ms2 t).view.read (Elt Ideal) f3) (ix2 p q) = drg m c t.val p q) (i4 : ∀ q, ((ms3 t).view.read (Elt Ideal) f4) (ix2 0 q) = gg m c q) (i5 : ∀ s q, ((ms4 t).view.read (Elt Ideal) f5) (ix2 s q) = RRg m c s q)
    (hS : Scr m c t.val (sc0.view.read (Elt Ideal) f10) (sc1.view.read (Elt Ideal) f11) (sc2.view.read (Elt Ideal) f12) (sc3.view.read (Elt Ideal) f13) (sc4.view.read (Elt Ideal) f14) (sc5.view.read (Elt Ideal) f15) (sc6.view.read (Elt Ideal) f16)) (K : PUnit → sProp 𝕄) :
    iprop(At (F := Ideal) c (ms0 t) f1 ∗ At (F := Ideal) c (ms1 t) f2 ∗ At (F := Ideal) c (ms2 t) f3 ∗ At (F := Ideal) c (ms3 t) f4 ∗ At (F := Ideal) c (ms4 t) f5 ∗ At (F := Ideal) c (ms5 t) f6 ∗ At (F := Ideal) c (ms6 t) f7 ∗ At (F := Ideal) c (ms7 t) f8 ∗ At (F := Ideal) c (ms8 t) f9 ∗ At (F := Ideal) c sc0 f10 ∗ At (F := Ideal) c sc1 f11 ∗ At (F := Ideal) c sc2 f12 ∗ At (F := Ideal) c sc3 f13 ∗ At (F := Ideal) c sc4 f14 ∗ At (F := Ideal) c sc5 f15 ∗ At (F := Ideal) c sc6 f16 ∗ (iprop(At (F := Ideal) c (ms0 t) f1 ∗ At (F := Ideal) c (ms1 t) f2 ∗ At (F := Ideal) c (ms2 t) f3 ∗ At (F := Ideal) c (ms3 t) f4 ∗ At (F := Ideal) c (ms4 t) f5 ∗ (∃ g6 g7 g8 g9 g10 g11 g12 g13 g14 g15 g16, At (F := Ideal) c (ms5 t) g6 ∗ At (F := Ideal) c (ms6 t) g7 ∗ At (F := Ideal) c (ms7 t) g8 ∗ At (F := Ideal) c (ms8 t) g9 ∗ At (F := Ideal) c sc0 g10 ∗ At (F := Ideal) c sc1 g11 ∗ At (F := Ideal) c sc2 g12 ∗ At (F := Ideal) c sc3 g13 ∗ At (F := Ideal) c sc4 g14 ∗ At (F := Ideal) c sc5 g15 ∗ At (F := Ideal) c sc6 g16
      ∗ ⌜R5 m c t.val ((ms5 t).view.read (Elt Ideal) f6) ((ms5 t).view.read (Elt Ideal) g6) ∧ R6 m c t.val ((ms6 t).view.read (Elt Ideal) f7) ((ms6 t).view.read (Elt Ideal) g7) ∧ R7 m c t.val ((ms7 t).view.read (Elt Ideal) f8) ((ms7 t).view.read (Elt Ideal) g8) ∧ R8 m c t.val ((ms8 t).view.read (Elt Ideal) f9) ((ms8 t).view.read (Elt Ideal) g9) ∧ Scr m c (t.val + 1) (sc0.view.read (Elt Ideal) g10) (sc1.view.read (Elt Ideal) g11) (sc2.view.read (Elt Ideal) g12) (sc3.view.read (Elt Ideal) g13) (sc4.view.read (Elt Ideal) g14) (sc5.view.read (Elt Ideal) g15) (sc6.view.read (Elt Ideal) g16)⌝)) -∗ K ⟨⟩))
      ⊢ wp frame (wpE (defs₀ (F := Ideal)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  iintro ⟨H1, H2, H3, H4, H5, H6, H7, H8, H9, H10, H11, H12, H13, H14, H15, H16, Hk⟩
  iapply (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond4 t).mpr (by omega)) (fun hh => absurd ((hcond1 t).mp hh) (by omega)) (fun hh => absurd ((hcond2 t).mp hh) (by omega)) (fun hh => absurd ((hcond3 t).mp hh) (by omega)) (fun hh => absurd ((hcond5 t).mp hh) (by omega)) (fun hh => absurd ((hcond6 t).mp hh) (by omega)) (fun hh => absurd ((hcond7 t).mp hh) (by omega)) (fun hh => absurd ((hcond8 t).mp hh) (by omega)) f1 f2 f3 f4 f5 f6 f7 f8 f9 f10 f11 f12 f13 f14 f15 f16 (xg m c 39) (dyg m c 39) (drg m c 39) (gg m c) (rg m c 39) (kg m c 38) (ivE (vg m c 37)) (wg m c 38) (xg m c 38) (vg m c 37) (DG m c 39) (RRg m c) (fun s q => ((ms8 t).view.read (Elt Ideal) f9) (ix2 s q)) (fun p q => (i1 p q).trans (by rw [ht])) (fun p q => (i2 p q).trans (by rw [ht])) (fun p q => (i3 p q).trans (by rw [ht])) i4 (fun _ _ => rfl) (hS.hW 38 (by omega) (by omega)) (hS.hX 38 (by omega) (by omega)) (hS.hV 37 (by omega) (by omega)) (fun a q => (hS.hD (by omega) (by omega) a q).trans (by rw [ht])) (fun p l => (hS.hR (by omega) (by omega) p l).trans (by rw [ht])) (hS.hK 38 (by omega) (by omega)) (hS.hI 37 (by omega) (by omega)) (by rw [coords_val]; omega) (by rw [coords_val]; omega) K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H14, %g7, %g8, %g9, %g10, %g11, %g12, %g13, %g15, %g16, H7, H8, H9, H10, H11, H12, H13, H15, H16, %hf⟩
  iapply Hk
  isplitl [H1]; · iexact H1
  isplitl [H2]; · iexact H2
  isplitl [H3]; · iexact H3
  isplitl [H4]; · iexact H4
  isplitl [H5]; · iexact H5
  iexists f6, g7, g8, g9, g10, g11, g12, g13, f14, g15, g16
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨hA, hB, hC, hk, hi, h9⟩ := hf
  have h9' := h9; rw [show (grid0.coords t 0).val - 1 = 38 by rw [coords_val]; omega] at h9'
  exact ⟨⟨fun e => absurd e (by omega), fun e => absurd e (by omega)⟩, ⟨fun k e _ => (by obtain rfl : k = 38 := (by omega); exact hB.hT), fun e => absurd e (by omega)⟩, fun k e _ => (by obtain rfl : k = 37 := (by omega); exact hC), ⟨fun e => absurd e (by omega), fun k e _ => (by obtain rfl : k = 38 := (by omega); exact h9'), fun e => absurd e (by omega)⟩, ⟨fun k e _ => (by obtain rfl : k = 39 := (by omega); exact hA.hW), fun k e _ => (by obtain rfl : k = 39 := (by omega); exact hA.hX), fun k e _ => (by obtain rfl : k = 38 := (by omega); exact hB.hV), fun _ _ a q => (hA.hD a q).trans (by rw [ht]; rfl), fun _ e => absurd e (by omega), fun k e _ => (by obtain rfl : k = 39 := (by omega); exact hk), fun k e _ => (by obtain rfl : k = 38 := (by omega); exact hi)⟩⟩

end Cert.KernelIdeal.Val

end
-- ==== Proof.Val.RunE.lean ====
module

public import proofs.«01_k».proof.Proof.Val.Ends

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

set_option pp.maxSteps 400 in
set_option maxHeartbeats 8000000 in
/-- The step in case E, with what it leaves. -/
theorem runE (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h5 : k0_cond5 i = 1#1) (h8 : k0_cond8 i = 1#1) (h1 : ¬(k0_cond1 i = 1#1)) (h2 : ¬(k0_cond2 i = 1#1)) (h3 : ¬(k0_cond3 i = 1#1)) (h4 : ¬(k0_cond4 i = 1#1)) (h6 : ¬(k0_cond6 i = 1#1)) (h7 : ¬(Scalar.cmpi .ne (Scalar.extui (Scalar.cmpi .slt (Scalar.addi (BitVec.ofNat 32 (i 0).val) 1#32) 40#32)) 0#32 = 1#1)) (f1 : arg1.view.ty.Contents (Elt Ideal)) (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (RR S9 : Fin 2 → Fin 640 → EReal) (i9 : ∀ s c, (arg9.view.read (Elt Ideal) f9) (ix2 s c) = S9 s c) (i10 : ∀ p c, (arg10.view.read (Elt Ideal) f10) (at3 p c) = W0 p c) (i11 : ∀ p c, (arg11.view.read (Elt Ideal) f11) (at3 p c) = X0 p c) (i12 : ∀ p c, (arg12.view.read (Elt Ideal) f12) (at3 p c) = V0 p c) (i13 : ∀ p c, (arg13.view.read (Elt Ideal) f13) (at3 p c) = D0 p c) (i15 : ∀ p l, (arg15.view.read (Elt Ideal) f15) (ix2 p l) = κ p) (i16 : ∀ p l, (arg16.view.read (Elt Ideal) f16) (ix2 p l) = ι p) (hi : 1 ≤ (i 0).val) (hi' : (i 0).val ≤ 40) (K : PUnit → sProp 𝕄) :
    iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg7 f7 ∗ At (F := Ideal) c arg8 f8 ∗ At (F := Ideal) c arg9 f9 ∗ At (F := Ideal) c arg10 f10 ∗ At (F := Ideal) c arg11 f11 ∗ At (F := Ideal) c arg12 f12 ∗ At (F := Ideal) c arg13 f13 ∗ At (F := Ideal) c arg14 f14 ∗ At (F := Ideal) c arg15 f15 ∗ At (F := Ideal) c arg16 f16 ∗ (iprop(At (F := Ideal) c arg1 f1 ∗ At (F := Ideal) c arg2 f2 ∗ At (F := Ideal) c arg3 f3 ∗ At (F := Ideal) c arg4 f4 ∗ At (F := Ideal) c arg5 f5 ∗ At (F := Ideal) c arg10 f10 ∗ At (F := Ideal) c arg11 f11 ∗ At (F := Ideal) c arg13 f13 ∗ At (F := Ideal) c arg14 f14 ∗ At (F := Ideal) c arg15 f15 ∗ (∃ g6 g7 g8 g9 g12 g16, At (F := Ideal) c arg6 g6 ∗ At (F := Ideal) c arg7 g7 ∗ At (F := Ideal) c arg8 g8 ∗ At (F := Ideal) c arg9 g9 ∗ At (F := Ideal) c arg12 g12 ∗ At (F := Ideal) c arg16 g16 ∗ ⌜PB (fun p c => W0 p c - X0 p c * κ p) (arg12.view.read (Elt Ideal) g12) (arg7.view.read (Elt Ideal) g7) ∧ (∀ p (c : Fin 18432), (arg8.view.read (Elt Ideal) g8) (ix2 p c) = clipE (V0 p c * ι p)) ∧ (∀ p (l : Fin 128), (arg16.view.read (Elt Ideal) g16) (ix2 p l) = ivE (fun p c => W0 p c - X0 p c * κ p) p) ∧ (∀ s c, (arg9.view.read (Elt Ideal) g9) (ix2 s c) = sAdd S9 ((i 0).val - 1) (scE (fun p c => W0 p c - X0 p c * κ p)) s c) ∧ (∀ c, (arg6.view.read (Elt Ideal) g6) (ix2 0 c) = ∑ a : Fin 8, D0 a c)⌝)) -∗ K ⟨⟩))
      ⊢ wp frame (wpE (defs₀ (F := Ideal)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨H1, H2, H3, H4, H5, H6, H7, H8, H9, H10, H11, H12, H13, H14, H15, H16, Hk⟩
  sl_exec (disch := first | sl_exact h5 | sl_exact h8 | sl_exact h1 | sl_exact h2 | sl_exact h3 | sl_exact h4 | sl_exact h6 | sl_exact h7)
  sl_for (fun n acc => I4 c arg7 arg8 arg10 arg11 arg12 f10 f11 x dy dr g r κ ι W0 X0 V0 D0 n acc) $$ [H7 H8 H10 H11 H12]
  case region => exact fun k acc => trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ f10 f11 x dy dr g r κ ι W0 X0 V0 D0 i10 i11 (fun p l => (readFull arg15.view f15 _ p l).trans (i15 p l)) (fun p l => (readFull arg16.view f16 _ p l).trans (i16 p l)) k acc
  ·
    isplitl [H10]; · iexact H10
    isplitl [H11]; · iexact H11
    iexists _, _, _
    isplitl [H7]; · iexact H7
    isplitl [H8]; · iexact H8
    isplitl [H12]; · iexact H12
    ipureintro
    exact ⟨FB.zero i12 (fun p l => Ideal.ofBits_zero .f32), FC.zero⟩
  iintro %acc ⟨H10, H11, %g7, %g8, %g12, H7, H8, H12, %hI⟩
  have e18 : Scf.trips k0_t4_loop.lb k0_t4_loop.ub k0_t4_loop.st = 18 := by decide
  sl_exec (disch := first | sl_exact h5 | sl_exact h8 | sl_exact h1 | sl_exact h2 | sl_exact h3 | sl_exact h4 | sl_exact h6 | sl_exact h7)
  sl_step
  iapply Hk
  isplitl [H1]; · iexact H1
  isplitl [H2]; · iexact H2
  isplitl [H3]; · iexact H3
  isplitl [H4]; · iexact H4
  isplitl [H5]; · iexact H5
  isplitl [H10]; · iexact H10
  isplitl [H11]; · iexact H11
  isplitl [H13]; · iexact H13
  isplitl [H14]; · iexact H14
  isplitl [H15]; · iexact H15
  iexists _, _, _, _, _, _
  isplitl [H6]; · iexact H6
  isplitl [H7]; · iexact H7
  isplitl [H8]; · iexact H8
  isplitl [H9]; · iexact H9
  isplitl [H12]; · iexact H12
  isplitl [H16]; · iexact H16
  ipureintro
  sl_unfold_run_names
  refine ⟨?_, ?_, ?_, ?_, ?_⟩
  · exact hI.1.done e18
  · exact hI.2.done e18
  · exact fun p l => (writeFull _ _ _ _ _ p l).trans (vinv_row hI.1 e18 p l)
  · refine store5 (Val := Elt Ideal) arg9.view f9 _ _ _ _ _ (sAdd S9 ((i 0).val - 1) (scE (fun p c => W0 p c - X0 p c * κ p))) ?_ ?_ ?_ ?_ ?_
    · refine storeV_row S9 ((i 0).val - 1) _ ?_ ?_ 0 0 (by decide) rfl ?_ (vscale_row hI.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
    · refine storeV_row S9 ((i 0).val - 1) _ ?_ ?_ 128 1 (by decide) rfl ?_ (vscale_row hI.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
    · refine storeV_row S9 ((i 0).val - 1) _ ?_ ?_ 256 2 (by decide) rfl ?_ (vscale_row hI.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
    · refine storeV_row S9 ((i 0).val - 1) _ ?_ ?_ 384 3 (by decide) rfl ?_ (vscale_row hI.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
    · refine storeV_row S9 ((i 0).val - 1) _ ?_ ?_ 512 4 (by decide) rfl ?_ (vscale_row hI.1 e18) (fun s l => (readTile _ _ (by decide) _ s l).trans (i9 s _))
      · generalize i 0 = n at hi hi' ⊢; revert hi hi'; revert n; change ∀ n : Fin 42, _; decide +kernel
      · generalize i 0 = n at hi hi' ⊢; revert hi hi'; revert n; change ∀ n : Fin 42, _; decide +kernel
      · generalize i 0 = n at hi hi' ⊢; revert hi hi'; revert n; change ∀ n : Fin 42, _; decide +kernel
  · refine fun c => colStep (Val := Elt Ideal) arg6.view f6 (fun c => ∑ a : Fin 8, D0 a c) 18176 71 (by decide) rfl (colSum_row arg13.view f13 i13 71 18176 (by decide) rfl _) ?_ c c.isLt
    refine colStep (Val := Elt Ideal) arg6.view f6 (fun c => ∑ a : Fin 8, D0 a c) 17920 70 (by decide) rfl (colSum_row arg13.view f13 i13 70 17920 (by decide) rfl _) ?_
    refine colStep (Val := Elt Ideal) arg6.view f6 (fun c => ∑ a : Fin 8, D0 a c) 17664 69 (by decide) rfl (colSum_row arg13.view f13 i13 69 17664 (by decide) rfl _) ?_
    refine colStep (Val := Elt Ideal) arg6.view f6 (fun c => ∑ a : Fin 8, D0 a c) 17408 68 (by decide) rfl (colSum_row arg13.view f13 i13 68 17408 (by decide) rfl _) ?_
    refine colStep (Val := Elt Ideal) arg6.view f6 (fun c => ∑ a : Fin 8, D0 a c) 17152 67 (by decide) rfl (colSum_row arg13.view f13 i13 67 17152 (by decide) rfl _) ?_
    refine colStep (Val := Elt Ideal) arg6.view f6 (fun c => ∑ a : Fin 8, D0 a c) 16896 66 (by decide) rfl (colSum_row arg13.view f13 i13 66 16896 (by decide) rfl _) ?_
    refine colStep (Val := Elt Ideal) arg6.view f6 (fun c => ∑ a : Fin 8, D0 a c) 16640 65 (by decide) rfl (colSum_row arg13.view f13 i13 65 16640 (by decide) rfl _) ?_
    refine colStep (Val := Elt Ideal) arg6.view f6 (fun c => ∑ a : Fin 8, D0 a c) 16384 64 (by decide) rfl (colSum_row arg13.view f13 i13 64 16384 (by decide) rfl _) ?_
    refine colStep (Val := Elt Ideal) arg6.view f6 (fun c => ∑ a : Fin 8, D0 a c) 16128 63 (by decide) rfl (colSum_row arg13.view f13 i13 63 16128 (by decide) rfl _) ?_
    refine colStep (Val := Elt Ideal) arg6.view f6 (fun c => ∑ a : Fin 8, D0 a c) 15872 62 (by decide) rfl (colSum_row arg13.view f13 i13 62 15872 (by decide) rfl _) ?_
    refine colStep (Val := Elt Ideal) arg6.view f6 (fun c => ∑ a : Fin 8, D0 a c) 15616 61 (by decide) rfl (colSum_row arg13.view f13 i13 61 15616 (by decide) rfl _) ?_
    refine colStep (Val := Elt Ideal) arg6.view f6 (fun c => ∑ a : Fin 8, D0 a c) 15360 60 (by decide) rfl (colSum_row arg13.view f13 i13 60 15360 (by decide) rfl _) ?_
    refine colStep (Val := Elt Ideal) arg6.view f6 (fun c => ∑ a : Fin 8, D0 a c) 15104 59 (by decide) rfl (colSum_row arg13.view f13 i13 59 15104 (by decide) rfl _) ?_
    refine colStep (Val := Elt Ideal) arg6.view f6 (fun c => ∑ a : Fin 8, D0 a c) 14848 58 (by decide) rfl (colSum_row arg13.view f13 i13 58 14848 (by decide) rfl _) ?_
    refine colStep (Val := Elt Ideal) arg6.view f6 (fun c => ∑ a : Fin 8, D0 a c) 14592 57 (by decide) rfl (colSum_row arg13.view f13 i13 57 14592 (by decide) rfl _) ?_
    refine colStep (Val := Elt Ideal) arg6.view f6 (fun c => ∑ a : Fin 8, D0 a c) 14336 56 (by decide) rfl (colSum_row arg13.view f13 i13 56 14336 (by decide) rfl _) ?_
    refine colStep (Val := Elt Ideal) arg6.view f6 (fun c => ∑ a : Fin 8, D0 a c) 14080 55 (by decide) rfl (colSum_row arg13.view f13 i13 55 14080 (by decide) rfl _) ?_
    refine colStep (Val := Elt Ideal) arg6.view f6 (fun c => ∑ a : Fin 8, D0 a c) 13824 54 (by decide) rfl (colSum_row arg13.view f13 i13 54 13824 (by decide) rfl _) ?_
    refine colStep (Val := Elt Ideal) arg6.view f6 (fun c => ∑ a : Fin 8, D0 a c) 13568 53 (by decide) rfl (colSum_row arg13.view f13 i13 53 13568 (by decide) rfl _) ?_
    refine colStep (Val := Elt Ideal) arg6.view f6 (fun c => ∑ a : Fin 8, D0 a c) 13312 52 (by decide) rfl (colSum_row arg13.view f13 i13 52 13312 (by decide) rfl _) ?_
    refine colStep (Val := Elt Ideal) arg6.view f6 (fun c => ∑ a : Fin 8, D0 a c) 13056 51 (by decide) rfl (colSum_row arg13.view f13 i13 51 13056 (by decide) rfl _) ?_
    refine colStep (Val := Elt Ideal) arg6.view f6 (fun c => ∑ a : Fin 8, D0 a c) 12800 50 (by decide) rfl (colSum_row arg13.view f13 i13 50 12800 (by decide) rfl _) ?_
    refine colStep (Val := Elt Ideal) arg6.view f6 (fun c => ∑ a : Fin 8, D0 a c) 12544 49 (by decide) rfl (colSum_row arg13.view f13 i13 49 12544 (by decide) rfl _) ?_
    refine colStep (Val := Elt Ideal) arg6.view f6 (fun c => ∑ a : Fin 8, D0 a c) 12288 48 (by decide) rfl (colSum_row arg13.view f13 i13 48 12288 (by decide) rfl _) ?_
    refine colStep (Val := Elt Ideal) arg6.view f6 (fun c => ∑ a : Fin 8, D0 a c) 12032 47 (by decide) rfl (colSum_row arg13.view f13 i13 47 12032 (by decide) rfl _) ?_
    refine colStep (Val := Elt Ideal) arg6.view f6 (fun c => ∑ a : Fin 8, D0 a c) 11776 46 (by decide) rfl (colSum_row arg13.view f13 i13 46 11776 (by decide) rfl _) ?_
    refine colStep (Val := Elt Ideal) arg6.view f6 (fun c => ∑ a : Fin 8, D0 a c) 11520 45 (by decide) rfl (colSum_row arg13.view f13 i13 45 11520 (by decide) rfl _) ?_
    refine colStep (Val := Elt Ideal) arg6.view f6 (fun c => ∑ a : Fin 8, D0 a c) 11264 44 (by decide) rfl (colSum_row arg13.view f13 i13 44 11264 (by decide) rfl _) ?_
    refine colStep (Val := Elt Ideal) arg6.view f6 (fun c => ∑ a : Fin 8, D0 a c) 11008 43 (by decide) rfl (colSum_row arg13.view f13 i13 43 11008 (by decide) rfl _) ?_
    refine colStep (Val := Elt Ideal) arg6.view f6 (fun c => ∑ a : Fin 8, D0 a c) 10752 42 (by decide) rfl (colSum_row arg13.view f13 i13 42 10752 (by decide) rfl _) ?_
    refine colStep (Val := Elt Ideal) arg6.view f6 (fun c => ∑ a : Fin 8, D0 a c) 10496 41 (by decide) rfl (colSum_row arg13.view f13 i13 41 10496 (by decide) rfl _) ?_
    refine colStep (Val := Elt Ideal) arg6.view f6 (fun c => ∑ a : Fin 8, D0 a c) 10240 40 (by decide) rfl (colSum_row arg13.view f13 i13 40 10240 (by decide) rfl _) ?_
    refine colStep (Val := Elt Ideal) arg6.view f6 (fun c => ∑ a : Fin 8, D0 a c) 9984 39 (by decide) rfl (colSum_row arg13.view f13 i13 39 9984 (by decide) rfl _) ?_
    refine colStep (Val := Elt Ideal) arg6.view f6 (fun c => ∑ a : Fin 8, D0 a c) 9728 38 (by decide) rfl (colSum_row arg13.view f13 i13 38 9728 (by decide) rfl _) ?_
    refine colStep (Val := Elt Ideal) arg6.view f6 (fun c => ∑ a : Fin 8, D0 a c) 9472 37 (by decide) rfl (colSum_row arg13.view f13 i13 37 9472 (by decide) rfl _) ?_
    refine colStep (Val := Elt Ideal) arg6.view f6 (fun c => ∑ a : Fin 8, D0 a c) 9216 36 (by decide) rfl (colSum_row arg13.view f13 i13 36 9216 (by decide) rfl _) ?_
    refine colStep (Val := Elt Ideal) arg6.view f6 (fun c => ∑ a : Fin 8, D0 a c) 8960 35 (by decide) rfl (colSum_row arg13.view f13 i13 35 8960 (by decide) rfl _) ?_
    refine colStep (Val := Elt Ideal) arg6.view f6 (fun c => ∑ a : Fin 8, D0 a c) 8704 34 (by decide) rfl (colSum_row arg13.view f13 i13 34 8704 (by decide) rfl _) ?_
    refine colStep (Val := Elt Ideal) arg6.view f6 (fun c => ∑ a : Fin 8, D0 a c) 8448 33 (by decide) rfl (colSum_row arg13.view f13 i13 33 8448 (by decide) rfl _) ?_
    refine colStep (Val := Elt Ideal) arg6.view f6 (fun c => ∑ a : Fin 8, D0 a c) 8192 32 (by decide) rfl (colSum_row arg13.view f13 i13 32 8192 (by decide) rfl _) ?_
    refine colStep (Val := Elt Ideal) arg6.view f6 (fun c => ∑ a : Fin 8, D0 a c) 7936 31 (by decide) rfl (colSum_row arg13.view f13 i13 31 7936 (by decide) rfl _) ?_
    refine colStep (Val := Elt Ideal) arg6.view f6 (fun c => ∑ a : Fin 8, D0 a c) 7680 30 (by decide) rfl (colSum_row arg13.view f13 i13 30 7680 (by decide) rfl _) ?_
    refine colStep (Val := Elt Ideal) arg6.view f6 (fun c => ∑ a : Fin 8, D0 a c) 7424 29 (by decide) rfl (colSum_row arg13.view f13 i13 29 7424 (by decide) rfl _) ?_
    refine colStep (Val := Elt Ideal) arg6.view f6 (fun c => ∑ a : Fin 8, D0 a c) 7168 28 (by decide) rfl (colSum_row arg13.view f13 i13 28 7168 (by decide) rfl _) ?_
    refine colStep (Val := Elt Ideal) arg6.view f6 (fun c => ∑ a : Fin 8, D0 a c) 6912 27 (by decide) rfl (colSum_row arg13.view f13 i13 27 6912 (by decide) rfl _) ?_
    refine colStep (Val := Elt Ideal) arg6.view f6 (fun c => ∑ a : Fin 8, D0 a c) 6656 26 (by decide) rfl (colSum_row arg13.view f13 i13 26 6656 (by decide) rfl _) ?_
    refine colStep (Val := Elt Ideal) arg6.view f6 (fun c => ∑ a : Fin 8, D0 a c) 6400 25 (by decide) rfl (colSum_row arg13.view f13 i13 25 6400 (by decide) rfl _) ?_
    refine colStep (Val := Elt Ideal) arg6.view f6 (fun c => ∑ a : Fin 8, D0 a c) 6144 24 (by decide) rfl (colSum_row arg13.view f13 i13 24 6144 (by decide) rfl _) ?_
    refine colStep (Val := Elt Ideal) arg6.view f6 (fun c => ∑ a : Fin 8, D0 a c) 5888 23 (by decide) rfl (colSum_row arg13.view f13 i13 23 5888 (by decide) rfl _) ?_
    refine colStep (Val := Elt Ideal) arg6.view f6 (fun c => ∑ a : Fin 8, D0 a c) 5632 22 (by decide) rfl (colSum_row arg13.view f13 i13 22 5632 (by decide) rfl _) ?_
    refine colStep (Val := Elt Ideal) arg6.view f6 (fun c => ∑ a : Fin 8, D0 a c) 5376 21 (by decide) rfl (colSum_row arg13.view f13 i13 21 5376 (by decide) rfl _) ?_
    refine colStep (Val := Elt Ideal) arg6.view f6 (fun c => ∑ a : Fin 8, D0 a c) 5120 20 (by decide) rfl (colSum_row arg13.view f13 i13 20 5120 (by decide) rfl _) ?_
    refine colStep (Val := Elt Ideal) arg6.view f6 (fun c => ∑ a : Fin 8, D0 a c) 4864 19 (by decide) rfl (colSum_row arg13.view f13 i13 19 4864 (by decide) rfl _) ?_
    refine colStep (Val := Elt Ideal) arg6.view f6 (fun c => ∑ a : Fin 8, D0 a c) 4608 18 (by decide) rfl (colSum_row arg13.view f13 i13 18 4608 (by decide) rfl _) ?_
    refine colStep (Val := Elt Ideal) arg6.view f6 (fun c => ∑ a : Fin 8, D0 a c) 4352 17 (by decide) rfl (colSum_row arg13.view f13 i13 17 4352 (by decide) rfl _) ?_
    refine colStep (Val := Elt Ideal) arg6.view f6 (fun c => ∑ a : Fin 8, D0 a c) 4096 16 (by decide) rfl (colSum_row arg13.view f13 i13 16 4096 (by decide) rfl _) ?_
    refine colStep (Val := Elt Ideal) arg6.view f6 (fun c => ∑ a : Fin 8, D0 a c) 3840 15 (by decide) rfl (colSum_row arg13.view f13 i13 15 3840 (by decide) rfl _) ?_
    refine colStep (Val := Elt Ideal) arg6.view f6 (fun c => ∑ a : Fin 8, D0 a c) 3584 14 (by decide) rfl (colSum_row arg13.view f13 i13 14 3584 (by decide) rfl _) ?_
    refine colStep (Val := Elt Ideal) arg6.view f6 (fun c => ∑ a : Fin 8, D0 a c) 3328 13 (by decide) rfl (colSum_row arg13.view f13 i13 13 3328 (by decide) rfl _) ?_
    refine colStep (Val := Elt Ideal) arg6.view f6 (fun c => ∑ a : Fin 8, D0 a c) 3072 12 (by decide) rfl (colSum_row arg13.view f13 i13 12 3072 (by decide) rfl _) ?_
    refine colStep (Val := Elt Ideal) arg6.view f6 (fun c => ∑ a : Fin 8, D0 a c) 2816 11 (by decide) rfl (colSum_row arg13.view f13 i13 11 2816 (by decide) rfl _) ?_
    refine colStep (Val := Elt Ideal) arg6.view f6 (fun c => ∑ a : Fin 8, D0 a c) 2560 10 (by decide) rfl (colSum_row arg13.view f13 i13 10 2560 (by decide) rfl _) ?_
    refine colStep (Val := Elt Ideal) arg6.view f6 (fun c => ∑ a : Fin 8, D0 a c) 2304 9 (by decide) rfl (colSum_row arg13.view f13 i13 9 2304 (by decide) rfl _) ?_
    refine colStep (Val := Elt Ideal) arg6.view f6 (fun c => ∑ a : Fin 8, D0 a c) 2048 8 (by decide) rfl (colSum_row arg13.view f13 i13 8 2048 (by decide) rfl _) ?_
    refine colStep (Val := Elt Ideal) arg6.view f6 (fun c => ∑ a : Fin 8, D0 a c) 1792 7 (by decide) rfl (colSum_row arg13.view f13 i13 7 1792 (by decide) rfl _) ?_
    refine colStep (Val := Elt Ideal) arg6.view f6 (fun c => ∑ a : Fin 8, D0 a c) 1536 6 (by decide) rfl (colSum_row arg13.view f13 i13 6 1536 (by decide) rfl _) ?_
    refine colStep (Val := Elt Ideal) arg6.view f6 (fun c => ∑ a : Fin 8, D0 a c) 1280 5 (by decide) rfl (colSum_row arg13.view f13 i13 5 1280 (by decide) rfl _) ?_
    refine colStep (Val := Elt Ideal) arg6.view f6 (fun c => ∑ a : Fin 8, D0 a c) 1024 4 (by decide) rfl (colSum_row arg13.view f13 i13 4 1024 (by decide) rfl _) ?_
    refine colStep (Val := Elt Ideal) arg6.view f6 (fun c => ∑ a : Fin 8, D0 a c) 768 3 (by decide) rfl (colSum_row arg13.view f13 i13 3 768 (by decide) rfl _) ?_
    refine colStep (Val := Elt Ideal) arg6.view f6 (fun c => ∑ a : Fin 8, D0 a c) 512 2 (by decide) rfl (colSum_row arg13.view f13 i13 2 512 (by decide) rfl _) ?_
    refine colStep (Val := Elt Ideal) arg6.view f6 (fun c => ∑ a : Fin 8, D0 a c) 256 1 (by decide) rfl (colSum_row arg13.view f13 i13 1 256 (by decide) rfl _) ?_
    refine colStep (Val := Elt Ideal) arg6.view f6 (fun c => ∑ a : Fin 8, D0 a c) 0 0 (by decide) rfl (colSum_row arg13.view f13 i13 0 0 (by decide) rfl _) ?_
    refine fun c h => absurd h (Nat.not_lt_zero _)
  skip

end Cert.KernelIdeal.Val

end
-- ==== Proof.Val.StepE.lean ====
module

public import proofs.«01_k».proof.Proof.Val.Data
public import proofs.«01_k».proof.Proof.Val.RunE

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At ms0 ms1 ms2 ms3 ms4 ms5 ms6 ms7 ms8 hs0 hs1 hs2 hs3 hs4 hs5 hs6 hs7 hs8 sc0 sc1 sc2 sc3 sc4 sc5 sc6 hcond1 hcond2 hcond3 hcond4 hcond5 hcond6 hcond7 hcond8)
open Idealize.ShloMosaic.Pipeline (Dat Cfg Window BodyObligation cellOf)

local notation "𝕄" => MT nD τ sig Unit (Elt Ideal) ℕ (UR sig nD τ) ℕ

set_option maxHeartbeats 4000000 in
/-- The step in case E, on the buffers of point `t`. -/
theorem stepE (m : (ℓ : Loc nD τ sig) → Buf (Elt Ideal) ℓ) (c : Dev nD) (t : Fin cfg0.N) (ht : t.val = 40) (f1 : (ms0 t).view.ty.Contents (Elt Ideal)) (f2 : (ms1 t).view.ty.Contents (Elt Ideal)) (f3 : (ms2 t).view.ty.Contents (Elt Ideal)) (f4 : (ms3 t).view.ty.Contents (Elt Ideal)) (f5 : (ms4 t).view.ty.Contents (Elt Ideal)) (f6 : (ms5 t).view.ty.Contents (Elt Ideal)) (f7 : (ms6 t).view.ty.Contents (Elt Ideal)) (f8 : (ms7 t).view.ty.Contents (Elt Ideal)) (f9 : (ms8 t).view.ty.Contents (Elt Ideal)) (f10 : sc0.view.ty.Contents (Elt Ideal)) (f11 : sc1.view.ty.Contents (Elt Ideal)) (f12 : sc2.view.ty.Contents (Elt Ideal)) (f13 : sc3.view.ty.Contents (Elt Ideal)) (f14 : sc4.view.ty.Contents (Elt Ideal)) (f15 : sc5.view.ty.Contents (Elt Ideal)) (f16 : sc6.view.ty.Contents (Elt Ideal))
    (i1 : ∀ p q, ((ms0 t).view.read (Elt Ideal) f1) (ix2 p q) = xg m c t.val p q) (i2 : ∀ p q, ((ms1 t).view.read (Elt Ideal) f2) (ix2 p q) = dyg m c t.val p q) (i3 : ∀ p q, ((ms2 t).view.read (Elt Ideal) f3) (ix2 p q) = drg m c t.val p q) (i4 : ∀ q, ((ms3 t).view.read (Elt Ideal) f4) (ix2 0 q) = gg m c q) (i5 : ∀ s q, ((ms4 t).view.read (Elt Ideal) f5) (ix2 s q) = RRg m c s q)
    (hS : Scr m c t.val (sc0.view.read (Elt Ideal) f10) (sc1.view.read (Elt Ideal) f11) (sc2.view.read (Elt Ideal) f12) (sc3.view.read (Elt Ideal) f13) (sc4.view.read (Elt Ideal) f14) (sc5.view.read (Elt Ideal) f15) (sc6.view.read (Elt Ideal) f16)) (K : PUnit → sProp 𝕄) :
    iprop(At (F := Ideal) c (ms0 t) f1 ∗ At (F := Ideal) c (ms1 t) f2 ∗ At (F := Ideal) c (ms2 t) f3 ∗ At (F := Ideal) c (ms3 t) f4 ∗ At (F := Ideal) c (ms4 t) f5 ∗ At (F := Ideal) c (ms5 t) f6 ∗ At (F := Ideal) c (ms6 t) f7 ∗ At (F := Ideal) c (ms7 t) f8 ∗ At (F := Ideal) c (ms8 t) f9 ∗ At (F := Ideal) c sc0 f10 ∗ At (F := Ideal) c sc1 f11 ∗ At (F := Ideal) c sc2 f12 ∗ At (F := Ideal) c sc3 f13 ∗ At (F := Ideal) c sc4 f14 ∗ At (F := Ideal) c sc5 f15 ∗ At (F := Ideal) c sc6 f16 ∗ (iprop(At (F := Ideal) c (ms0 t) f1 ∗ At (F := Ideal) c (ms1 t) f2 ∗ At (F := Ideal) c (ms2 t) f3 ∗ At (F := Ideal) c (ms3 t) f4 ∗ At (F := Ideal) c (ms4 t) f5 ∗ (∃ g6 g7 g8 g9 g10 g11 g12 g13 g14 g15 g16, At (F := Ideal) c (ms5 t) g6 ∗ At (F := Ideal) c (ms6 t) g7 ∗ At (F := Ideal) c (ms7 t) g8 ∗ At (F := Ideal) c (ms8 t) g9 ∗ At (F := Ideal) c sc0 g10 ∗ At (F := Ideal) c sc1 g11 ∗ At (F := Ideal) c sc2 g12 ∗ At (F := Ideal) c sc3 g13 ∗ At (F := Ideal) c sc4 g14 ∗ At (F := Ideal) c sc5 g15 ∗ At (F := Ideal) c sc6 g16
      ∗ ⌜R5 m c t.val ((ms5 t).view.read (Elt Ideal) f6) ((ms5 t).view.read (Elt Ideal) g6) ∧ R6 m c t.val ((ms6 t).view.read (Elt Ideal) f7) ((ms6 t).view.read (Elt Ideal) g7) ∧ R7 m c t.val ((ms7 t).view.read (Elt Ideal) f8) ((ms7 t).view.read (Elt Ideal) g8) ∧ R8 m c t.val ((ms8 t).view.read (Elt Ideal) f9) ((ms8 t).view.read (Elt Ideal) g9) ∧ Scr m c (t.val + 1) (sc0.view.read (Elt Ideal) g10) (sc1.view.read (Elt Ideal) g11) (sc2.view.read (Elt Ideal) g12) (sc3.view.read (Elt Ideal) g13) (sc4.view.read (Elt Ideal) g14) (sc5.view.read (Elt Ideal) g15) (sc6.view.read (Elt Ideal) g16)⌝)) -∗ K ⟨⟩))
      ⊢ wp frame (wpE (defs₀ (F := Ideal)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  iintro ⟨H1, H2, H3, H4, H5, H6, H7, H8, H9, H10, H11, H12, H13, H14, H15, H16, Hk⟩
  iapply (runE c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond5 t).mpr (by omega)) ((hcond8 t).mpr (by omega)) (fun hh => absurd ((hcond1 t).mp hh) (by omega)) (fun hh => absurd ((hcond2 t).mp hh) (by omega)) (fun hh => absurd ((hcond3 t).mp hh) (by omega)) (fun hh => absurd ((hcond4 t).mp hh) (by omega)) (fun hh => absurd ((hcond6 t).mp hh) (by omega)) (fun hh => absurd ((hcond7 t).mp hh) (by omega)) f1 f2 f3 f4 f5 f6 f7 f8 f9 f10 f11 f12 f13 f14 f15 f16 (xg m c 0) (dyg m c 0) (drg m c 0) (gg m c) (rg m c 0) (kg m c 39) (ivE (vg m c 38)) (wg m c 39) (xg m c 39) (vg m c 38) (DG m c 40) (RRg m c) (fun s q => ((ms8 t).view.read (Elt Ideal) f9) (ix2 s q)) (fun _ _ => rfl) (hS.hW 39 (by omega) (by omega)) (hS.hX 39 (by omega) (by omega)) (hS.hV 38 (by omega) (by omega)) (fun a q => (hS.hD (by omega) (by omega) a q).trans (by rw [ht])) (hS.hK 39 (by omega) (by omega)) (hS.hI 38 (by omega) (by omega)) (by rw [coords_val]; omega) (by rw [coords_val]; omega) K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H10, H11, H13, H14, H15, %g6, %g7, %g8, %g9, %g12, %g16, H6, H7, H8, H9, H12, H16, %hf⟩
  iapply Hk
  isplitl [H1]; · iexact H1
  isplitl [H2]; · iexact H2
  isplitl [H3]; · iexact H3
  isplitl [H4]; · iexact H4
  isplitl [H5]; · iexact H5
  iexists g6, g7, g8, g9, f10, f11, g12, f13, f14, f15, g16
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  obtain ⟨hB, hC, hi, h9, h6⟩ := hf
  have h9' := h9; rw [show (grid0.coords t 0).val - 1 = 39 by rw [coords_val]; omega] at h9'
  exact ⟨⟨fun _ => h6, fun e => absurd e (by omega)⟩, ⟨fun k e _ => (by obtain rfl : k = 39 := (by omega); exact hB.hT), fun e => absurd e (by omega)⟩, fun k e _ => (by obtain rfl : k = 38 := (by omega); exact hC), ⟨fun e => absurd e (by omega), fun k e _ => (by obtain rfl : k = 39 := (by omega); exact h9'), fun e => absurd e (by omega)⟩, ⟨fun k e _ => absurd e (by omega), fun k e _ => absurd e (by omega), fun k e _ => (by obtain rfl : k = 39 := (by omega); exact hB.hV), fun _ e => absurd e (by omega), fun _ e => absurd e (by omega), fun k e _ => absurd e (by omega), fun k e _ => (by obtain rfl : k = 39 := (by omega); exact hi)⟩⟩

end Cert.KernelIdeal.Val

end
-- ==== Proof.Val.RunG.lean ====
module

public import proofs.«01_k».proof.Proof.Val.Ends

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At)
open Idealize.ShloMosaic.Pipeline (Dat Cfg Window BodyObligation cellOf)

local notation "𝕄" => MT nD τ sig Unit (Elt Ideal) ℕ (UR sig nD τ) ℕ

set_option pp.maxSteps 400 in
set_option maxHeartbeats 8000000 in
/-- The step in case G, with what it leaves. -/
theorem runG (c : Dev nD) (i : grid0.Coords) (arg1 : Memref sig .tc .vmem S32x18432 .bf16) (harg1 : arg1.IsWhole) (arg2 : Memref sig .tc .vmem S32x18432 .bf16) (harg2 : arg2.IsWhole) (arg3 : Memref sig .tc .vmem S32x18432 .bf16) (harg3 : arg3.IsWhole) (arg4 : Memref sig .tc .vmem S1x18432 .f32) (harg4 : arg4.IsWhole) (arg5 : Memref sig .tc .vmem S2x640 .f32) (harg5 : arg5.IsWhole) (arg6 : Memref sig .tc .vmem S1x18432 .f32) (harg6 : arg6.IsWhole) (arg7 : Memref sig .tc .vmem S32x18432 .bf16) (harg7 : arg7.IsWhole) (arg8 : Memref sig .tc .vmem S32x18432 .fp8e5m2) (harg8 : arg8.IsWhole) (arg9 : Memref sig .tc .vmem S2x640 .f32) (harg9 : arg9.IsWhole) (arg10 : Memref sig .tc .vmem S72x32x256 .f32) (harg10 : arg10.IsWhole) (arg11 : Memref sig .tc .vmem S72x32x256 .f32) (harg11 : arg11.IsWhole) (arg12 : Memref sig .tc .vmem S72x32x256 .f32) (harg12 : arg12.IsWhole) (arg13 : Memref sig .tc .vmem S72x8x256 .f32) (harg13 : arg13.IsWhole) (arg14 : Memref sig .tc .vmem S32x128 .f32) (harg14 : arg14.IsWhole) (arg15 : Memref sig .tc .vmem S32x128 .f32) (harg15 : arg15.IsWhole) (arg16 : Memref sig .tc .vmem S32x128 .f32) (harg16 : arg16.IsWhole) (h6 : k0_cond6 i = 1#1) (h1 : ¬(k0_cond1 i = 1#1)) (h2 : ¬(k0_cond2 i = 1#1)) (h3 : ¬(k0_cond3 i = 1#1)) (h4 : ¬(k0_cond4 i = 1#1)) (h5 : ¬(k0_cond5 i = 1#1)) (h7 : ¬(Scalar.cmpi .ne (Scalar.extui (Scalar.cmpi .slt (Scalar.addi (BitVec.ofNat 32 (i 0).val) 1#32) 40#32)) 0#32 = 1#1)) (h8 : ¬(k0_cond8 i = 1#1)) (f1 : arg1.view.ty.Contents (Elt Ideal)) (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal)) (f14 : arg14.view.ty.Contents (Elt Ideal)) (f15 : arg15.view.ty.Contents (Elt Ideal)) (f16 : arg16.view.ty.Contents (Elt Ideal)) (x dy dr : Fin 32 → Fin 18432 → EReal) (g : Fin 18432 → EReal) (r κ ι : Fin 32 → EReal) (W0 X0 V0 : Fin 32 → Fin 18432 → EReal) (D0 : Fin 8 → Fin 18432 → EReal) (RR S9 : Fin 2 → Fin 640 → EReal) (i12 : ∀ p c, (arg12.view.read (Elt Ideal) f12) (at3 p c) = V0 p c) (i16 : ∀ p l, (arg16.view.read (Elt Ideal) f16) (ix2 p l) = ι p)  (K : PUnit → sProp 𝕄) :
    iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg7 f7 ∗ At (F := Ideal) c arg8 f8 ∗ At (F := Ideal) c arg9 f9 ∗ At (F := Ideal) c arg10 f10 ∗ At (F := Ideal) c arg11 f11 ∗ At (F := Ideal) c arg12 f12 ∗ At (F := Ideal) c arg13 f13 ∗ At (F := Ideal) c arg14 f14 ∗ At (F := Ideal) c arg15 f15 ∗ At (F := Ideal) c arg16 f16 ∗ (iprop(At (F := Ideal) c arg1 f1 ∗ At (F := Ideal) c arg2 f2 ∗ At (F := Ideal) c arg3 f3 ∗ At (F := Ideal) c arg4 f4 ∗ At (F := Ideal) c arg5 f5 ∗ At (F := Ideal) c arg6 f6 ∗ At (F := Ideal) c arg7 f7 ∗ At (F := Ideal) c arg9 f9 ∗ At (F := Ideal) c arg10 f10 ∗ At (F := Ideal) c arg11 f11 ∗ At (F := Ideal) c arg12 f12 ∗ At (F := Ideal) c arg13 f13 ∗ At (F := Ideal) c arg14 f14 ∗ At (F := Ideal) c arg15 f15 ∗ At (F := Ideal) c arg16 f16 ∗ (∃ g8, At (F := Ideal) c arg8 g8 ∗ ⌜(∀ p (c : Fin 18432), (arg8.view.read (Elt Ideal) g8) (ix2 p c) = clipE (V0 p c * ι p))⌝)) -∗ K ⟨⟩))
      ⊢ wp frame (wpE (defs₀ (F := Ideal)) Variants.none c none) Set.univ (cc0_rmsnorm_bwd_quant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_rmsnorm_bwd_quant_eq_skeleton]; unfold cc0_rmsnorm_bwd_quant_skel
  iintro ⟨H1, H2, H3, H4, H5, H6, H7, H8, H9, H10, H11, H12, H13, H14, H15, H16, Hk⟩
  sl_exec (disch := first | sl_exact h6 | sl_exact h1 | sl_exact h2 | sl_exact h3 | sl_exact h4 | sl_exact h5 | sl_exact h7 | sl_exact h8)
  sl_for (fun n acc => I5 c arg8 arg12 f12 x dy dr g r κ ι W0 X0 V0 D0 n acc) $$ [H8 H12]
  case region => exact fun k acc => trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ f12 x dy dr g r κ ι W0 X0 V0 D0 i12 (fun p l => (readFull arg16.view f16 _ p l).trans (i16 p l)) k acc
  ·
    isplitl [H12]; · iexact H12
    iexists _
    isplitl [H8]; · iexact H8
    ipureintro
    exact FC.zero
  iintro %acc ⟨H12, %g8, H8, %hI⟩
  have e18 : Scf.trips k0_t5_loop.lb k0_t5_loop.ub k0_t5_loop.st = 18 := by decide
  sl_exec (disch := first | sl_exact h6 | sl_exact h1 | sl_exact h2 | sl_exact h3 | sl_exact h4 | sl_exact h5 | sl_exact h7 | sl_exact h8)
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexists _
  isplitl [H8]; · iexact H8
  ipureintro
  sl_unfold_run_names
  exact hI.done e18
  skip

end Cert.KernelIdeal.Val

end
-- ==== Proof.Val.StepG.lean ====
module

public import proofs.«01_k».proof.Proof.Val.Data
public import proofs.«01_k».proof.Proof.Val.RunG

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At ms0 ms1 ms2 ms3 ms4 ms5 ms6 ms7 ms8 hs0 hs1 hs2 hs3 hs4 hs5 hs6 hs7 hs8 sc0 sc1 sc2 sc3 sc4 sc5 sc6 hcond1 hcond2 hcond3 hcond4 hcond5 hcond6 hcond7 hcond8)
open Idealize.ShloMosaic.Pipeline (Dat Cfg Window BodyObligation cellOf)

local notation "𝕄" => MT nD τ sig Unit (Elt Ideal) ℕ (UR sig nD τ) ℕ

set_option maxHeartbeats 4000000 in
/-- The step in case G, on the buffers of point `t`. -/
theorem stepG (m : (ℓ : Loc nD τ sig) → Buf (Elt Ideal) ℓ) (c : Dev nD) (t : Fin cfg0.N) (ht : t.val = 41) (f1 : (ms0 t).view.ty.Contents (Elt Ideal)) (f2 : (ms1 t).view.ty.Contents (Elt Ideal)) (f3 : (ms2 t).view.ty.Contents (Elt Ideal)) (f4 : (ms3 t).view.ty.Contents (Elt Ideal)) (f5 : (ms4 t).view.ty.Contents (Elt Ideal)) (f6 : (ms5 t).view.ty.Contents (Elt Ideal)) (f7 : (ms6 t).view.ty.Contents (Elt Ideal)) (f8 : (ms7 t).view.ty.Contents (Elt Ideal)) (f9 : (ms8 t).view.ty.Contents (Elt Ideal)) (f10 : sc0.view.ty.Contents (Elt Ideal)) (f11 : sc1.view.ty.Contents (Elt Ideal)) (f12 : sc2.view.ty.Contents (Elt Ideal)) (f13 : sc3.view.ty.Contents (Elt Ideal)) (f14 : sc4.view.ty.Contents (Elt Ideal)) (f15 : sc5.view.ty.Contents (Elt Ideal)) (f16 : sc6.view.ty.Contents (Elt Ideal))
    (i1 : ∀ p q, ((ms0 t).view.read (Elt Ideal) f1) (ix2 p q) = xg m c t.val p q) (i2 : ∀ p q, ((ms1 t).view.read (Elt Ideal) f2) (ix2 p q) = dyg m c t.val p q) (i3 : ∀ p q, ((ms2 t).view.read (Elt Ideal) f3) (ix2 p q) = drg m c t.val p q) (i4 : ∀ q, ((ms3 t).view.read (Elt Ideal) f4) (ix2 0 q) = gg m c q) (i5 : ∀ s q, ((ms4 t).view.read (Elt Ideal) f5) (ix2 s q) = RRg m c s q)
    (hS : Scr m c t.val (sc0.view.read (Elt Ideal) f10) (sc1.view.read (Elt Ideal) f11) (sc2.view.read (Elt Ideal) f12) (sc3.view.read (Elt Ideal) f13) (sc4.view.read (Elt Ideal) f14) (sc5.view.read (Elt Ideal) f15) (sc6.view.read (Elt Ideal) f16)) (K : PUnit → sProp 𝕄) :
    iprop(At (F := Ideal) c (ms0 t) f1 ∗ At (F := Ideal) c (ms1 t) f2 ∗ At (F := Ideal) c (ms2 t) f3 ∗ At (F := Ideal) c (ms3 t) f4 ∗ At (F := Ideal) c (ms4 t) f5 ∗ At (F := Ideal) c (ms5 t) f6 ∗ At (F := Ideal) c (ms6 t) f7 ∗ At (F := Ideal) c (ms7 t) f8 ∗ At (F := Ideal) c (ms8 t) f9 ∗ At (F := Ideal) c sc0 f10 ∗ At (F := Ideal) c sc1 f11 ∗ At (F := Ideal) c sc2 f12 ∗ At (F := Ideal) c sc3 f13 ∗ At (F := Ideal) c sc4 f14 ∗ At (F := Ideal) c sc5 f15 ∗ At (F := Ideal) c sc6 f16 ∗ (iprop(At (F := Ideal) c (ms0 t) f1 ∗ At (F := Ideal) c (ms1 t) f2 ∗ At (F := Ideal) c (ms2 t) f3 ∗ At (F := Ideal) c (ms3 t) f4 ∗ At (F := Ideal) c (ms4 t) f5 ∗ (∃ g6 g7 g8 g9 g10 g11 g12 g13 g14 g15 g16, At (F := Ideal) c (ms5 t) g6 ∗ At (F := Ideal) c (ms6 t) g7 ∗ At (F := Ideal) c (ms7 t) g8 ∗ At (F := Ideal) c (ms8 t) g9 ∗ At (F := Ideal) c sc0 g10 ∗ At (F := Ideal) c sc1 g11 ∗ At (F := Ideal) c sc2 g12 ∗ At (F := Ideal) c sc3 g13 ∗ At (F := Ideal) c sc4 g14 ∗ At (F := Ideal) c sc5 g15 ∗ At (F := Ideal) c sc6 g16
      ∗ ⌜R5 m c t.val ((ms5 t).view.read (Elt Ideal) f6) ((ms5 t).view.read (Elt Ideal) g6) ∧ R6 m c t.val ((ms6 t).view.read (Elt Ideal) f7) ((ms6 t).view.read (Elt Ideal) g7) ∧ R7 m c t.val ((ms7 t).view.read (Elt Ideal) f8) ((ms7 t).view.read (Elt Ideal) g8) ∧ R8 m c t.val ((ms8 t).view.read (Elt Ideal) f9) ((ms8 t).view.read (Elt Ideal) g9) ∧ Scr m c (t.val + 1) (sc0.view.read (Elt Ideal) g10) (sc1.view.read (Elt Ideal) g11) (sc2.view.read (Elt Ideal) g12) (sc3.view.read (Elt Ideal) g13) (sc4.view.read (Elt Ideal) g14) (sc5.view.read (Elt Ideal) g15) (sc6.view.read (Elt Ideal) g16)⌝)) -∗ K ⟨⟩))
      ⊢ wp frame (wpE (defs₀ (F := Ideal)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  iintro ⟨H1, H2, H3, H4, H5, H6, H7, H8, H9, H10, H11, H12, H13, H14, H15, H16, Hk⟩
  iapply (runG c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) ((hcond6 t).mpr (by omega)) (fun hh => absurd ((hcond1 t).mp hh) (by omega)) (fun hh => absurd ((hcond2 t).mp hh) (by omega)) (fun hh => absurd ((hcond3 t).mp hh) (by omega)) (fun hh => absurd ((hcond4 t).mp hh) (by omega)) (fun hh => absurd ((hcond5 t).mp hh) (by omega)) (fun hh => absurd ((hcond7 t).mp hh) (by omega)) (fun hh => absurd ((hcond8 t).mp hh) (by omega)) f1 f2 f3 f4 f5 f6 f7 f8 f9 f10 f11 f12 f13 f14 f15 f16 (xg m c 0) (dyg m c 0) (drg m c 0) (gg m c) (rg m c 0) (fun _ => 0) (ivE (vg m c 39)) (fun p q => (sc0.view.read (Elt Ideal) f10) (at3 p q)) (fun p q => (sc1.view.read (Elt Ideal) f11) (at3 p q)) (vg m c 39) (fun _ _ => 0) (RRg m c) (fun s q => ((ms8 t).view.read (Elt Ideal) f9) (ix2 s q)) (hS.hV 39 (by omega) (by omega)) (hS.hI 39 (by omega) (by omega))  K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H9, H10, H11, H12, H13, H14, H15, H16, %g8, H8, %hf⟩
  iapply Hk
  isplitl [H1]; · iexact H1
  isplitl [H2]; · iexact H2
  isplitl [H3]; · iexact H3
  isplitl [H4]; · iexact H4
  isplitl [H5]; · iexact H5
  iexists f6, f7, g8, f9, f10, f11, f12, f13, f14, f15, f16
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  ipureintro
  have hC := hf
  exact ⟨⟨fun e => absurd e (by omega), fun _ => rfl⟩, ⟨fun k e _ => absurd e (by omega), fun _ => rfl⟩, fun k e _ => (by obtain rfl : k = 39 := (by omega); exact hC), ⟨fun e => absurd e (by omega), fun k e _ => absurd e (by omega), fun _ => rfl⟩, ⟨fun k e _ => absurd e (by omega), fun k e _ => absurd e (by omega), fun k e _ => absurd e (by omega), fun _ e => absurd e (by omega), fun _ e => absurd e (by omega), fun k e _ => absurd e (by omega), fun k e _ => absurd e (by omega)⟩⟩

end Cert.KernelIdeal.Val

end
-- ==== Proof.Val.Body.lean ====
module

public import proofs.«01_k».proof.Proof.Val.StepA
public import proofs.«01_k».proof.Proof.Val.StepB
public import proofs.«01_k».proof.Proof.Val.StepC
public import proofs.«01_k».proof.Proof.Val.StepD
public import proofs.«01_k».proof.Proof.Val.StepE
public import proofs.«01_k».proof.Proof.Val.StepG

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Weak (At ms0 ms1 ms2 ms3 ms4 ms5 ms6 ms7 ms8 hs0 hs1 hs2 hs3 hs4 hs5 hs6 hs7 hs8 sc0 sc1 sc2 sc3 sc4 sc5 sc6 hcond1 hcond2 hcond3 hcond4 hcond5 hcond6 hcond7 hcond8)
open Idealize.ShloMosaic.Pipeline (RDat Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- Between points: the scratch buffers at contents that `Scr` describes, and the generator register. -/
def PhiS (c : Dev nD) (n : ℕ) : sProp 𝕄 :=
  iprop((∃ d0 d1 d2 d3 d4 d5 d6, ⌜Scr m c n d0 d1 d2 d3 d4 d5 d6⌝ ∗ owns (c : Thread nD τ) sc0 fullShare d0 ∗ owns (c : Thread nD τ) sc1 fullShare d1 ∗ owns (c : Thread nD τ) sc2 fullShare d2 ∗ owns (c : Thread nD τ) sc3 fullShare d3 ∗ owns (c : Thread nD τ) sc4 fullShare d4 ∗ owns (c : Thread nD τ) sc5 fullShare d5 ∗ owns (c : Thread nD τ) sc6 fullShare d6) ∗ (∃ r, prngReg c r))

/-- What each point may leave in the windows' buffers. -/
def rdat (c : Dev nD) : RDat τ (Elt Ideal) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => R5 m c t.val
    | ⟨6, _⟩ => R6 m c t.val
    | ⟨7, _⟩ => R7 m c t.val
    | ⟨8, _⟩ => R8 m c t.val
  Φ t := PhiS m c t.val
  q _ := fullShare
  owed _ := 0

theorem A_eq (c : Dev nD) (w : Fin cfg0.W) : (rdat m c).A w = V m c (Pipeline.arrRef spec0 w) := by dsimp only [rdat]
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  refine hd.trans ?_
  unfold RDat.fetched RDat.blockOf iblk; rw [A_eq]; try rfl
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  refine hd.trans ?_
  unfold RDat.fetched RDat.blockOf iblk; rw [A_eq]; try rfl
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  refine hd.trans ?_
  unfold RDat.fetched RDat.blockOf iblk; rw [A_eq]; try rfl
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  refine hd.trans ?_
  unfold RDat.fetched RDat.blockOf iblk; rw [A_eq]; try rfl
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  refine hd.trans ?_
  unfold RDat.fetched RDat.blockOf iblk; rw [A_eq]; try rfl

/-- `gamma` and the reciprocal deviations are the same block at every point. -/
theorem const3 (c : Dev nD) (t : Fin cfg0.N) : (iblk m c 3 t : S1x18432.Idx → EReal) = (iblk m c 3 (pt 0) : S1x18432.Idx → EReal) := rfl
theorem const4 (c : Dev nD) (t : Fin cfg0.N) : (iblk m c 4 t : S2x640.Idx → EReal) = (iblk m c 4 (pt 0) : S2x640.Idx → EReal) := rfl

/-- The step at any point. -/
theorem step (c : Dev nD) (t : Fin cfg0.N) (f1 : (ms0 t).view.ty.Contents (Elt Ideal)) (f2 : (ms1 t).view.ty.Contents (Elt Ideal)) (f3 : (ms2 t).view.ty.Contents (Elt Ideal)) (f4 : (ms3 t).view.ty.Contents (Elt Ideal)) (f5 : (ms4 t).view.ty.Contents (Elt Ideal)) (f6 : (ms5 t).view.ty.Contents (Elt Ideal)) (f7 : (ms6 t).view.ty.Contents (Elt Ideal)) (f8 : (ms7 t).view.ty.Contents (Elt Ideal)) (f9 : (ms8 t).view.ty.Contents (Elt Ideal)) (f10 : sc0.view.ty.Contents (Elt Ideal)) (f11 : sc1.view.ty.Contents (Elt Ideal)) (f12 : sc2.view.ty.Contents (Elt Ideal)) (f13 : sc3.view.ty.Contents (Elt Ideal)) (f14 : sc4.view.ty.Contents (Elt Ideal)) (f15 : sc5.view.ty.Contents (Elt Ideal)) (f16 : sc6.view.ty.Contents (Elt Ideal))
    (i1 : ∀ p q, ((ms0 t).view.read (Elt Ideal) f1) (ix2 p q) = xg m c t.val p q) (i2 : ∀ p q, ((ms1 t).view.read (Elt Ideal) f2) (ix2 p q) = dyg m c t.val p q) (i3 : ∀ p q, ((ms2 t).view.read (Elt Ideal) f3) (ix2 p q) = drg m c t.val p q) (i4 : ∀ q, ((ms3 t).view.read (Elt Ideal) f4) (ix2 0 q) = gg m c q) (i5 : ∀ s q, ((ms4 t).view.read (Elt Ideal) f5) (ix2 s q) = RRg m c s q)
    (hS : Scr m c t.val (sc0.view.read (Elt Ideal) f10) (sc1.view.read (Elt Ideal) f11) (sc2.view.read (Elt Ideal) f12) (sc3.view.read (Elt Ideal) f13) (sc4.view.read (Elt Ideal) f14) (sc5.view.read (Elt Ideal) f15) (sc6.view.read (Elt Ideal) f16)) (K : PUnit → sProp 𝕄) :
    iprop(At (F := Ideal) c (ms0 t) f1 ∗ At (F := Ideal) c (ms1 t) f2 ∗ At (F := Ideal) c (ms2 t) f3 ∗ At (F := Ideal) c (ms3 t) f4 ∗ At (F := Ideal) c (ms4 t) f5 ∗ At (F := Ideal) c (ms5 t) f6 ∗ At (F := Ideal) c (ms6 t) f7 ∗ At (F := Ideal) c (ms7 t) f8 ∗ At (F := Ideal) c (ms8 t) f9 ∗ At (F := Ideal) c sc0 f10 ∗ At (F := Ideal) c sc1 f11 ∗ At (F := Ideal) c sc2 f12 ∗ At (F := Ideal) c sc3 f13 ∗ At (F := Ideal) c sc4 f14 ∗ At (F := Ideal) c sc5 f15 ∗ At (F := Ideal) c sc6 f16 ∗ (iprop(At (F := Ideal) c (ms0 t) f1 ∗ At (F := Ideal) c (ms1 t) f2 ∗ At (F := Ideal) c (ms2 t) f3 ∗ At (F := Ideal) c (ms3 t) f4 ∗ At (F := Ideal) c (ms4 t) f5 ∗ (∃ g6 g7 g8 g9 g10 g11 g12 g13 g14 g15 g16, At (F := Ideal) c (ms5 t) g6 ∗ At (F := Ideal) c (ms6 t) g7 ∗ At (F := Ideal) c (ms7 t) g8 ∗ At (F := Ideal) c (ms8 t) g9 ∗ At (F := Ideal) c sc0 g10 ∗ At (F := Ideal) c sc1 g11 ∗ At (F := Ideal) c sc2 g12 ∗ At (F := Ideal) c sc3 g13 ∗ At (F := Ideal) c sc4 g14 ∗ At (F := Ideal) c sc5 g15 ∗ At (F := Ideal) c sc6 g16
      ∗ ⌜R5 m c t.val ((ms5 t).view.read (Elt Ideal) f6) ((ms5 t).view.read (Elt Ideal) g6) ∧ R6 m c t.val ((ms6 t).view.read (Elt Ideal) f7) ((ms6 t).view.read (Elt Ideal) g7) ∧ R7 m c t.val ((ms7 t).view.read (Elt Ideal) f8) ((ms7 t).view.read (Elt Ideal) g8) ∧ R8 m c t.val ((ms8 t).view.read (Elt Ideal) f9) ((ms8 t).view.read (Elt Ideal) g9) ∧ Scr m c (t.val + 1) (sc0.view.read (Elt Ideal) g10) (sc1.view.read (Elt Ideal) g11) (sc2.view.read (Elt Ideal) g12) (sc3.view.read (Elt Ideal) g13) (sc4.view.read (Elt Ideal) g14) (sc5.view.read (Elt Ideal) g15) (sc6.view.read (Elt Ideal) g16)⌝)) -∗ K ⟨⟩))
      ⊢ wp frame (wpE (defs₀ (F := Ideal)) Variants.none c none) Set.univ (cc0_rmsnorm_bwd_quant (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)) K := by
  have hN : t.val < 42 := lt_of_lt_of_eq t.isLt (show cfg0.N = 42 from N_0)
  rcases (show t.val = 0 ∨ t.val = 1 ∨ 2 ≤ t.val ∧ t.val < 39 ∨ t.val = 39 ∨ t.val = 40 ∨ t.val = 41 by omega) with h | h | h | h | h | h
  · exact stepA m c t h f1 f2 f3 f4 f5 f6 f7 f8 f9 f10 f11 f12 f13 f14 f15 f16 i1 i2 i3 i4 i5 hS K
  · exact stepB m c t h f1 f2 f3 f4 f5 f6 f7 f8 f9 f10 f11 f12 f13 f14 f15 f16 i1 i2 i3 i4 i5 hS K
  · exact stepC m c t (t.val - 2) (by omega) (by omega) f1 f2 f3 f4 f5 f6 f7 f8 f9 f10 f11 f12 f13 f14 f15 f16 i1 i2 i3 i4 i5 hS K
  · exact stepD m c t h f1 f2 f3 f4 f5 f6 f7 f8 f9 f10 f11 f12 f13 f14 f15 f16 i1 i2 i3 i4 i5 hS K
  · exact stepE m c t h f1 f2 f3 f4 f5 f6 f7 f8 f9 f10 f11 f12 f13 f14 f15 f16 i1 i2 i3 i4 i5 hS K
  · exact stepG m c t h f1 f2 f3 f4 f5 f6 f7 f8 f9 f10 f11 f12 f13 f14 f15 f16 i1 i2 i3 i4 i5 hS K

set_option maxHeartbeats 4000000 in
/-- The body at any point, from the step. -/
theorem sound_body (c : Dev nD) (t : Fin cfg0.N) (Y0 : S32x18432.Idx → EReal) (Y1 : S32x18432.Idx → EReal) (Y2 : S32x18432.Idx → EReal) (Y3 : S1x18432.Idx → EReal) (Y4 : S2x640.Idx → EReal) (Y5 : S1x18432.Idx → EReal) (Y6 : S32x18432.Idx → EReal) (Y7 : S32x18432.Idx → EReal) (Y8 : S2x640.Idx → EReal) (h0 : Y0 = iblk m c 0 t) (h1 : Y1 = iblk m c 1 t) (h2 : Y2 = iblk m c 2 t) (h3 : Y3 = iblk m c 3 t) (h4 : Y4 = iblk m c 4 t) (O : sProp 𝕄) :
    iprop(PhiS m c t.val ∗ O ∗ owns (c : Thread nD τ) (ms0 t) fullShare Y0 ∗ owns (c : Thread nD τ) (ms1 t) fullShare Y1 ∗ owns (c : Thread nD τ) (ms2 t) fullShare Y2 ∗ owns (c : Thread nD τ) (ms3 t) fullShare Y3 ∗ owns (c : Thread nD τ) (ms4 t) fullShare Y4 ∗ owns (c : Thread nD τ) (ms5 t) fullShare Y5 ∗ owns (c : Thread nD τ) (ms6 t) fullShare Y6 ∗ owns (c : Thread nD τ) (ms7 t) fullShare Y7 ∗ owns (c : Thread nD τ) (ms8 t) fullShare Y8)
      ⊢ wp frame (wpE (defs₀ (F := Ideal)) Variants.none c none) Set.univ (bodyAt0 t) (fun _ =>
        iprop(PhiS m c (t.val + 1) ∗ O ∗ (∃ X, ⌜X = Y0⌝ ∗ owns (c : Thread nD τ) (ms0 t) fullShare X) ∗ (∃ X, ⌜X = Y1⌝ ∗ owns (c : Thread nD τ) (ms1 t) fullShare X) ∗ (∃ X, ⌜X = Y2⌝ ∗ owns (c : Thread nD τ) (ms2 t) fullShare X) ∗ (∃ X, ⌜X = Y3⌝ ∗ owns (c : Thread nD τ) (ms3 t) fullShare X) ∗ (∃ X, ⌜X = Y4⌝ ∗ owns (c : Thread nD τ) (ms4 t) fullShare X) ∗ (∃ X, ⌜R5 m c t.val Y5 X⌝ ∗ owns (c : Thread nD τ) (ms5 t) fullShare X) ∗ (∃ X, ⌜R6 m c t.val Y6 X⌝ ∗ owns (c : Thread nD τ) (ms6 t) fullShare X) ∗ (∃ X, ⌜R7 m c t.val Y7 X⌝ ∗ owns (c : Thread nD τ) (ms7 t) fullShare X) ∗ (∃ X, ⌜R8 m c t.val Y8 X⌝ ∗ owns (c : Thread nD τ) (ms8 t) fullShare X))) := by
  unfold bodyAt0 PhiS owns
  iintro ⟨⟨⟨%d0, %d1, %d2, %d3, %d4, %d5, %d6, %hS, ⟨%f10, %e10, HS0⟩, ⟨%f11, %e11, HS1⟩, ⟨%f12, %e12, HS2⟩, ⟨%f13, %e13, HS3⟩, ⟨%f14, %e14, HS4⟩, ⟨%f15, %e15, HS5⟩, ⟨%f16, %e16, HS6⟩⟩, Hg⟩, Ho, ⟨%f1, %e1, H0⟩, ⟨%f2, %e2, H1⟩, ⟨%f3, %e3, H2⟩, ⟨%f4, %e4, H3⟩, ⟨%f5, %e5, H4⟩, ⟨%f6, %e6, H5⟩, ⟨%f7, %e7, H6⟩, ⟨%f8, %e8, H7⟩, ⟨%f9, %e9, H8⟩⟩
  subst e1 e2 e3 e4 e5 e6 e7 e8 e9 e10 e11 e12 e13 e14 e15 e16
  iapply (step m c t f1 f2 f3 f4 f5 f6 f7 f8 f9 f10 f11 f12 f13 f14 f15 f16 (fun p q => (congrFun h0 _).trans (by unfold xg; rw [pt_val])) (fun p q => (congrFun h1 _).trans (by unfold dyg; rw [pt_val])) (fun p q => (congrFun h2 _).trans (by unfold drg; rw [pt_val])) (fun q => (congrFun (h3.trans (const3 m c t)) _)) (fun s q => (congrFun (h4.trans (const4 m c t)) _)) hS _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, %g6, %g7, %g8, %g9, %g10, %g11, %g12, %g13, %g14, %g15, %g16, H5, H6, H7, H8, HS0, HS1, HS2, HS3, HS4, HS5, HS6, %hf⟩
  obtain ⟨r5, r6, r7, r8, hS'⟩ := hf
  isplitl [HS0 HS1 HS2 HS3 HS4 HS5 HS6 Hg]
  · isplitl [HS0 HS1 HS2 HS3 HS4 HS5 HS6]
    · iexists _, _, _, _, _, _, _
      isplitr
      · ipureintro; exact hS'
      isplitl [HS0]; · iexists _; isplitr; swap; (iexact HS0); ipureintro; rfl
      isplitl [HS1]; · iexists _; isplitr; swap; (iexact HS1); ipureintro; rfl
      isplitl [HS2]; · iexists _; isplitr; swap; (iexact HS2); ipureintro; rfl
      isplitl [HS3]; · iexists _; isplitr; swap; (iexact HS3); ipureintro; rfl
      isplitl [HS4]; · iexists _; isplitr; swap; (iexact HS4); ipureintro; rfl
      isplitl [HS5]; · iexists _; isplitr; swap; (iexact HS5); ipureintro; rfl
      iexists _; isplitr; swap; (iexact HS6); ipureintro; rfl
    iexact Hg
  isplitl [Ho]; · iexact Ho
  isplitl [H0]; · iexists _; isplitr; (· ipureintro; rfl); iexists _; isplitr; swap; (iexact H0); ipureintro; rfl
  isplitl [H1]; · iexists _; isplitr; (· ipureintro; rfl); iexists _; isplitr; swap; (iexact H1); ipureintro; rfl
  isplitl [H2]; · iexists _; isplitr; (· ipureintro; rfl); iexists _; isplitr; swap; (iexact H2); ipureintro; rfl
  isplitl [H3]; · iexists _; isplitr; (· ipureintro; rfl); iexists _; isplitr; swap; (iexact H3); ipureintro; rfl
  isplitl [H4]; · iexists _; isplitr; (· ipureintro; rfl); iexists _; isplitr; swap; (iexact H4); ipureintro; rfl
  isplitl [H5]; · iexists _; isplitr; (· ipureintro; exact r5); iexists _; isplitr; swap; (iexact H5); ipureintro; rfl
  isplitl [H6]; · iexists _; isplitr; (· ipureintro; exact r6); iexists _; isplitr; swap; (iexact H6); ipureintro; rfl
  isplitl [H7]; · iexists _; isplitr; (· ipureintro; exact r7); iexists _; isplitr; swap; (iexact H7); ipureintro; rfl
  iexists _; isplitr; (· ipureintro; exact r8); iexists _; isplitr; swap; (iexact H8); ipureintro; rfl

/-- The body table's row at point `t`'s slots is the body as `bodyAt0` spells it. -/
theorem body_row (t : Fin cfg0.N) : defs₀ (F := Ideal) .tc cfg0.body (cfg0.bodyArgs t (cfg0.slots t)) = bodyAt0 t := by
  unfold defs₀; rw [Defs.onTc_tc]

/-- The body obligation, at every point. -/
theorem body_obligation (c : Dev nD) : (rdat m c).BodyObligation (defs₀ (F := Ideal)) Variants.none () Set.univ := fun t Y hY => by
  rw [bigSep_W0, bigSep_W0, body_row]
  exact triple_restated (sound_body m c t (Y 0) (Y 1) (Y 2) (Y 3) (Y 4) (Y 5) (Y 6) (Y 7) (Y 8) (finds0 m c t _ (hY 0)) (finds1 m c t _ (hY 1)) (finds2 m c t _ (hY 2)) (finds3 m c t _ (hY 3)) (finds4 m c t _ (hY 4)) ((rdat m c).owesAt () t.castSucc)) rfl .rfl fun _ => .rfl

theorem scr_zero (c : Dev nD) (d0 d1 d2 d3 d4 d5 d6) : Scr m c 0 d0 d1 d2 d3 d4 d5 d6 :=
  ⟨fun n e _ => absurd e (by omega), fun n e _ => absurd e (by omega), fun n e _ => absurd e (by omega), fun e => absurd e (by omega), fun e => absurd e (by omega),
    fun n e _ => absurd e (by omega), fun n e _ => absurd e (by omega)⟩

theorem hin (c : Dev nD) : Pipeline.ΦA spec0 c ⊢ PhiS m c 0 := by
  rw [Weak.PhiA_eq]; unfold PhiS
  iintro ⟨⟨⟨%d0, HS0⟩, ⟨%d1, HS1⟩, ⟨%d2, HS2⟩, ⟨%d3, HS3⟩, ⟨%d4, HS4⟩, ⟨%d5, HS5⟩, ⟨%d6, HS6⟩⟩, Hg⟩
  isplitl [HS0 HS1 HS2 HS3 HS4 HS5 HS6]
  · iexists d0, d1, d2, d3, d4, d5, d6
    isplitr
    · ipureintro; exact scr_zero m c d0 d1 d2 d3 d4 d5 d6
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iexact Hg
theorem hout (c : Dev nD) (n : ℕ) : PhiS m c n ⊢ Pipeline.ΦA spec0 c := by
  rw [Weak.PhiA_eq]; unfold PhiS
  iintro ⟨⟨%d0, %d1, %d2, %d3, %d4, %d5, %d6, -, HS0, HS1, HS2, HS3, HS4, HS5, HS6⟩, Hg⟩
  isplitl [HS0 HS1 HS2 HS3 HS4 HS5 HS6]
  ·
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    iexists _; iexact HS6
  iexact Hg

set_option backward.isDefEq.respectTransparency.types false in
/-- The launch, with what its windows' arrays may hold at the end. -/
theorem run_main : θ_run defs (onTc (τ := τ) (main (F := Ideal))) (s₀ m ρ) (fun r => Pipeline.RDat.FramePost (cfgs 0) (fun c => rdat m c) (V m) r) :=
  Pipeline.RDat.θ_run_frame_track (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hin := hin m) (hout := fun c => hout m c _) (hQ' := fun _ h => h.1)

end Cert.KernelIdeal.Val

end
-- ==== Proof.Val.Final.lean ====
module

public import proofs.«01_k».proof.Proof.Val.Body
public import Idealize.ShloMosaic.Lib.Pipeline.ArrRel

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window RDat)

variable (m : (ℓ : Loc nD τ sig) → Buf (Elt Ideal) ℓ) (c : Dev nD)

/-! ## The schedule of the four outputs, decided over the 42 points -/

/-- The outputs are never fetched. -/
theorem nofetch5 : ∀ t : Fin cfg0.N, (cfg0.win 5).fetch t = false := (by decide +kernel : ∀ t : Fin grid0.N, win0_5.fetch t = false)
theorem nofetch6 : ∀ t : Fin cfg0.N, (cfg0.win 6).fetch t = false := (by decide +kernel : ∀ t : Fin grid0.N, win0_6.fetch t = false)
theorem nofetch8 : ∀ t : Fin cfg0.N, (cfg0.win 8).fetch t = false := (by decide +kernel : ∀ t : Fin grid0.N, win0_8.fetch t = false)
/-- The gradient of `gamma` and the scales are written back at the last point only. -/
theorem flush5_iff : ∀ t : Fin cfg0.N, (cfg0.win 5).flush t = true ↔ t.val = 41 := (by decide +kernel : ∀ t : Fin grid0.N, win0_5.flush t = true ↔ t.val = 41)
theorem flush8_iff : ∀ t : Fin cfg0.N, (cfg0.win 8).flush t = true ↔ t.val = 41 := (by decide +kernel : ∀ t : Fin grid0.N, win0_8.flush t = true ↔ t.val = 41)
/-- The gradient is written back at every point from the second on but the last but one; the block of point `t + 1` is
    the `t`-th, and the last point's is the last. -/
theorem flush6_iff : ∀ t : Fin cfg0.N, (cfg0.win 6).flush t = true ↔ (1 ≤ t.val ∧ t.val ≠ 40) :=
  (by decide +kernel : ∀ t : Fin grid0.N, win0_6.flush t = true ↔ (1 ≤ t.val ∧ t.val ≠ 40))
theorem index6 : ∀ t : Fin cfg0.N, win0_6.index t = ![min (t.val - 1) 39, 0] :=
  (by decide +kernel : ∀ t : Fin grid0.N, win0_6.index t = ![min (t.val - 1) 39, 0])
/-- The codes are written back at every point from the third on; the block of point `t + 2` is the `t`-th. -/
theorem flush7_iff : ∀ t : Fin cfg0.N, (cfg0.win 7).flush t = true ↔ 2 ≤ t.val :=
  (by decide +kernel : ∀ t : Fin grid0.N, win0_7.flush t = true ↔ 2 ≤ t.val)
theorem index7 : ∀ t : Fin cfg0.N, win0_7.index t = ![t.val - 2, 0] :=
  (by decide +kernel : ∀ t : Fin grid0.N, win0_7.index t = ![t.val - 2, 0])
theorem index0 : ∀ t : Fin cfg0.N, win0_0.index t = ![min t.val 39, 0] := (by decide +kernel : ∀ t : Fin grid0.N, win0_0.index t = ![min t.val 39, 0])
theorem index1 : ∀ t : Fin cfg0.N, win0_1.index t = ![min t.val 39, 0] := (by decide +kernel : ∀ t : Fin grid0.N, win0_1.index t = ![min t.val 39, 0])
theorem index2 : ∀ t : Fin cfg0.N, win0_2.index t = ![min t.val 39, 0] := (by decide +kernel : ∀ t : Fin grid0.N, win0_2.index t = ![min t.val 39, 0])
theorem covers6 : (cfg0.win 6).Covers := (by decide +kernel : win0_6.Covers)
theorem covers7 : (cfg0.win 7).Covers := (by decide +kernel : win0_7.Covers)
theorem whole5 : (cfg0.win 5).WholeAt (pt 41) := (by decide +kernel : win0_5.WholeAt ⟨41, by decide⟩)
theorem whole8 : (cfg0.win 8).WholeAt (pt 41) := (by decide +kernel : win0_8.WholeAt ⟨41, by decide⟩)

/-! ## What each output's buffer holds when it is written back -/

/-- The scales after the groups below `n`: the groups' rows filled in, one group after another. -/
def SC : ℕ → Fin 2 → Fin 640 → EReal
  | 0 => fun _ _ => 0
  | n + 1 => sAdd (SC n) n (scE (vg m c n))

theorem lt42 (t : Fin cfg0.N) : t.val < 42 := lt_of_lt_of_eq t.isLt (show cfg0.N = 42 from N_0)

/-- The gradient of `gamma` written back is the sum of the eight partial sums over all 40 groups. -/
theorem leaves5 (X) (h : (rdat m c).Leaves 5 (pt 41) X) (q : Fin 18432) :
    (X : S1x18432.Idx → EReal) (ix2 0 q) = ∑ a : Fin 8, DG m c 40 a q := by
  obtain ⟨Y, hY, hR⟩ := h
  have hR : R5 m c 41 Y X := hR
  rcases ((rdat m c).finds_of_pos (nofetch5 (pt 41)) (by decide : (41 : ℕ) ≠ 0) Y).1 hY with hf | ⟨Z, hZ, hR'⟩
  · exact absurd ((flush5_iff _).1 hf) (by decide : ¬ (40 : ℕ) = 41)
  · have hR' : R5 m c 40 Z Y := hR'
    have e : (X : S1x18432.Idx → EReal) = Y := hR.2 rfl
    rw [e]; exact hR'.1 rfl q

/-- The block of the gradient written back for group `n` is `vg n`. -/
theorem leaves6 (t : Fin cfg0.N) (hf : (cfg0.win 6).flush t = true) (X) (h : (rdat m c).Leaves 6 t X) (p : Fin 32) (q : Fin 18432) :
    (X : S32x18432.Idx → EReal) (ix2 p q) = vg m c (min (t.val - 1) 39) p q := by
  obtain ⟨h1, h2⟩ := (flush6_iff t).1 hf
  have h3 := lt42 t
  obtain ⟨Y, hY, hR⟩ := h
  have hR : R6 m c t.val Y X := hR
  by_cases h41 : t.val = 41
  · rcases ((rdat m c).finds_of_pos (nofetch6 t) (by omega) Y).1 hY with hf' | ⟨Z, hZ, hR'⟩
    · exact absurd ((flush6_iff _).1 hf').2 (by simp [h41])
    · have hR' : R6 m c (t.val - 1) Z Y := hR'
      have e : (X : S32x18432.Idx → EReal) = Y := hR.2 h41
      rw [e, show min (t.val - 1) 39 = 39 by omega]
      exact hR'.1 39 (by omega) (by omega) p q
  · rw [show min (t.val - 1) 39 = t.val - 1 by omega]
    exact hR.1 (t.val - 1) (by omega) (by omega) p q

/-- The block of codes written back for group `n` is the group's gradient times the inverse scales, clipped. -/
theorem leaves7 (t : Fin cfg0.N) (hf : (cfg0.win 7).flush t = true) (X) (h : (rdat m c).Leaves 7 t X) (p : Fin 32) (q : Fin 18432) :
    (X : S32x18432.Idx → EReal) (ix2 p q) = clipE (vg m c (t.val - 2) p q * ivE (vg m c (t.val - 2)) p) := by
  have h1 := (flush7_iff t).1 hf
  have h3 := lt42 t
  obtain ⟨Y, hY, hR⟩ := h
  have hR : R7 m c t.val Y X := hR
  exact hR (t.val - 2) (by omega) (by omega) p q

/-- The buffer of the scales after point `n ≤ 40`. -/
theorem leaves8_at : ∀ (n : ℕ) (hn : n ≤ 40) (t : Fin cfg0.N) (ht : t.val = n) (X) (h : (rdat m c).Leaves 8 t X) (s : Fin 2) (q : Fin 640),
    (X : S2x640.Idx → EReal) (ix2 s q) = SC m c n s q := by
  intro n
  induction n with
  | zero =>
    intro hn t ht X h s q
    obtain ⟨Y, hY, hR⟩ := h
    have hR : R8 m c t.val Y X := hR
    exact hR.1 ht s q
  | succ n ih =>
    intro hn t ht X h s q
    obtain ⟨Y, hY, hR⟩ := h
    have hR : R8 m c t.val Y X := hR
    rcases ((rdat m c).finds_of_pos (nofetch8 t) (by omega) Y).1 hY with hf' | hL
    · exact absurd ((flush8_iff _).1 hf') (by show ¬ t.val - 1 = 41; omega)
    · have hy : ∀ s q, (Y : S2x640.Idx → EReal) (ix2 s q) = SC m c n s q := fun s q => ih (by omega) _ (by show t.val - 1 = n; omega) Y hL s q
      rw [hR.2.1 n ht (by omega) s q]
      exact congrArg (fun f => sAdd f n (scE (vg m c n)) s q) (funext fun s => funext fun q => hy s q)

/-- The scales written back. -/
theorem leaves8 (X) (h : (rdat m c).Leaves 8 (pt 41) X) (s : Fin 2) (q : Fin 640) :
    (X : S2x640.Idx → EReal) (ix2 s q) = SC m c 40 s q := by
  obtain ⟨Y, hY, hR⟩ := h
  have hR : R8 m c 41 Y X := hR
  rcases ((rdat m c).finds_of_pos (nofetch8 (pt 41)) (by decide : (41 : ℕ) ≠ 0) Y).1 hY with hf | hL
  · exact absurd ((flush8_iff _).1 hf) (by decide : ¬ (40 : ℕ) = 41)
  · have e : (X : S2x640.Idx → EReal) = Y := hR.2.2 rfl
    rw [e]; exact leaves8_at m c 40 le_rfl _ rfl Y hL s q

end Cert.KernelIdeal.Val
-- ==== Proof.Val.Arrays.lean ====
module

public import proofs.«01_k».proof.Proof.Val.Final
public import Idealize.ShloMosaic.Lib.Pipeline.ArrRel

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window RDat)

variable (m : (ℓ : Loc nD τ sig) → Buf (Elt Ideal) ℓ) (c : Dev nD)

/-! ## The kernel's four result arrays -/

variable (ρ : Dev nD → PrngReg)

/-- The result arrays in terms of the groups: row `R` of an array of 1280 rows is row `R % 32` of group `R / 32`. -/
def A5 : S1x18432.Idx → EReal := fun i => ∑ a : Fin 8, DG m c 40 a (i 1)
def A6 : S1280x18432.Idx → EReal := fun i => vg m c ((i 0).val / 32) ⟨(i 0).val % 32, Nat.mod_lt _ (by decide)⟩ (i 1)
def A7 : S1280x18432.Idx → EReal := fun i =>
  clipE (vg m c ((i 0).val / 32) ⟨(i 0).val % 32, Nat.mod_lt _ (by decide)⟩ (i 1) * ivE (vg m c ((i 0).val / 32)) ⟨(i 0).val % 32, Nat.mod_lt _ (by decide)⟩)
def A8 : S2x640.Idx → EReal := fun i => SC m c 40 (i 0) (i 1)

theorem ix2_eta {a b : ℕ} (i : (⟨2, ![a, b]⟩ : Shape).Idx) : (ix2 (i 0) (i 1) : (⟨2, ![a, b]⟩ : Shape).Idx) = i := by
  funext k; match k with | ⟨0, _⟩ => rfl | ⟨1, _⟩ => rfl

section
variable (after : (w' : Fin cfg0.W) → Fin cfg0.N → (cfg0.win w').block.Idx → Elt Ideal (cfg0.win w').elt)
  (hL : ∀ (w : Fin cfg0.W) (u : Fin cfg0.N), (cfg0.win w).flush u = true → (rdat m c).Leaves w u (after w u))
include hL

theorem arr5 : (((rdat m c).withAfter after).arrAt 5 cfg0.N : S1x18432.Idx → EReal) = A5 m c := by
  refine Dat.arrAt_eq_of_after_last (dat := (rdat m c).withAfter after) 5 (pt 41) whole5 (A5 m c) (fun j => ?_)
  rw [RDat.withAfter_after]
  blk_simp
  have e := leaves5 m c (after 5 (pt 41)) (hL 5 (pt 41) whole5.1) (j 1)
  refine Eq.trans (congrArg _ ?_) e
  funext k
  match k with
  | ⟨0, _⟩ => exact Subsingleton.elim (α := Fin 1) _ _
  | ⟨1, _⟩ => rfl

theorem arr8 : (((rdat m c).withAfter after).arrAt 8 cfg0.N : S2x640.Idx → EReal) = A8 m c := by
  refine Dat.arrAt_eq_of_after_last (dat := (rdat m c).withAfter after) 8 (pt 41) whole8 (A8 m c) (fun j => ?_)
  rw [RDat.withAfter_after]
  blk_simp
  have e := leaves8 m c (after 8 (pt 41)) (hL 8 (pt 41) whole8.1) (j 0) (j 1)
  refine Eq.trans (congrArg _ ?_) e
  funext k
  match k with
  | ⟨0, _⟩ => rfl
  | ⟨1, _⟩ => rfl

theorem arr6 : (((rdat m c).withAfter after).arrAt 6 cfg0.N : S1280x18432.Idx → EReal) = A6 m c := by
  refine Dat.arrAt_eq_of_covers (dat := (rdat m c).withAfter after) 6 (A6 m c) covers6 (fun t hf y => ?_)
  rw [RDat.withAfter_after]
  have e := leaves6 m c t hf (after 6 t) (hL 6 t hf) (y 0) (y 1)
  have hy0 : (y 0).val < 32 := (y 0).isLt
  have h0 : (((cfg0.win 6).blk t).view.emb y 0 : ℕ) = min (t.val - 1) 39 * 32 + (y 0).val := by blk_simp [index6]
  have h1 : (((cfg0.win 6).blk t).view.emb y 1 : ℕ) = (y 1).val := by blk_simp [index6]
  have g : (after 6 t ((cfg0.win 6).xinj (grid0.coords t) y) : EReal) = vg m c (min (t.val - 1) 39) (y 0) (y 1) := by
    refine Eq.trans (congrArg _ ?_) e
    funext k
    match k with
    | ⟨0, _⟩ => rfl
    | ⟨1, _⟩ => rfl
  refine Eq.trans g ?_
  unfold A6
  have e0 : (((cfg0.win 6).blk t).view.emb y 0 : ℕ) / 32 = min (t.val - 1) 39 := by rw [h0]; omega
  rw [e0]
  refine congr (congrArg _ (Fin.ext ?_)) (Fin.ext h1.symm)
  show (y 0).val = (((cfg0.win 6).blk t).view.emb y 0 : ℕ) % 32
  rw [h0]; omega

theorem arr7 : (((rdat m c).withAfter after).arrAt 7 cfg0.N : S1280x18432.Idx → EReal) = A7 m c := by
  refine Dat.arrAt_eq_of_covers (dat := (rdat m c).withAfter after) 7 (A7 m c) covers7 (fun t hf y => ?_)
  rw [RDat.withAfter_after]
  have e := leaves7 m c t hf (after 7 t) (hL 7 t hf) (y 0) (y 1)
  have hy0 : (y 0).val < 32 := (y 0).isLt
  have h0 : (((cfg0.win 7).blk t).view.emb y 0 : ℕ) = (t.val - 2) * 32 + (y 0).val := by blk_simp [index7]
  have h1 : (((cfg0.win 7).blk t).view.emb y 1 : ℕ) = (y 1).val := by blk_simp [index7]
  have g : (after 7 t ((cfg0.win 7).xinj (grid0.coords t) y) : EReal) = clipE (vg m c (t.val - 2) (y 0) (y 1) * ivE (vg m c (t.val - 2)) (y 0)) := by
    refine Eq.trans (congrArg _ ?_) e
    funext k
    match k with
    | ⟨0, _⟩ => rfl
    | ⟨1, _⟩ => rfl
  refine Eq.trans g ?_
  unfold A7
  have e0 : (((cfg0.win 7).blk t).view.emb y 0 : ℕ) / 32 = t.val - 2 := by rw [h0]; omega
  have e1 : (⟨(((cfg0.win 7).blk t).view.emb y 0 : ℕ) % 32, Nat.mod_lt _ (by decide)⟩ : Fin 32) = y 0 :=
    Fin.ext (by show (((cfg0.win 7).blk t).view.emb y 0 : ℕ) % 32 = (y 0).val; rw [h0]; omega)
  have e2 : (((cfg0.win 7).blk t).view.emb y 1 : Fin 18432) = y 1 := Fin.ext h1
  rw [e0]
  exact (congr (congrArg (fun p q => clipE (vg m c (t.val - 2) p q * ivE (vg m c (t.val - 2)) p)) e1) e2).symm
end

/-- The program ends with its four results in the result arrays and its arguments unchanged. -/
theorem run_values : θ_run defs (onTc (τ := τ) (main (F := Ideal))) ⟨m, fun _ => 0, ρ⟩ (fun r => ∀ c : Dev nD,
      r.2.mem ((c.tc : Thread nD τ).loc main_v4_0) = A5 m c
      ∧ r.2.mem ((c.tc : Thread nD τ).loc main_v4_1) = A6 m c
      ∧ r.2.mem ((c.tc : Thread nD τ).loc main_v4_2) = A7 m c
      ∧ r.2.mem ((c.tc : Thread nD τ).loc main_v4_3) = A8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (Weak.unchanged m ρ))
  obtain ⟨after, hL, hA⟩ := RDat.FramePost.exists_exact h.1 c
  exact ⟨(hA 5).trans (arr5 m c after hL), (hA 6).trans (arr6 m c after hL), (hA 7).trans (arr7 m c after hL), (hA 8).trans (arr8 m c after hL), h.2 c⟩

end Cert.KernelIdeal.Val

end
-- ==== Proof.Val.Blocks.lean ====
module

public import proofs.«01_k».proof.Proof.Val.Final
public import Idealize.ShloMosaic.Lib.Pipeline.ArrRel

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window RDat)

variable (m : (ℓ : Loc nD τ sig) → Buf (Elt Ideal) ℓ) (c : Dev nD)

/-! ## The groups of rows in terms of the arguments -/

theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])

/-- Row `R` of an array of 1280 rows, as batch and position. -/
abbrev bat (R : ℕ) : Fin 2 := ⟨R / 640 % 2, Nat.mod_lt _ (by decide)⟩
abbrev pos (R : ℕ) : Fin 640 := ⟨R % 640, Nat.mod_lt _ (by decide)⟩

/-- Group `n` of rows of `x`. -/
theorem xg_eq (n : ℕ) (hn : n < 40) (p : Fin 32) (q : Fin 18432) :
    xg m c n p q = (m ((c.tc : Thread nD τ).loc main_arg0) : S2x640x18432.Idx → EReal) (ix3 (bat (32 * n + p.val)) (pos (32 * n + p.val)) q) := by
  unfold xg
  have hp := p.isLt
  have hq := q.isLt
  have ht : (pt n).val = n := Nat.mod_eq_of_lt (by omega)
  blk_simp [iblk]
  show (V m c main_v0 : S1280x18432.Idx → EReal) (((cfg0.win 0).blk (pt n)).view.emb (ix2 p q)) = _
  have h0 : (((cfg0.win 0).blk (pt n)).view.emb (ix2 p q) 0 : ℕ) = n * 32 + p.val := by blk_simp [index0]; rw [ht, show min n 39 = n by omega]
  have h1 : (((cfg0.win 0).blk (pt n)).view.emb (ix2 p q) 1 : ℕ) = q.val := by blk_simp [index0]
  generalize ((cfg0.win 0).blk (pt n)).view.emb (ix2 p q) = j at h0 h1
  entry_read
  refine shapeCast_apply _ _ _ _ ?_
  refine (Shape.rowMajor_val_three (d := ![2, 640, 18432]) _).trans (Eq.trans ?_ (Shape.rowMajor_val_two (d := ![1280, 18432]) j).symm)
  rw [h0, h1]
  show ((32 * n + p.val) / 640 % 2 * 640 + (32 * n + p.val) % 640) * 18432 + q.val = (n * 32 + p.val) * 18432 + q.val
  congr 2
  omega

/-- Group `n` of rows of `dy`. -/
theorem dyg_eq (n : ℕ) (hn : n < 40) (p : Fin 32) (q : Fin 18432) :
    dyg m c n p q = (m ((c.tc : Thread nD τ).loc main_arg1) : S2x640x18432.Idx → EReal) (ix3 (bat (32 * n + p.val)) (pos (32 * n + p.val)) q) := by
  unfold dyg
  have hp := p.isLt
  have hq := q.isLt
  have ht : (pt n).val = n := Nat.mod_eq_of_lt (by omega)
  blk_simp [iblk]
  show (V m c main_v1 : S1280x18432.Idx → EReal) (((cfg0.win 1).blk (pt n)).view.emb (ix2 p q)) = _
  have h0 : (((cfg0.win 1).blk (pt n)).view.emb (ix2 p q) 0 : ℕ) = n * 32 + p.val := by blk_simp [index1]; rw [ht, show min n 39 = n by omega]
  have h1 : (((cfg0.win 1).blk (pt n)).view.emb (ix2 p q) 1 : ℕ) = q.val := by blk_simp [index1]
  generalize ((cfg0.win 1).blk (pt n)).view.emb (ix2 p q) = j at h0 h1
  entry_read
  refine shapeCast_apply _ _ _ _ ?_
  refine (Shape.rowMajor_val_three (d := ![2, 640, 18432]) _).trans (Eq.trans ?_ (Shape.rowMajor_val_two (d := ![1280, 18432]) j).symm)
  rw [h0, h1]
  show ((32 * n + p.val) / 640 % 2 * 640 + (32 * n + p.val) % 640) * 18432 + q.val = (n * 32 + p.val) * 18432 + q.val
  congr 2
  omega

/-- Group `n` of rows of `dresid`. -/
theorem drg_eq (n : ℕ) (hn : n < 40) (p : Fin 32) (q : Fin 18432) :
    drg m c n p q = (m ((c.tc : Thread nD τ).loc main_arg2) : S2x640x18432.Idx → EReal) (ix3 (bat (32 * n + p.val)) (pos (32 * n + p.val)) q) := by
  unfold drg
  have hp := p.isLt
  have hq := q.isLt
  have ht : (pt n).val = n := Nat.mod_eq_of_lt (by omega)
  blk_simp [iblk]
  show (V m c main_v2 : S1280x18432.Idx → EReal) (((cfg0.win 2).blk (pt n)).view.emb (ix2 p q)) = _
  have h0 : (((cfg0.win 2).blk (pt n)).view.emb (ix2 p q) 0 : ℕ) = n * 32 + p.val := by blk_simp [index2]; rw [ht, show min n 39 = n by omega]
  have h1 : (((cfg0.win 2).blk (pt n)).view.emb (ix2 p q) 1 : ℕ) = q.val := by blk_simp [index2]
  generalize ((cfg0.win 2).blk (pt n)).view.emb (ix2 p q) = j at h0 h1
  entry_read
  refine shapeCast_apply _ _ _ _ ?_
  refine (Shape.rowMajor_val_three (d := ![2, 640, 18432]) _).trans (Eq.trans ?_ (Shape.rowMajor_val_two (d := ![1280, 18432]) j).symm)
  rw [h0, h1]
  show ((32 * n + p.val) / 640 % 2 * 640 + (32 * n + p.val) % 640) * 18432 + q.val = (n * 32 + p.val) * 18432 + q.val
  congr 2
  omega

/-- `gamma`. -/
theorem gg_eq (q : Fin 18432) : gg m c q = (m ((c.tc : Thread nD τ).loc main_arg3) : S18432.Idx → EReal) (ix1 q) := by
  unfold gg
  have hq := q.isLt
  blk_simp [iblk]
  show (V m c main_v3 : S1x18432.Idx → EReal) (((cfg0.win 3).blk (pt 0)).view.emb (ix2 0 q)) = _
  have h0 : (((cfg0.win 3).blk (pt 0)).view.emb (ix2 0 q) 0 : ℕ) = 0 := by blk_simp [index3]; rfl
  have h1 : (((cfg0.win 3).blk (pt 0)).view.emb (ix2 0 q) 1 : ℕ) = q.val := by blk_simp [index3]
  generalize ((cfg0.win 3).blk (pt 0)).view.emb (ix2 0 q) = j at h0 h1
  entry_read
  refine shapeCast_apply _ _ _ _ ?_
  refine (Shape.rowMajor_val_one (d := ![18432]) _).trans (Eq.trans ?_ (Shape.rowMajor_val_two (d := ![1, 18432]) j).symm)
  rw [h0, h1]
  show q.val = 0 * 18432 + q.val
  omega

/-- The reciprocal deviations. -/
theorem RRg_eq (s : Fin 2) (q : Fin 640) : RRg m c s q = (m ((c.tc : Thread nD τ).loc main_arg4) : S2x640.Idx → EReal) (ix2 s q) := by
  unfold RRg
  blk_simp [iblk]
  show (V m c main_arg4 : S2x640.Idx → EReal) (((cfg0.win 4).blk (pt 0)).view.emb (ix2 s q)) = _
  have h0 : (((cfg0.win 4).blk (pt 0)).view.emb (ix2 s q) 0 : ℕ) = s.val := by blk_simp [index4]
  have h1 : (((cfg0.win 4).blk (pt 0)).view.emb (ix2 s q) 1 : ℕ) = q.val := by blk_simp [index4]
  have e : ((cfg0.win 4).blk (pt 0)).view.emb (ix2 s q) = ix2 s q := by
    funext k; match k with | ⟨0, _⟩ => exact Fin.ext h0 | ⟨1, _⟩ => exact Fin.ext h1
  rw [e]
  exact congrFun (V_main_arg4 m c) _

/-- Row `p` of group `n` of the reciprocal deviations. -/
theorem rg_eq (n : ℕ) (hn : n < 40) (p : Fin 32) :
    rg m c n p = (m ((c.tc : Thread nD τ).loc main_arg4) : S2x640.Idx → EReal) (ix2 (bat (32 * n + p.val)) (pos (32 * n + p.val))) := by
  have hp := p.isLt
  unfold rg rrow
  rw [RRg_eq]
  congr 1
  funext k
  match k with
  | ⟨0, _⟩ => exact Fin.ext (by show n / 20 % 2 = (32 * n + p.val) / 640 % 2; omega)
  | ⟨1, _⟩ => exact Fin.ext (by show 128 * (n % 20 / 4) + (32 * (n % 4) + p.val) = (32 * n + p.val) % 640; omega)

end Cert.KernelIdeal.Val

end
-- ==== Proof.Val.Spec.lean ====
module

public import Idealize.ShloMosaic.PureOps
public import Idealize.ShloMosaic.PureOps.Ideal.Laws
public import Idealize.ShloMosaic.Lib.Claim

@[expose] public section

noncomputable section

/-! # The results, written as functions of a row

`x`, `d`, `e` are a row of the input, of the incoming gradient and of the residual's gradient, `g` is the gain and `r`
the row's reciprocal deviation. -/

namespace Cert.Spec

open Idealize.ShloMosaic

/-- An entry of the total gradient: `r (d g - x r c) + e`, with `c` the mean of `d g (x r)` over the row. -/
def tot (x d e g : Fin 18432 → EReal) (r : EReal) (q : Fin 18432) : EReal :=
  r * (d q * g q - x q * r * Ideal.div (∑ j, d j * g j * (x j * r)) (Ideal.ofBits .f32 1183842304#32)) + e q

/-- The greatest magnitude of a row. -/
def amax (f : Fin 18432 → EReal) : EReal :=
  Finset.univ.fold max (Ideal.ofBits .f32 0xFF800000#32) (fun q => FloatOps.absf (F := Ideal) (φ := .f32) (f q))

/-- A greatest magnitude over the range of the codes. -/
def scaled (a : EReal) : EReal := a * Ideal.ofBits .f32 932333861#32

/-- How many powers of two with a normal exponent are not above `t`. -/
def count (t : EReal) : BitVec 32 :=
  Finset.fold IntOp.addi 0#32 (fun x : Fin 254 => BitVec.setWidth 32 (BitVec.ofBool (decide
    (Ideal.pow (Ideal.ofBits .f32 1073741824#32) (FloatOps.sitofp (F := Ideal) .f32 (IntOp.addi 4294967170#32 (BitVec.ofNat 32 x.val))) ≤ t)))) Finset.univ

/-- The exponent of a row's scale, from the row's greatest magnitude. -/
def rexp (a : EReal) : BitVec 32 :=
  Scalar.select (FloatOps.cmpf (F := Ideal) (φ := .f32) .oeq a (Ideal.ofBits .f32 0#32)) 0#32
    (Scalar.select (IntOp.ori (FloatOps.cmpf (F := Ideal) (φ := .f32) .olt (scaled a) (Ideal.ofBits .f32 8388608#32))
        (FloatOps.cmpf (F := Ideal) (φ := .f32) .oeq (scaled a) (Ideal.ofBits .f32 2139095040#32)))
      0#32 (IntOp.subi (count (scaled a)) 126#32))

/-- The power of two with exponent `n`: zero below the normal range, infinity above. -/
def rpw (n : BitVec 32) : EReal :=
  Scalar.select (IntOp.cmpi .slt n 4294967170#32) (0 : EReal)
    (Scalar.select (IntOp.cmpi .sgt n 127#32) (Ideal.ofBits .f32 2139095040#32)
      (Ideal.pow (Ideal.ofBits .f32 1073741824#32) (FloatOps.sitofp (F := Ideal) .f32 n)))

/-- A value cut to the range of the codes. -/
def clip (v : EReal) : EReal := min (Ideal.ofBits .f32 0x47600000#32) (max (Ideal.ofBits .f32 0xC7600000#32) v)

/-- The power of two with exponent `-n`. -/
def rpwNeg (n : BitVec 32) : EReal := rpw (-n)

/-- A code: the value over its row's scale, cut to the range. -/
def code (v k : EReal) : EReal := clip (v * k)

end Cert.Spec
-- ==== Proof.Val.Scalar.lean ====
module

public import proofs.«01_k».proof.Proof.Val.Rows
public import proofs.«01_k».proof.Proof.Val.Spec

@[expose] public section

set_option maxRecDepth 16384

noncomputable section

/-! # The scale of a row: the kernel's search and the reference's count give one power of two -/

namespace Cert.KernelIdeal.Val

open Cert.KernelIdeal Cert.KernelIdeal.Gen
open Idealize.ShloMosaic

/-- The float whose exponent field is `b` and whose other fields are zero. -/
def PP (b : ℕ) : EReal := Ideal.ofBits .f32 (BitVec.ofNat 32 (b * 2 ^ 23))

theorem fields : ∀ b : Fin 256, ((BitVec.ofNat 32 (b.val * 2 ^ 23)).extractLsb' (8 + 23) 1 == 1#1) = false
    ∧ ((BitVec.ofNat 32 (b.val * 2 ^ 23)).extractLsb' 23 8).toNat = b.val
    ∧ ((BitVec.ofNat 32 (b.val * 2 ^ 23)).extractLsb' 0 23).toNat = 0 := by decide +kernel

theorem PP_zero : PP 0 = 0 := by
  show Ideal.ieee 8 23 (BitVec.ofNat 32 (0 * 2 ^ 23)) = 0
  obtain ⟨h1, h2, h3⟩ := fields 0
  unfold Ideal.ieee
  simp

theorem PP_top : PP 255 = ⊤ := by
  show Ideal.ieee 8 23 (BitVec.ofNat 32 (((255 : Fin 256) : ℕ) * 2 ^ 23)) = ⊤
  obtain ⟨h1, h2, h3⟩ := fields 255
  unfold Ideal.ieee
  simp only [h1, h2, h3]
  rfl

theorem PP_mid (b : ℕ) (h1 : 1 ≤ b) (h2 : b ≤ 254) : PP b = (((2 : ℝ) ^ ((b : ℤ) - 127) : ℝ) : EReal) := by
  show Ideal.ieee 8 23 (BitVec.ofNat 32 (((⟨b, by omega⟩ : Fin 256) : ℕ) * 2 ^ 23)) = _
  obtain ⟨e1, e2, e3⟩ := fields ⟨b, by omega⟩
  unfold Ideal.ieee
  simp only [e1, e2, e3]
  rw [if_neg (by omega), if_neg (by omega)]
  congr 1
  have : ((2 : ℝ) ^ 23 : ℝ) = (2 : ℝ) ^ (23 : ℤ) := by norm_cast
  have h : (2 : ℝ) ^ ((b : ℤ) - 127) = (2 : ℝ) ^ (23 : ℤ) * (2 : ℝ) ^ ((b : ℤ) - (2 ^ (8 - 1) - 1) - 23) := by
    rw [← zpow_add₀ (by norm_num)]
    congr 1
    norm_num
  rw [h, ← this]
  push_cast
  norm_num

theorem PP_mono (a b : ℕ) (h : a ≤ b) (hb : b ≤ 255) : PP a ≤ PP b := by
  rcases Nat.eq_zero_or_pos a with rfl | ha
  · rw [PP_zero]
    rcases Nat.eq_zero_or_pos b with rfl | hb0
    · rw [PP_zero]
    · rcases Nat.lt_or_ge b 255 with hb1 | hb1
      · rw [PP_mid b hb0 (by omega)]
        exact EReal.coe_nonneg.mpr (by positivity)
      · obtain rfl : b = 255 := by omega
        rw [PP_top]; exact le_top
  · rcases Nat.lt_or_ge b 255 with hb1 | hb1
    · rw [PP_mid a ha (by omega), PP_mid b (by omega) (by omega)]
      exact EReal.coe_le_coe_iff.mpr (zpow_le_zpow_right₀ (by norm_num) (by omega))
    · obtain rfl : b = 255 := by omega
      rw [PP_top]; exact le_top

/-- The greatest exponent field whose float is not above `t`. -/
def level (t : EReal) : ℕ := by
  classical exact Nat.findGreatest (fun b => PP b ≤ t) 255

theorem level_le (t : EReal) : level t ≤ 255 := by
  unfold level; exact Nat.findGreatest_le _

theorem le_iff_level (t : EReal) (ht : 0 ≤ t) (b : ℕ) (hb : b ≤ 255) : PP b ≤ t ↔ b ≤ level t := by
  classical
  constructor
  · intro h
    unfold level
    exact Nat.le_findGreatest hb h
  · intro h
    refine le_trans (PP_mono _ _ h (level_le t)) ?_
    unfold level
    exact Nat.findGreatest_spec (P := fun b => PP b ≤ t) (Nat.zero_le 255) (by show PP 0 ≤ t; rw [PP_zero]; exact ht)

/-! ## The search -/

theorem shl23 : ∀ b : Fin 256, IntOp.shli ArithUnit.vector (BitVec.ofNat 32 b.val) 23#32 = BitVec.ofNat 32 (b.val * 2 ^ 23) := by
  intro b
  unfold IntOp.shli
  rw [if_pos (by decide)]
  revert b
  decide +kernel

def nstep (k N b : ℕ) : ℕ := if b + k ≤ N then b + k else b

theorem bstep_eq (t : EReal) (ht : 0 ≤ t) (k b : ℕ) (h : b + k ≤ 255) :
    bstep (BitVec.ofNat 32 k) t (BitVec.ofNat 32 b) = BitVec.ofNat 32 (nstep k (level t) b) := by
  unfold bstep nstep
  have e : IntOp.addi (BitVec.ofNat 32 b) (BitVec.ofNat 32 k) = BitVec.ofNat 32 (b + k) := by
    unfold IntOp.addi; rw [BitVec.ofNat_add]
  rw [e, shl23 ⟨b + k, by omega⟩]
  have hl := le_iff_level t ht (b + k) h
  unfold PP at hl
  by_cases hh : b + k ≤ level t
  · rw [if_pos (hl.mpr hh), if_pos hh]
  · rw [if_neg (fun x => hh (hl.mp x)), if_neg hh]

theorem nstep_le (k N b m : ℕ) (h : b ≤ m) : nstep k N b ≤ m + k := by
  unfold nstep; split <;> omega

theorem search : ∀ N : Fin 256, nstep 1 N.val (nstep 2 N.val (nstep 4 N.val (nstep 8 N.val (nstep 16 N.val (nstep 32 N.val (nstep 64 N.val (nstep 128 N.val 0))))))) = N.val := by
  decide +kernel

theorem bias_eq (t : EReal) (ht : 0 ≤ t) : bias t = BitVec.ofNat 32 (level t) := by
  have hN := level_le t
  have e := search ⟨level t, by omega⟩
  have b1 := nstep_le 128 (level t) 0 0 (le_refl _)
  have b2 := nstep_le 64 (level t) _ _ b1
  have b3 := nstep_le 32 (level t) _ _ b2
  have b4 := nstep_le 16 (level t) _ _ b3
  have b5 := nstep_le 8 (level t) _ _ b4
  have b6 := nstep_le 4 (level t) _ _ b5
  have b7 := nstep_le 2 (level t) _ _ b6
  unfold bias
  rw [bstep_eq t ht 128 0 (by omega), bstep_eq t ht 64 _ (by omega), bstep_eq t ht 32 _ (by omega), bstep_eq t ht 16 _ (by omega),
    bstep_eq t ht 8 _ (by omega), bstep_eq t ht 4 _ (by omega), bstep_eq t ht 2 _ (by omega), bstep_eq t ht 1 _ (by omega)]
  exact congrArg _ e

/-! ## The count -/

theorem two_eq : Ideal.ofBits .f32 1073741824#32 = ((2 : ℝ) : EReal) := by
  have := PP_mid 128 (by omega) (by omega)
  refine Eq.trans ?_ (this.trans ?_)
  · rfl
  · norm_num

theorem pow_int (n : BitVec 32) : Ideal.pow (Ideal.ofBits .f32 1073741824#32) (FloatOps.sitofp (F := Ideal) .f32 n) = (((2 : ℝ) ^ n.toInt : ℝ) : EReal) := by
  rw [two_eq]
  show ((Real.rpow 2 ((n.toInt : ℤ) : ℝ) : ℝ) : EReal) = _
  congr 1
  exact Real.rpow_intCast 2 _

theorem exps : ∀ x : Fin 254, (IntOp.addi 4294967170#32 (BitVec.ofNat 32 x.val)).toInt = (x.val : ℤ) - 126 := by decide +kernel

theorem power_eq (x : Fin 254) : Ideal.pow (Ideal.ofBits .f32 1073741824#32) (FloatOps.sitofp (F := Ideal) .f32 (IntOp.addi 4294967170#32 (BitVec.ofNat 32 x.val))) = PP (x.val + 1) := by
  rw [pow_int, exps, PP_mid _ (by omega) (by omega)]
  congr 2
  push_cast
  ring

theorem counts : ∀ N : Fin 256, Finset.fold IntOp.addi 0#32 (fun x : Fin 254 => BitVec.setWidth 32 (BitVec.ofBool (decide (x.val + 1 ≤ N.val)))) Finset.univ
    = BitVec.ofNat 32 (min N.val 254) := by decide +kernel

theorem count_eq (t : EReal) (ht : 0 ≤ t) : Spec.count t = BitVec.ofNat 32 (min (level t) 254) := by
  have hN := level_le t
  refine Eq.trans ?_ (counts ⟨level t, by omega⟩)
  unfold Spec.count
  refine congrArg (fun f => Finset.fold IntOp.addi 0#32 f Finset.univ) (funext fun x => ?_)
  rw [power_eq]
  refine congrArg (fun b => BitVec.setWidth 32 (BitVec.ofBool b)) (decide_eq_decide.mpr ?_)
  exact le_iff_level t ht _ (by omega)

/-! ## The exponent -/

theorem scaled_nonneg (a : EReal) (ha : 0 ≤ a) : 0 ≤ Spec.scaled a := by
  unfold Spec.scaled
  refine mul_nonneg ha ?_
  show 0 ≤ Ideal.ieee 8 23 932333861#32
  unfold Ideal.ieee
  simp
  positivity

theorem exp_low : ∀ N : Fin 256, N.val = 0 → expo (BitVec.ofNat 32 N.val) = 0#32 := by decide +kernel
theorem exp_high : ∀ N : Fin 256, N.val = 255 → expo (BitVec.ofNat 32 N.val) = 0#32 := by decide +kernel
theorem exp_mid : ∀ N : Fin 256, N.val ≠ 0 → N.val ≠ 255 → expo (BitVec.ofNat 32 N.val) = IntOp.subi (BitVec.ofNat 32 (min N.val 254)) 126#32 := by decide +kernel

theorem rexp_eq (a : EReal) (ha : 0 ≤ a) : Spec.rexp a = expo (bias (Spec.scaled a)) := by
  have ht := scaled_nonneg a ha
  have hN := level_le (Spec.scaled a)
  have z : a = 0 → Spec.scaled a = 0 := by rintro rfl; unfold Spec.scaled; exact zero_mul _
  have l1 := le_iff_level _ ht 1 (by omega)
  have l255 := le_iff_level _ ht 255 (by omega)
  have p1 : Ideal.ofBits .f32 8388608#32 = PP 1 := rfl
  have p255 : Ideal.ofBits .f32 2139095040#32 = PP 255 := rfl
  have p0 : Ideal.ofBits .f32 0#32 = PP 0 := rfl
  have ppos : (0 : EReal) < PP 1 := by
    rw [PP_mid 1 (by omega) (by omega)]; exact EReal.coe_pos.mpr (by positivity)
  unfold Spec.rexp
  rw [bias_eq _ ht, count_eq _ ht, p1, p255, p0, PP_zero]
  show Scalar.select (BitVec.ofBool (decide (a = 0))) _ (Scalar.select (IntOp.ori (BitVec.ofBool (decide (Spec.scaled a < PP 1))) (BitVec.ofBool (decide (Spec.scaled a = PP 255)))) _ _) = _
  by_cases h0 : level (Spec.scaled a) = 0
  · have hlt : Spec.scaled a < PP 1 := not_le.mp fun h => by have := l1.mp h; omega
    rw [exp_low ⟨level (Spec.scaled a), by omega⟩ h0, decide_eq_true hlt]
    by_cases hz : a = 0
    · rw [decide_eq_true hz]; rfl
    · rw [decide_eq_false hz]
      by_cases h2 : Spec.scaled a = PP 255
      · rw [decide_eq_true h2]; rfl
      · rw [decide_eq_false h2]; rfl
  · have hge : PP 1 ≤ Spec.scaled a := l1.mpr (by omega)
    have hz : ¬ a = 0 := fun h => by
      rw [z h] at hge; exact absurd hge (not_le.mpr ppos)
    rw [decide_eq_false hz, decide_eq_false (not_lt.mpr hge)]
    by_cases h2 : level (Spec.scaled a) = 255
    · have : Spec.scaled a = PP 255 := by
        have h := l255.mpr (by omega)
        rw [PP_top] at h ⊢
        exact top_le_iff.mp h
      rw [exp_high ⟨level (Spec.scaled a), by omega⟩ h2, decide_eq_true this]; rfl
    · have : ¬ Spec.scaled a = PP 255 := fun h => h2 (by have := l255.mp h.ge; omega)
      rw [exp_mid ⟨level (Spec.scaled a), by omega⟩ h0 h2, decide_eq_false this]; rfl

/-! ## The power of two -/

theorem powE_bits : ∀ i : Fin 257, Scalar.select (IntOp.cmpi .sle (IntOp.addi (BitVec.ofNat 32 i.val - 128#32) 127#32) 0#32) 0#32
    (Scalar.select (IntOp.cmpi .sge (IntOp.addi (BitVec.ofNat 32 i.val - 128#32) 127#32) 255#32) 2139095040#32
      ((IntOp.addi (BitVec.ofNat 32 i.val - 128#32) 127#32) <<< (23#32)))
    = BitVec.ofNat 32 ((i.val - 1) * 2 ^ 23) := by decide +kernel

theorem powE_eq (i : Fin 257) : powE (BitVec.ofNat 32 i.val - 128#32) = PP (i.val - 1) := by
  unfold powE PP IntOp.shli
  rw [if_pos (by decide), powE_bits]

theorem toInts : ∀ i : Fin 257, (BitVec.ofNat 32 i.val - 128#32).toInt = (i.val : ℤ) - 128 := by decide +kernel
theorem slts : ∀ i : Fin 257, IntOp.cmpi .slt (BitVec.ofNat 32 i.val - 128#32) 4294967170#32 = BitVec.ofBool (decide (i.val < 2)) := by decide +kernel
theorem sgts : ∀ i : Fin 257, IntOp.cmpi .sgt (BitVec.ofNat 32 i.val - 128#32) 127#32 = BitVec.ofBool (decide (255 < i.val)) := by decide +kernel

theorem rpw_eq (i : Fin 257) : Spec.rpw (BitVec.ofNat 32 i.val - 128#32) = PP (i.val - 1) := by
  have hi := i.isLt
  unfold Spec.rpw
  rw [slts, sgts, pow_int, toInts]
  by_cases h1 : i.val < 2
  · rw [decide_eq_true h1, show i.val - 1 = 0 by omega, PP_zero]; rfl
  · rw [decide_eq_false h1]
    by_cases h2 : 255 < i.val
    · rw [decide_eq_true h2, show i.val - 1 = 255 by omega]; rfl
    · rw [decide_eq_false h2, PP_mid _ (by omega) (by omega)]
      show (((2 : ℝ) ^ ((i.val : ℤ) - 128) : ℝ) : EReal) = _
      congr 2
      omega

theorem range : ∀ N : Fin 256, ∃ i : Fin 257, expo (BitVec.ofNat 32 N.val) = BitVec.ofNat 32 i.val - 128#32 := by decide +kernel
theorem range_neg : ∀ N : Fin 256, ∃ i : Fin 257, -(expo (BitVec.ofNat 32 N.val)) = BitVec.ofNat 32 i.val - 128#32 := by decide +kernel

/-- The kernel's scale is the reference's. -/
theorem scale_eq (a : EReal) (ha : 0 ≤ a) : powE (expo (bias (Spec.scaled a))) = Spec.rpw (Spec.rexp a) := by
  rw [rexp_eq a ha, bias_eq _ (scaled_nonneg a ha)]
  have hN := level_le (Spec.scaled a)
  obtain ⟨i, hi⟩ := range ⟨level (Spec.scaled a), by omega⟩
  rw [hi, powE_eq, rpw_eq]

/-- The kernel's reciprocal scale is the reference's. -/
theorem inv_eq (a : EReal) (ha : 0 ≤ a) : powE (IntOp.subi 0#32 (expo (bias (Spec.scaled a)))) = Spec.rpwNeg (Spec.rexp a) := by
  unfold Spec.rpwNeg
  rw [rexp_eq a ha, bias_eq _ (scaled_nonneg a ha)]
  have hN := level_le (Spec.scaled a)
  obtain ⟨i, hi⟩ := range_neg ⟨level (Spec.scaled a), by omega⟩
  have e : IntOp.subi 0#32 (expo (BitVec.ofNat 32 (level (Spec.scaled a)))) = -(expo (BitVec.ofNat 32 (level (Spec.scaled a)))) := by
    unfold IntOp.subi; exact BitVec.zero_sub _
  rw [e, hi, powE_eq, rpw_eq]

end Cert.KernelIdeal.Val
-- ==== Proof.Val.Sums.lean ====
module

public import proofs.«01_k».proof.Proof.Val.Scalar
public import proofs.«01_k».proof.Proof.Val.Data

@[expose] public section

set_option maxRecDepth 16384

noncomputable section

/-! # Sums and maxima of a row, gathered from the lanes -/

namespace Cert.KernelIdeal.Val

open Cert.KernelIdeal Cert.KernelIdeal.Gen
open Idealize.ShloMosaic

/-! ## Sums -/

/-- A sum over `n` runs of `k` numbers, run by run. -/
theorem sum_runs (F : ℕ → EReal) (k n : ℕ) : ∑ x ∈ Finset.range (n * k), F x = ∑ j ∈ Finset.range n, ∑ i ∈ Finset.range k, F (k * j + i) := by
  induction n with
  | zero => simp
  | succ n ih =>
    rw [Nat.succ_mul, Finset.sum_range_add, Finset.sum_range_succ, ih, Nat.mul_comm n k]

theorem laneSum_eq (h : Fin 32 → Fin 18432 → EReal) (p : Fin 32) (l n : ℕ) :
    laneSum h p l n = ∑ j ∈ Finset.range n, pairSum h p l j := by
  induction n with
  | zero => rfl
  | succ n ih => rw [Finset.sum_range_succ, ← ih]; rfl

/-- The lanes' sums add up to the sum of the row. -/
theorem lanes_sum (h : Fin 32 → Fin 18432 → EReal) (p : Fin 32) : ∑ l : Fin 128, laneSum h p l.val 72 = ∑ q : Fin 18432, h p q := by
  let F : ℕ → EReal := fun k => h p ⟨k % 18432, Nat.mod_lt _ (by decide)⟩
  have e1 : ∑ q : Fin 18432, h p q = ∑ k ∈ Finset.range (72 * 256), F k := by
    rw [← Fin.sum_univ_eq_sum_range F (72 * 256)]
    refine Finset.sum_congr rfl fun q _ => congrArg _ (Fin.ext ?_)
    exact (Nat.mod_eq_of_lt q.isLt).symm
  have e2 : ∀ j, ∑ i ∈ Finset.range 256, F (256 * j + i) = ∑ i ∈ Finset.range 128, (F (256 * j + i) + F (256 * j + (128 + i))) := by
    intro j
    rw [Finset.sum_add_distrib, show (256 : ℕ) = 128 + 128 from rfl, Finset.sum_range_add]
  rw [e1, sum_runs]
  simp only [e2]
  rw [Finset.sum_comm, ← Fin.sum_univ_eq_sum_range (fun i => ∑ j ∈ Finset.range 72, (F (256 * j + i) + F (256 * j + (128 + i)))) 128]
  refine Finset.sum_congr rfl fun l _ => ?_
  rw [laneSum_eq]
  rfl

/-- The eight sums of four rows add up to the sum of the group. -/
theorem group_sum (G : Fin 32 → EReal) :
    ∑ a : Fin 8, ((G ⟨a.val, by omega⟩ + G ⟨8 + a.val, by omega⟩) + (G ⟨16 + a.val, by omega⟩ + G ⟨24 + a.val, by omega⟩)) = ∑ p : Fin 32, G p := by
  let F : ℕ → EReal := fun k => G ⟨k % 32, Nat.mod_lt _ (by decide)⟩
  have e1 : ∑ p : Fin 32, G p = ∑ k ∈ Finset.range (8 + 8 + (8 + 8)), F k := by
    rw [← Fin.sum_univ_eq_sum_range F (8 + 8 + (8 + 8))]
    refine Finset.sum_congr rfl fun q _ => congrArg _ (Fin.ext ?_)
    exact (Nat.mod_eq_of_lt q.isLt).symm
  rw [e1, Finset.sum_range_add, Finset.sum_range_add, Finset.sum_range_add (fun x => F (8 + 8 + x)), ← Finset.sum_add_distrib, ← Finset.sum_add_distrib,
    ← Finset.sum_add_distrib, ← Fin.sum_univ_eq_sum_range (fun a => F a + F (8 + a) + (F (8 + 8 + a) + F (8 + 8 + (8 + a)))) 8]
  refine Finset.sum_congr rfl fun a _ => ?_
  have ha := a.isLt
  refine congrArg₂ (· + ·) (congrArg₂ (· + ·) (congrArg G (Fin.ext ?_)) (congrArg G (Fin.ext ?_))) (congrArg₂ (· + ·) (congrArg G (Fin.ext ?_)) (congrArg G (Fin.ext ?_)))
  · show a.val = a.val % 32; omega
  · show 8 + a.val = (8 + a.val) % 32; omega
  · show 16 + a.val = (8 + 8 + a.val) % 32; omega
  · show 24 + a.val = (8 + 8 + (8 + a.val)) % 32; omega

/-- A sum over the groups and their rows is a sum over the rows. -/
theorem rows_sum (F : Fin 1280 → EReal) (Q : ℕ → Fin 32 → EReal) (h : ∀ k (hk : k < 40) (p : Fin 32), Q k p = F ⟨32 * k + p.val, by omega⟩) :
    ∑ k ∈ Finset.range 40, ∑ p : Fin 32, Q k p = ∑ R : Fin 1280, F R := by
  let G : ℕ → EReal := fun k => F ⟨k % 1280, Nat.mod_lt _ (by decide)⟩
  have e1 : ∑ R : Fin 1280, F R = ∑ k ∈ Finset.range (40 * 32), G k := by
    rw [← Fin.sum_univ_eq_sum_range G (40 * 32)]
    refine Finset.sum_congr rfl fun q _ => congrArg _ (Fin.ext ?_)
    exact (Nat.mod_eq_of_lt q.isLt).symm
  rw [e1, sum_runs]
  refine Finset.sum_congr rfl fun k hk => ?_
  have hk' := Finset.mem_range.mp hk
  rw [← Fin.sum_univ_eq_sum_range (fun i => G (32 * k + i)) 32]
  refine Finset.sum_congr rfl fun p _ => ?_
  rw [h k hk' p]
  refine congrArg F (Fin.ext ?_)
  have hp := p.isLt
  exact (Nat.mod_eq_of_lt (by omega)).symm

/-! ## Maxima -/

theorem neg_inf : Ideal.ofBits .f32 0xFF800000#32 = ⊥ := by
  show Ideal.ieee 8 23 0xFF800000#32 = ⊥
  unfold Ideal.ieee
  simp

theorem absE_nonneg (x : EReal) : 0 ≤ absE x := by
  unfold absE
  rcases le_total 0 x with h | h
  · exact le_max_of_le_left h
  · exact le_max_of_le_right (EReal.neg_nonneg.mpr h)

theorem laneMax_le (v : Fin 32 → Fin 18432 → EReal) (p : Fin 32) (l n : ℕ) (c : EReal) (h0 : 0 ≤ c) (h : ∀ j, pairMax v p l j ≤ c) : laneMax v p l n ≤ c := by
  induction n with
  | zero => exact h0
  | succ n ih => exact max_le ih (h n)

theorem le_laneMax (v : Fin 32 → Fin 18432 → EReal) (p : Fin 32) (l n j : ℕ) (hj : j < n) : pairMax v p l j ≤ laneMax v p l n := by
  induction n with
  | zero => omega
  | succ n ih =>
    rcases Nat.lt_or_ge j n with h | h
    · exact le_trans (ih h) (le_max_left _ _)
    · obtain rfl : j = n := by omega
      exact le_max_right _ _

theorem abs_le_amax (f : Fin 18432 → EReal) (q : Fin 18432) : absE (f q) ≤ Spec.amax f := by
  unfold Spec.amax
  exact Finset.le_fold_max _ |>.mpr (.inr ⟨q, Finset.mem_univ _, le_refl _⟩)

theorem amax_nonneg (f : Fin 18432 → EReal) : 0 ≤ Spec.amax f := le_trans (absE_nonneg (f 0)) (abs_le_amax f 0)

/-- The greatest of the lanes' maxima is the greatest magnitude of the row. -/
theorem lanes_max (v : Fin 32 → Fin 18432 → EReal) (p : Fin 32) :
    Finset.fold max (Ideal.ofBits .f32 4286578688#32) (fun l : Fin 128 => laneMax v p l.val 72) Finset.univ = Spec.amax (v p) := by
  refine le_antisymm ?_ ?_
  · refine (Finset.fold_max_le _).mpr ⟨?_, fun l _ => ?_⟩
    · exact le_of_eq_of_le neg_inf bot_le
    · exact laneMax_le v p _ _ _ (amax_nonneg _) fun j => max_le (abs_le_amax _ _) (abs_le_amax _ _)
  · refine (Finset.fold_max_le _).mpr ⟨le_of_eq_of_le neg_inf bot_le, fun q _ => ?_⟩
    have hq := q.isLt
    refine (Finset.le_fold_max _).mpr (.inr ⟨⟨q.val % 128, by omega⟩, Finset.mem_univ _, ?_⟩)
    refine le_trans ?_ (le_laneMax v p (q.val % 128) 72 (q.val / 256) (by omega))
    unfold pairMax
    rcases Nat.lt_or_ge (q.val % 256) 128 with h | h
    · refine le_max_of_le_left (le_of_eq (congrArg (fun c => absE (v p c)) (Fin.ext ?_)))
      rw [cl_val (by omega) (by omega)]; omega
    · refine le_max_of_le_right (le_of_eq (congrArg (fun c => absE (v p c)) (Fin.ext ?_)))
      rw [cl_val (by omega) (by omega)]; omega

/-- The scale of a row of a group. -/
theorem scE_eq (v : Fin 32 → Fin 18432 → EReal) (p : Fin 32) : scE v p = Spec.rpw (Spec.rexp (Spec.amax (v p))) := by
  rw [← scale_eq _ (amax_nonneg _), ← lanes_max]
  rfl

/-- The reciprocal scale of a row of a group. -/
theorem ivE_eq (v : Fin 32 → Fin 18432 → EReal) (p : Fin 32) : ivE v p = Spec.rpwNeg (Spec.rexp (Spec.amax (v p))) := by
  rw [← inv_eq _ (amax_nonneg _), ← lanes_max]
  rfl

/-! ## An entry of the total gradient -/

theorem invD_eq : invD = ((1 / 18432 : ℝ) : EReal) := IdealRules.named_const.ideal_named_scalar _ _ _ _ rfl

theorem len_eq : Ideal.ofBits .f32 1183842304#32 = ((18432 : ℝ) : EReal) := by
  show Ideal.ieee 8 23 1183842304#32 = _
  unfold Ideal.ieee
  rw [show (18432 : ℝ) = 9437184 * (1 / 512) by norm_num, EReal.coe_mul]
  simp
  norm_num

/-- The kernel's form of an entry is the reference's, for a finite reciprocal deviation that is not negative. -/
theorem entry_eq (x d e g : Fin 18432 → EReal) (r : EReal) (h0 : 0 ≤ r) (ht : r ≠ ⊤) (q : Fin 18432) :
    (d q * r * g q + e q) - x q * (r * (r * ((∑ j, d j * r * g j * x j) * invD))) = Spec.tot x d e g r q := by
  have hs : ∑ j, d j * r * g j * x j = ∑ j, d j * g j * (x j * r) := Finset.sum_congr rfl fun j _ => by
    rw [mul_right_comm (d j) r (g j), mul_assoc (d j * g j) r (x j), mul_comm r (x j)]
  unfold Spec.tot
  rw [hs, len_eq, Ideal.div_coe (by norm_num), invD_eq]
  generalize (∑ j, d j * g j * (x j * r)) * ((1 / 18432 : ℝ) : EReal) = C
  have hx : x q * (r * (r * C)) = r * (x q * r * C) := by
    rw [mul_left_comm (x q) r, mul_assoc (x q) r C]
  have hd : d q * r * g q = r * (d q * g q) := by
    rw [mul_comm (d q) r, mul_assoc]
  rw [hx, hd, sub_eq_add_neg (d q * g q), EReal.left_distrib_of_nonneg_of_ne_top h0 ht, mul_neg, sub_eq_add_neg, add_right_comm]

end Cert.KernelIdeal.Val
-- ==== Proof.Val.Closed.lean ====
module

public import proofs.«01_k».proof.Proof.Val.Arrays
public import proofs.«01_k».proof.Proof.Val.Blocks
public import proofs.«01_k».proof.Proof.Val.Sums

@[expose] public section

set_option maxRecDepth 16384

noncomputable section

namespace Cert.KernelIdeal.Val

open Cert.KernelIdeal Cert.KernelIdeal.Gen
open Idealize.ShloMosaic Idealize.ShloMosaic.TcCoe

variable (m : (ℓ : Loc nD τ sig) → Buf (Elt Ideal) ℓ) (c : Dev nD)

/-! # What the kernel returns, row by row -/

/-- Row `R` of an argument, read at batch `R / 640` and position `R % 640`. -/
def kX (R : Fin 1280) (q : Fin 18432) : EReal := (m ((c.tc : Thread nD τ).loc main_arg0) : S2x640x18432.Idx → EReal) (ix3 ⟨R.val / 640, by omega⟩ ⟨R.val % 640, by omega⟩ q)
def kD (R : Fin 1280) (q : Fin 18432) : EReal := (m ((c.tc : Thread nD τ).loc main_arg1) : S2x640x18432.Idx → EReal) (ix3 ⟨R.val / 640, by omega⟩ ⟨R.val % 640, by omega⟩ q)
def kRes (R : Fin 1280) (q : Fin 18432) : EReal := (m ((c.tc : Thread nD τ).loc main_arg2) : S2x640x18432.Idx → EReal) (ix3 ⟨R.val / 640, by omega⟩ ⟨R.val % 640, by omega⟩ q)
def kG (q : Fin 18432) : EReal := (m ((c.tc : Thread nD τ).loc main_arg3) : S18432.Idx → EReal) (ix1 q)
def kr (R : Fin 1280) : EReal := (m ((c.tc : Thread nD τ).loc main_arg4) : S2x640.Idx → EReal) (ix2 ⟨R.val / 640, by omega⟩ ⟨R.val % 640, by omega⟩)

/-- Row `p` of group `n`. -/
abbrev row (n : ℕ) (hn : n < 40) (p : Fin 32) : Fin 1280 := ⟨32 * n + p.val, by omega⟩

theorem bat_row (R : ℕ) (h : R < 1280) : bat R = ⟨R / 640, by omega⟩ := Fin.ext (by show R / 640 % 2 = R / 640; omega)

theorem xg_row (n : ℕ) (hn : n < 40) (p : Fin 32) : xg m c n p = kX m c (row n hn p) := funext fun q => by
  rw [xg_eq m c n hn p q, bat_row _ (row n hn p).isLt]; rfl
theorem dyg_row (n : ℕ) (hn : n < 40) (p : Fin 32) : dyg m c n p = kD m c (row n hn p) := funext fun q => by
  rw [dyg_eq m c n hn p q, bat_row _ (row n hn p).isLt]; rfl
theorem drg_row (n : ℕ) (hn : n < 40) (p : Fin 32) : drg m c n p = kRes m c (row n hn p) := funext fun q => by
  rw [drg_eq m c n hn p q, bat_row _ (row n hn p).isLt]; rfl
theorem gg_row : gg m c = kG m c := funext fun q => gg_eq m c q
theorem rg_row (n : ℕ) (hn : n < 40) (p : Fin 32) : rg m c n p = kr m c (row n hn p) := by
  rw [rg_eq m c n hn p, bat_row _ (row n hn p).isLt]; rfl

/-- The reciprocal deviations are numbers that are not negative. -/
def Fine : Prop := ∀ R : Fin 1280, 0 ≤ kr m c R ∧ kr m c R ≠ ⊤

/-- Row `R` of the total gradient. -/
def kT (R : Fin 1280) : Fin 18432 → EReal := Spec.tot (kX m c R) (kD m c R) (kRes m c R) (kG m c) (kr m c R)

theorem vg_row (hf : Fine m c) (n : ℕ) (hn : n < 40) (p : Fin 32) : vg m c n p = kT m c (row n hn p) := by
  funext q
  unfold vg wg kg kE ww hx hh
  rw [lanes_sum, xg_row m c n hn p, dyg_row m c n hn p, drg_row m c n hn p, gg_row, rg_row m c n hn p]
  exact entry_eq _ _ _ _ _ (hf _).1 (hf _).2 q

/-! ## The gradient of the gain -/

theorem DG_eq (a : Fin 8) (q : Fin 18432) (n : ℕ) : DG m c n a q = ∑ k ∈ Finset.range n, dg4 (xg m c k) (dyg m c k) (rg m c k) a q := by
  induction n with
  | zero => rfl
  | succ n ih => rw [Finset.sum_range_succ, ← ih]; rfl

theorem A5_at (q : Fin 18432) : ∑ a : Fin 8, DG m c 40 a q = ∑ R : Fin 1280, kD m c R q * (kX m c R q * kr m c R) := by
  simp only [DG_eq]
  rw [Finset.sum_comm]
  rw [← rows_sum (fun R => kD m c R q * (kX m c R q * kr m c R)) (fun k p => qq (xg m c k) (dyg m c k) (rg m c k) p q)]
  · exact Finset.sum_congr rfl fun k _ => group_sum (fun p => qq (xg m c k) (dyg m c k) (rg m c k) p q)
  · intro k hk p
    unfold qq
    rw [xg_row m c k hk p, dyg_row m c k hk p, rg_row m c k hk p, mul_assoc, mul_comm (kr m c _)]

theorem A5_eq : A5 m c = fun i => ∑ R : Fin 1280, kD m c R (i 1) * (kX m c R (i 1) * kr m c R) :=
  funext fun i => A5_at m c (i 1)

/-! ## The total gradient, the codes and the scales -/

theorem row_of (R : Fin 1280) : row (R.val / 32) (by omega) ⟨R.val % 32, Nat.mod_lt _ (by decide)⟩ = R := Fin.ext (by show 32 * (R.val / 32) + R.val % 32 = R.val; omega)

theorem A6_eq (hf : Fine m c) : A6 m c = fun i => kT m c (i 0) (i 1) := by
  funext i
  unfold A6
  have h0 : (i 0).val < 1280 := (i 0).isLt
  rw [vg_row m c hf ((i 0).val / 32) (by omega)]
  exact congrArg (fun R => kT m c R (i 1)) (row_of (i 0))

theorem A7_eq (hf : Fine m c) : A7 m c = fun i => Spec.code (kT m c (i 0) (i 1)) (Spec.rpwNeg (Spec.rexp (Spec.amax (kT m c (i 0))))) := by
  funext i
  unfold A7
  have h0 : (i 0).val < 1280 := (i 0).isLt
  rw [ivE_eq, vg_row m c hf ((i 0).val / 32) (by omega)]
  exact congrArg (fun R => Spec.code (kT m c R (i 1)) (Spec.rpwNeg (Spec.rexp (Spec.amax (kT m c R))))) (row_of (i 0))

theorem SC_eq (s : Fin 2) (q : Fin 640) (n : ℕ) : SC m c n s q = ∑ k ∈ Finset.range n,
    if s.val = k / 20 % 2 ∧ q.val / 128 = k % 20 / 4 ∧ q.val % 128 / 32 = k % 4 then scE (vg m c k) ⟨q.val % 128 % 32, by omega⟩ else 0 := by
  induction n with
  | zero => rfl
  | succ n ih => rw [Finset.sum_range_succ, ← ih]; rfl

theorem A8_at (hf : Fine m c) (s : Fin 2) (q : Fin 640) : SC m c 40 s q =
    Spec.rpw (Spec.rexp (Spec.amax (kT m c ⟨s.val * 640 + q.val, by omega⟩))) := by
  rw [SC_eq, Finset.sum_eq_single (20 * s.val + q.val / 32)]
  · rw [if_pos (by refine ⟨?_, ?_, ?_⟩ <;> omega), scE_eq, vg_row m c hf _ (by omega)]
    refine congrArg (fun R => Spec.rpw (Spec.rexp (Spec.amax (kT m c R)))) (Fin.ext ?_)
    show 32 * (20 * s.val + q.val / 32) + q.val % 128 % 32 = s.val * 640 + q.val
    omega
  · intro k hk hne
    have := Finset.mem_range.mp hk
    exact if_neg (by omega)
  · intro h
    exact absurd (Finset.mem_range.mpr (by omega)) h

theorem A8_eq (hf : Fine m c) : A8 m c = fun i =>
    Spec.rpw (Spec.rexp (Spec.amax (kT m c ⟨(i 0).val * 640 + (i 1).val, by
      have h0 : (i 0).val < 2 := (i 0).isLt
      have h1 : (i 1).val < 640 := (i 1).isLt
      omega⟩))) :=
  funext fun i => A8_at m c hf (i 0) (i 1)

end Cert.KernelIdeal.Val
-- ==== Proof.Val.RefA.lean ====
module

public import proofs.«01_k».proof.Proof.Gen.ReferenceIdeal.Value
public import Idealize.ShloMosaic.Lib.Claim
public import Idealize.ShloMosaic.Lib.StableHlo.RunRead
public import Idealize.ShloMosaic.Lib.Pointwise
public import proofs.«01_k».proof.Proof.Val.Spec

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- Row `R` of an argument of 1280 rows, read at batch `R / 640` and position `R % 640`. -/
def aX (R : Fin 1280) (q : Fin 18432) : EReal := (m (c, Proc.tc.devRef main_arg0) : S2x640x18432.Idx → EReal) (ix3 ⟨R.val / 640, by omega⟩ ⟨R.val % 640, by omega⟩ q)
def aD (R : Fin 1280) (q : Fin 18432) : EReal := (m (c, Proc.tc.devRef main_arg1) : S2x640x18432.Idx → EReal) (ix3 ⟨R.val / 640, by omega⟩ ⟨R.val % 640, by omega⟩ q)
def aE (R : Fin 1280) (q : Fin 18432) : EReal := (m (c, Proc.tc.devRef main_arg2) : S2x640x18432.Idx → EReal) (ix3 ⟨R.val / 640, by omega⟩ ⟨R.val % 640, by omega⟩ q)
def aG (q : Fin 18432) : EReal := (m (c, Proc.tc.devRef main_arg3) : S18432.Idx → EReal) (ix1 q)
def aR (R : Fin 1280) : EReal := (m (c, Proc.tc.devRef main_arg4) : S2x640.Idx → EReal) (ix2 ⟨R.val / 640, by omega⟩ ⟨R.val % 640, by omega⟩)

/-- The total gradient. -/
theorem v25 (R : Fin 1280) (q : Fin 18432) :
    (V m c main_v25 : S1280x18432.Idx → EReal) (ix2 R q) = Spec.tot (aX m c R) (aD m c R) (aE m c R) (aG m c) (aR m c R) q := by
  unfold Spec.tot aX aD aE aG aR
  after_reads_simp
  pointwise
  try rfl

/-- The gradient of the gain. -/
theorem v22 (q : Fin 18432) :
    (V m c main_v22 : S1x18432.Idx → EReal) (ix2 0 q) = ∑ R : Fin 1280, aD m c R q * (aX m c R q * aR m c R) := by
  unfold aX aD aR
  after_reads_simp
  pointwise
  try rfl

end Cert.ReferenceIdeal.Val
-- ==== Proof.Val.RefA2.lean ====
module

public import proofs.«01_k».proof.Proof.Gen.ReferenceIdeal.Value
public import Idealize.ShloMosaic.Lib.Claim
public import Idealize.ShloMosaic.Lib.StableHlo.RunRead
public import Idealize.ShloMosaic.Lib.Pointwise
public import proofs.«01_k».proof.Proof.Val.Spec

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- The total gradient as returned. -/
theorem v75 (i : S1280x18432.Idx) : (V m c main_v75 : S1280x18432.Idx → EReal) i = (V m c main_v25 : S1280x18432.Idx → EReal) i := by
  after_reads_simp
  try rfl

end Cert.ReferenceIdeal.Val
-- ==== Proof.Val.RefB.lean ====
module

public import proofs.«01_k».proof.Proof.Gen.ReferenceIdeal.Value
public import Idealize.ShloMosaic.Lib.Claim
public import Idealize.ShloMosaic.Lib.StableHlo.RunRead
public import Idealize.ShloMosaic.Lib.Pointwise
public import proofs.«01_k».proof.Proof.Val.Spec

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- The greatest magnitude of a row of the total gradient. -/
theorem v27 (R : Fin 1280) :
    (V m c main_v27 : S1280.Idx → EReal) (ix1 R) = Spec.amax (fun q => (V m c main_v25 : S1280x18432.Idx → EReal) (ix2 R q)) := by
  unfold Spec.amax
  after_reads_simp
  generalize addf (F := Ideal) (mulf _ _) (extf _ _ _) = A
  pointwise

theorem powers (k : Fin 254) : (Host.powf (F := Ideal) (broadcastInDim S254 ![] bcast_S_S254 (constant S_ .f32 0x40000000#32)) (sitofp .f32 (addi (broadcastInDim S254 ![] bcast_S_S254 (constantI S_ 32 4294967170#32)) (iotaInDim S254 32 0))) : S254.Idx → EReal) (ix1 k)
    = Ideal.pow (Ideal.ofBits .f32 1073741824#32) (FloatOps.sitofp (F := Ideal) .f32 (IntOp.addi 4294967170#32 (BitVec.ofNat 32 k.val))) := by
  pointwise

theorem row_count (R : Fin 1280) (M : S1280x254.Idx → BitVec 32) : Host.reduce IntOp.addi M (constantI S_ 32 0#32) reducesTo_S1280x254_S1280_d1 h_S_ (ix1 R)
    = Finset.fold IntOp.addi (0#32) (fun x => M (ix2 R x)) Finset.univ := by
  pointwise

theorem not_above (R : Fin 1280) (k : Fin 254) (A : S1280.Idx → EReal) (P : S254.Idx → EReal) : (extui 32 (cmpf (F := Ideal) (φ := .f32) .oge (broadcastInDim S1280x254 ![0, 1] bcast_S1280x1_S1280x254_0_1
                          (broadcastInDim S1280x1 ![0] bcast_S1280_S1280x1_0 A)) (broadcastInDim S1280x254 ![0, 1] bcast_S1x254_S1280x254_0_1
                          (broadcastInDim S1x254 ![1] bcast_S254_S1x254_1 P))) natLt_1_32) (ix2 R k)
    = BitVec.setWidth 32 (BitVec.ofBool (decide (P (ix1 k) ≤ A (ix1 R)))) := by
  pointwise

theorem scaled_at (A : S1280.Idx → EReal) (R : Fin 1280) :
    (mulf (F := Ideal) (φ := .f32) A (broadcastInDim S1280 ![] bcast_S_S1280 (constant S_ .f32 932333861#32)) : S1280.Idx → EReal) (ix1 R) = Spec.scaled (A (ix1 R)) := by
  unfold Spec.scaled
  pointwise

end Cert.ReferenceIdeal.Val
-- ==== Proof.Val.RefB2.lean ====
module

public import proofs.«01_k».proof.Proof.Gen.ReferenceIdeal.Value
public import Idealize.ShloMosaic.Lib.Claim
public import Idealize.ShloMosaic.Lib.StableHlo.RunRead
public import Idealize.ShloMosaic.Lib.Pointwise
public import proofs.«01_k».proof.Proof.Val.RefB

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- How many powers of two are not above a row's greatest magnitude over the range of the codes. -/
theorem v44 (R : Fin 1280) : (V m c main_v44 : S1280.Idx → BitVec 32) (ix1 R)
    = Spec.count (Spec.scaled ((V m c main_v27 : S1280.Idx → EReal) (ix1 R))) := by
  unfold Spec.count
  after_reads_simp
  generalize Host.reduce (FloatOps.maximumf (F := Ideal)) _ _ reducesTo_S1280x18432_S1280_d1 h_S_ = A
  rw [row_count]
  refine congrArg (fun f => Finset.fold IntOp.addi 0#32 f Finset.univ) (funext fun k => ?_)
  rw [not_above, powers, scaled_at]

/-! The operations of the exponent, entry by entry. -/

theorem bcF (b : BitVec 32) (R : Fin 1280) : (broadcastInDim S1280 ![] bcast_S_S1280 (constant (F := Ideal) S_ .f32 b) : S1280.Idx → EReal) (ix1 R) = Ideal.ofBits .f32 b := rfl
theorem bcI (b : BitVec 32) (R : Fin 1280) : (broadcastInDim S1280 ![] bcast_S_S1280 (constantI S_ 32 b) : S1280.Idx → BitVec 32) (ix1 R) = b := rfl
theorem sel (C : S1280.Idx → BitVec 1) (A B : S1280.Idx → BitVec 32) (i : S1280.Idx) : select C A B i = Scalar.select (C i) (A i) (B i) := rfl
theorem ori_at (A B : S1280.Idx → BitVec 1) (i : S1280.Idx) : ori A B i = IntOp.ori (A i) (B i) := rfl
theorem subi_at (A B : S1280.Idx → BitVec 32) (i : S1280.Idx) : subi A B i = IntOp.subi (A i) (B i) := rfl
theorem cmpf_at (p : CmpFPredicate) (A B : S1280.Idx → EReal) (i : S1280.Idx) : cmpf (F := Ideal) (φ := .f32) p A B i = FloatOps.cmpf (F := Ideal) (φ := .f32) p (A i) (B i) := rfl

theorem expo_at (A : FVec Ideal S1280 .f32) (B : S1280.Idx → BitVec 32) (R : Fin 1280) : select (cmpf (F := Ideal) (φ := .f32) CmpFPredicate.oeq A (broadcastInDim S1280 ![] bcast_S_S1280 (constant S_ FTy.f32 0#32)))
      (broadcastInDim S1280 ![] bcast_S_S1280 (constantI S_ 32 0#32))
      (select
        (ori
          (cmpf CmpFPredicate.olt (mulf A (broadcastInDim S1280 ![] bcast_S_S1280 (constant S_ FTy.f32 932333861#32)))
            (broadcastInDim S1280 ![] bcast_S_S1280 (constant S_ FTy.f32 8388608#32)))
          (cmpf CmpFPredicate.oeq (mulf A (broadcastInDim S1280 ![] bcast_S_S1280 (constant S_ FTy.f32 932333861#32)))
            (broadcastInDim S1280 ![] bcast_S_S1280 (constant S_ FTy.f32 2139095040#32))))
        (broadcastInDim S1280 ![] bcast_S_S1280 (constantI S_ 32 0#32))
        (subi B (broadcastInDim S1280 ![] bcast_S_S1280 (constantI S_ 32 126#32))))
      (ix1 R) =
  Scalar.select (FloatOps.cmpf (F := Ideal) (φ := .f32) .oeq (A (ix1 R)) (Ideal.ofBits .f32 0#32)) 0#32
    (Scalar.select (IntOp.ori (FloatOps.cmpf (F := Ideal) (φ := .f32) .olt (Spec.scaled (A (ix1 R))) (Ideal.ofBits .f32 8388608#32))
        (FloatOps.cmpf (F := Ideal) (φ := .f32) .oeq (Spec.scaled (A (ix1 R))) (Ideal.ofBits .f32 2139095040#32)))
      0#32 (IntOp.subi (B (ix1 R)) 126#32)) := by
  rw [sel, sel, ori_at, subi_at, cmpf_at, cmpf_at, cmpf_at, bcI, bcI, bcF, bcF, bcF]
  rw [scaled_at]

/-- The exponent of a row's scale. -/
theorem v53 (R : Fin 1280) : (V m c main_v53 : S1280.Idx → BitVec 32) (ix1 R) = Spec.rexp ((V m c main_v27 : S1280.Idx → EReal) (ix1 R)) := by
  unfold Spec.rexp
  rw [← v44]
  after_reads_simp
  simp -implicitDefEqProofs only [StableHlo.TRef.toBuf, StableHlo.TRef.ofBuf, cast_cast, cast_eq, id]
  generalize Host.reduce (IntOp.addi) _ _ reducesTo_S1280x254_S1280_d1 h_S_ = B
  generalize Host.reduce (FloatOps.maximumf (F := Ideal)) _ _ reducesTo_S1280x18432_S1280_d1 h_S_ = A
  exact expo_at A B R

end Cert.ReferenceIdeal.Val
-- ==== Proof.Val.RefC.lean ====
module

public import proofs.«01_k».proof.Proof.Gen.ReferenceIdeal.Value
public import Idealize.ShloMosaic.Lib.Claim
public import Idealize.ShloMosaic.Lib.StableHlo.RunRead
public import Idealize.ShloMosaic.Lib.Pointwise
public import proofs.«01_k».proof.Proof.Val.Spec

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- The scale of a row. -/
theorem v63 (s : Fin 2) (q : Fin 640) : (V m c main_v63 : S2x640.Idx → EReal) (ix2 s q)
    = Spec.rpw ((V m c main_v53 : S1280.Idx → BitVec 32) (ix1 ⟨s.val * 640 + q.val, by omega⟩)) := by
  unfold Spec.rpw
  after_reads_simp
  simp -implicitDefEqProofs only [StableHlo.TRef.toBuf, StableHlo.TRef.ofBuf, cast_cast, cast_eq, id]
  generalize select (cmpf (F := Ideal) (s := S1280) .oeq _ _) _ _ = B
  pointwise
  try rfl

end Cert.ReferenceIdeal.Val
-- ==== Proof.Val.RefC2.lean ====
module

public import proofs.«01_k».proof.Proof.Gen.ReferenceIdeal.Value
public import Idealize.ShloMosaic.Lib.Claim
public import Idealize.ShloMosaic.Lib.StableHlo.RunRead
public import Idealize.ShloMosaic.Lib.Pointwise
public import proofs.«01_k».proof.Proof.Val.Spec

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-- The reciprocal of a row's scale. -/
theorem v74 (R : Fin 1280) : (V m c main_v74 : S1280x1.Idx → EReal) (ix2 R 0)
    = Spec.rpwNeg ((V m c main_v53 : S1280.Idx → BitVec 32) (ix1 R)) := by
  unfold Spec.rpwNeg Spec.rpw
  after_reads_simp
  simp -implicitDefEqProofs only [StableHlo.TRef.toBuf, StableHlo.TRef.ofBuf, cast_cast, cast_eq, id]
  generalize select (cmpf (F := Ideal) (s := S1280) .oeq _ _) _ _ = B
  pointwise
  try rfl

end Cert.ReferenceIdeal.Val
-- ==== Proof.Val.RefD.lean ====
module

public import proofs.«01_k».proof.Proof.Gen.ReferenceIdeal.Value
public import Idealize.ShloMosaic.Lib.Claim
public import Idealize.ShloMosaic.Lib.StableHlo.RunRead
public import Idealize.ShloMosaic.Lib.Pointwise
public import proofs.«01_k».proof.Proof.Val.Spec
public import Idealize.ShloMosaic.Lib.Pipeline.ArrRel

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

open Idealize.ShloMosaic.Pipeline (Dat Cfg Window)

variable (m : (ℓ : Loc nD τ sig) → Buf (Elt Ideal) ℓ) (c : Dev nD)

/-- The one grid point. -/
def t0 : Fin cfg0.N := ⟨0, by decide⟩

theorem whole2 : (cfg0.win 2).WholeAt t0 := (by decide +kernel : win0_2.WholeAt ⟨0, by decide⟩)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])

theorem idx0 (y : S1280x18432.Idx) (k : Fin 2) : (r0_0.idx y k : ℕ) = (y k).val := by
  match k with
  | ⟨0, _⟩ => show 0 + 1 * (y 0).val = (y 0).val; omega
  | ⟨1, _⟩ => show 0 + 1 * (y 1).val = (y 1).val; omega

theorem ld0 (y : S1280x18432.Idx) : (View.ld (iblk m c 0 t0 : S1280x18432.Idx → EReal) r0_0 y : EReal) = (V m c main_v25 : S1280x18432.Idx → EReal) y := by
  unfold View.ld iblk
  blk_simp
  show (V m c main_v25 : S1280x18432.Idx → EReal) (((cfg0.win 0).blk t0).view.emb (r0_0.idx y)) = _
  have h0 : (((cfg0.win 0).blk t0).view.emb (r0_0.idx y) 0 : ℕ) = (y 0).val := by blk_simp [index0]; exact idx0 y 0
  have h1 : (((cfg0.win 0).blk t0).view.emb (r0_0.idx y) 1 : ℕ) = (y 1).val := by blk_simp [index0]; exact idx0 y 1
  refine congrArg _ (funext fun k => Fin.ext ?_)
  match k with
  | ⟨0, _⟩ => exact h0
  | ⟨1, _⟩ => exact h1

theorem emb1 (y : S1280x1.Idx) : (((cfg0.win 1).blk t0).view.emb y 0 : ℕ) = (y 0).val := by
  blk_simp [index1]

theorem idx1 (y : S1280x1.Idx) : (r0_1.idx y 0 : ℕ) = (y 0).val := by
  show 0 + 1 * (y 0).val = (y 0).val; omega

theorem embeq (y : S1280x1.Idx) : (((cfg0.win 1).blk t0).view.emb (r0_1.idx y) : S1280x1.Idx) = y := by
  have h0 : (((cfg0.win 1).blk t0).view.emb (r0_1.idx y) 0 : ℕ) = (y 0).val := (emb1 _).trans (idx1 y)
  generalize (((cfg0.win 1).blk t0).view.emb (r0_1.idx y) : S1280x1.Idx) = j at h0
  funext k
  match k with
  | ⟨0, _⟩ => exact Fin.ext h0
  | ⟨1, _⟩ => exact Subsingleton.elim (α := Fin 1) _ _

theorem rd1 (W : S1280x1.Idx → EReal) (y : S1280x1.Idx) : View.read (Elt Ideal) ((cfg0.win 1).blk t0).view W (r0_1.idx y) = W y :=
  congrArg W (embeq y)

theorem ld1 : (View.ld (iblk m c 1 t0) r0_1) = (V m c main_v74 : S1280x1.Idx → EReal) := by
  funext y
  unfold View.ld iblk
  generalize V m c = W
  exact rd1 (W main_v74) y

/-- The codes. -/
theorem v76 : ((dats m 0 c).arrAt 2 cfg0.N : S1280x18432.Idx → EReal)
    = fun i => Spec.code ((V m c main_v25 : S1280x18432.Idx → EReal) i) ((V m c main_v74 : S1280x1.Idx → EReal) (ix2 (i 0) 0)) := by
  refine Pipeline.Dat.arrAt_eq_of_after_last (dat := dats m 0 c) 2 t0 whole2 _ (fun j => ?_)
  rw [after0_2]
  unfold out0_2
  rw [Value.canon2_eq]
  blk_simp
  unfold Value.E2
  show Spec.code (View.ld (iblk m c 0 t0 : S1280x18432.Idx → EReal) r0_0 (Value.ix2_0 _)) (View.ld (iblk m c 1 t0 : S1280x1.Idx → EReal) r0_1 (Value.ix2_1 _)) = _
  rw [ld0]
  refine (congrArg (fun f : S1280x1.Idx → EReal => Spec.code _ (f _)) (ld1 m c)).trans ?_
  refine congrArg₂ Spec.code (congrArg _ (funext fun k => ?_)) (congrArg _ (funext fun k => ?_))
  · match k with
    | ⟨0, _⟩ => rfl
    | ⟨1, _⟩ => rfl
  · match k with
    | ⟨0, _⟩ => rfl
    | ⟨1, _⟩ => rfl

end Cert.ReferenceIdeal.Val
-- ==== Proof.Val.RefRun.lean ====
module

public import proofs.«01_k».proof.Proof.Gen.ReferenceIdeal.Value
public import Idealize.ShloMosaic.Lib.Claim
public import Idealize.ShloMosaic.Lib.StableHlo.RunRead
public import Idealize.ShloMosaic.Lib.Pointwise
public import proofs.«01_k».proof.Proof.Val.RefA
public import proofs.«01_k».proof.Proof.Val.RefA2
public import proofs.«01_k».proof.Proof.Val.RefB2
public import proofs.«01_k».proof.Proof.Val.RefC
public import proofs.«01_k».proof.Proof.Val.RefC2
public import proofs.«01_k».proof.Proof.Val.RefD

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI Idealize.SL.Sem

variable (m : (ℓ : Loc nD τ sig) → Buf (Elt Ideal) ℓ) (c : Dev nD)

/-! # What the reference returns -/

/-- Row `R` of the total gradient. -/
def rowT (R : Fin 1280) : Fin 18432 → EReal := Spec.tot (aX m c R) (aD m c R) (aE m c R) (aG m c) (aR m c R)

/-- The gradient of the gain, the total gradient, the codes, the scales. -/
def B5 : S1x18432.Idx → EReal := fun i => ∑ R : Fin 1280, aD m c R (i 1) * (aX m c R (i 1) * aR m c R)
def B6 : S1280x18432.Idx → EReal := fun i => rowT m c (i 0) (i 1)
def B7 : S1280x18432.Idx → EReal := fun i => Spec.code (rowT m c (i 0) (i 1)) (Spec.rpwNeg (Spec.rexp (Spec.amax (rowT m c (i 0)))))
def B8 : S2x640.Idx → EReal := fun i =>
  Spec.rpw (Spec.rexp (Spec.amax (rowT m c ⟨(i 0).val * 640 + (i 1).val, by
    have h0 : (i 0).val < 2 := (i 0).isLt
    have h1 : (i 1).val < 640 := (i 1).isLt
    omega⟩)))

theorem eta2 {a b : ℕ} (i : (⟨2, ![a, b]⟩ : Shape).Idx) : (ix2 (i 0) (i 1) : (⟨2, ![a, b]⟩ : Shape).Idx) = i := by
  funext k; match k with | ⟨0, _⟩ => rfl | ⟨1, _⟩ => rfl

theorem e25 (i : S1280x18432.Idx) : (V m c main_v25 : S1280x18432.Idx → EReal) i = rowT m c (i 0) (i 1) :=
  (congrArg (V m c main_v25 : S1280x18432.Idx → EReal) (eta2 i).symm).trans (v25 m c (i 0) (i 1))

theorem e27 (R : Fin 1280) : (V m c main_v27 : S1280.Idx → EReal) (ix1 R) = Spec.amax (rowT m c R) :=
  (v27 m c R).trans (congrArg Spec.amax (funext fun q => v25 m c R q))

theorem e53 (R : Fin 1280) : (V m c main_v53 : S1280.Idx → BitVec 32) (ix1 R) = Spec.rexp (Spec.amax (rowT m c R)) :=
  (v53 m c R).trans (congrArg Spec.rexp (e27 m c R))

theorem r5 : (V m c main_v22 : S1x18432.Idx → EReal) = B5 m c := by
  funext i
  have h : (ix2 0 (i 1) : S1x18432.Idx) = i := by
    funext k
    match k with
    | ⟨0, _⟩ => exact Subsingleton.elim (α := Fin 1) _ _
    | ⟨1, _⟩ => rfl
  exact (congrArg (V m c main_v22 : S1x18432.Idx → EReal) h.symm).trans (v22 m c (i 1))

theorem r6 : (V m c main_v75 : S1280x18432.Idx → EReal) = B6 m c := by
  funext i
  exact (v75 m c i).trans (e25 m c i)

theorem r7 : ((dats m 0 c).arrAt 2 cfg0.N : S1280x18432.Idx → EReal) = B7 m c := by
  refine (v76 m c).trans (funext fun i => ?_)
  refine congrArg₂ Spec.code (e25 m c i) ?_
  exact (v74 m c (i 0)).trans (congrArg Spec.rpwNeg (e53 m c (i 0)))

theorem r8 : (V m c main_v63 : S2x640.Idx → EReal) = B8 m c := by
  funext i
  refine (congrArg (V m c main_v63 : S2x640.Idx → EReal) (eta2 i).symm).trans ((v63 m c (i 0) (i 1)).trans ?_)
  exact congrArg Spec.rpw (e53 m c _)

/-- Every execution of the reference ends with these four results, its arguments unchanged. -/
theorem run_values (ρ : Dev nD → PrngReg) : θ_run defs (onTc (τ := τ) (main (F := Ideal))) ⟨m, fun _ => 0, ρ⟩ (fun r => ∀ c : Dev nD,
      r.2.mem ((c.tc : Thread nD τ).loc main_v22) = B5 m c
      ∧ r.2.mem ((c.tc : Thread nD τ).loc main_v75) = B6 m c
      ∧ r.2.mem ((c.tc : Thread nD τ).loc main_v76) = B7 m c
      ∧ r.2.mem ((c.tc : Thread nD τ).loc main_v63) = B8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  exact ⟨((h c).2 main_v22 (Pipeline.mem_restRefs_of main_v22 (by decide) (by decide))).trans (r5 m c),
    ((h c).2 main_v75 (Pipeline.mem_restRefs_of main_v75 (by decide) (by decide))).trans (r6 m c),
    (Value.post2 m r h c).trans (r7 m c),
    ((h c).2 main_v63 (Pipeline.mem_restRefs_of main_v63 (by decide) (by decide))).trans (r8 m c),
    Value.kept_main_arg0 m r h c, Value.kept_main_arg1 m r h c, Value.kept_main_arg2 m r h c, Value.kept_main_arg3 m r h c, Value.kept_main_arg4 m r h c⟩

end Cert.ReferenceIdeal.Val
-- ==== Proof.Val.Match.lean ====
module

public import proofs.«01_k».proof.Defs
public import proofs.«01_k».proof.Proof.Gen.Kernel
public import proofs.«01_k».proof.Proof.Val.Closed
public import proofs.«01_k».proof.Proof.Val.RefRun

@[expose] public section

set_option maxRecDepth 16384

noncomputable section

/-! # The kernel and the reference return the same four results -/

namespace Cert.Match

open Idealize.ShloMosaic Idealize.ShloMosaic.TcCoe Idealize.SL.Sem

/-- The side condition of the precondition's one shape relation. -/
theorem preFacts : Cert.Pre_rstd_finite.Facts where
  bcast_S_S2x640 := by decide

/-- The precondition, entry by entry: each reciprocal deviation is a number that is not negative. -/
theorem fine (m : (ℓ : Loc Cert.KernelIdeal.nD Cert.KernelIdeal.τ Cert.KernelIdeal.sig) → Buf (Elt Ideal) ℓ) [hP : Cert.Pre_rstd_finite.Facts]
    (h : Cert.Pre_KernelIdeal_rstd_finite m) (c : Dev Cert.KernelIdeal.nD) : Cert.KernelIdeal.Val.Fine m c := by
  intro R
  have e : IntOp.andi (BitVec.ofBool (decide (Ideal.ofBits .f32 0#32 ≤ Cert.KernelIdeal.Val.kr m c R)))
      (BitVec.ofBool (decide (Cert.KernelIdeal.Val.kr m c R < Ideal.ofBits .f32 0x7F800000#32))) = 1#1 :=
    congrFun (h c) (ix2 ⟨R.val / 640, by omega⟩ ⟨R.val % 640, by omega⟩)
  rw [Ideal.ofBits_zero_f32, show Ideal.ofBits .f32 0x7F800000#32 = ⊤ from Cert.KernelIdeal.Val.PP_top] at e
  generalize Cert.KernelIdeal.Val.kr m c R = r at e ⊢
  by_cases a : 0 ≤ r
  · by_cases b : r < ⊤
    · exact ⟨a, b.ne⟩
    · rw [decide_eq_true a, decide_eq_false b] at e; exact absurd e (by decide)
  · by_cases b : r < ⊤
    · rw [decide_eq_false a, decide_eq_true b] at e; exact absurd e (by decide)
    · rw [decide_eq_false a, decide_eq_false b] at e; exact absurd e (by decide)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
include h0 h1 h2 h3 h4

/-! The rows of the arguments agree. -/

theorem eX : Cert.ReferenceIdeal.Val.aX m' c = Cert.KernelIdeal.Val.kX m c := funext fun R => funext fun q => congrFun h0 _
theorem eD : Cert.ReferenceIdeal.Val.aD m' c = Cert.KernelIdeal.Val.kD m c := funext fun R => funext fun q => congrFun h1 _
theorem eE : Cert.ReferenceIdeal.Val.aE m' c = Cert.KernelIdeal.Val.kRes m c := funext fun R => funext fun q => congrFun h2 _
theorem eG : Cert.ReferenceIdeal.Val.aG m' c = Cert.KernelIdeal.Val.kG m c := funext fun q => congrFun h3 _
theorem eR : Cert.ReferenceIdeal.Val.aR m' c = Cert.KernelIdeal.Val.kr m c := funext fun R => congrFun h4 _

/-- The rows of the total gradient agree. -/
theorem eT : Cert.ReferenceIdeal.Val.rowT m' c = Cert.KernelIdeal.Val.kT m c := by
  funext R
  unfold Cert.ReferenceIdeal.Val.rowT Cert.KernelIdeal.Val.kT
  rw [eX m m' c h0 h1 h2 h3 h4, eD m m' c h0 h1 h2 h3 h4, eE m m' c h0 h1 h2 h3 h4, eG m m' c h0 h1 h2 h3 h4, eR m m' c h0 h1 h2 h3 h4]

theorem m5 : Cert.ReferenceIdeal.Val.B5 m' c = Cert.KernelIdeal.Val.A5 m c := by
  rw [Cert.KernelIdeal.Val.A5_eq]
  unfold Cert.ReferenceIdeal.Val.B5
  rw [eX m m' c h0 h1 h2 h3 h4, eD m m' c h0 h1 h2 h3 h4, eR m m' c h0 h1 h2 h3 h4]

theorem m6 (hf : Cert.KernelIdeal.Val.Fine m c) : Cert.ReferenceIdeal.Val.B6 m' c = Cert.KernelIdeal.Val.A6 m c := by
  rw [Cert.KernelIdeal.Val.A6_eq m c hf]
  unfold Cert.ReferenceIdeal.Val.B6
  rw [eT m m' c h0 h1 h2 h3 h4]

theorem m7 (hf : Cert.KernelIdeal.Val.Fine m c) : Cert.ReferenceIdeal.Val.B7 m' c = Cert.KernelIdeal.Val.A7 m c := by
  rw [Cert.KernelIdeal.Val.A7_eq m c hf]
  unfold Cert.ReferenceIdeal.Val.B7
  rw [eT m m' c h0 h1 h2 h3 h4]

theorem m8 (hf : Cert.KernelIdeal.Val.Fine m c) : Cert.ReferenceIdeal.Val.B8 m' c = Cert.KernelIdeal.Val.A8 m c := by
  rw [Cert.KernelIdeal.Val.A8_eq m c hf]
  unfold Cert.ReferenceIdeal.Val.B8
  rw [eT m m' c h0 h1 h2 h3 h4]
end

/-- From memories that agree on the arguments, with reciprocal deviations that are numbers and not negative, the kernel and
the reference both run and end with the same four results, their arguments unchanged. -/
theorem algebraic [hP : Cert.Pre_rstd_finite.Facts] :
    Cert.algebraic_KernelIdeal_ReferenceIdeal_pre_rstd_finite (hKernelIdeal := Cert.KernelIdeal.Gen.facts) (hReferenceIdeal := Cert.ReferenceIdeal.Gen.facts) := by
  intro m g m' g' hpre hag
  have hf := fun c => fine m hpre c
  refine ⟨fun c => Cert.KernelIdeal.Val.A5 m c, fun c => Cert.KernelIdeal.Val.A6 m c, fun c => Cert.KernelIdeal.Val.A7 m c, fun c => Cert.KernelIdeal.Val.A8 m c,
    Cert.KernelIdeal.Val.run_values m g, ?_⟩
  refine (θ_run _ _ _).mono (fun r h c => ?_) (Cert.ReferenceIdeal.Val.run_values m' g')
  obtain ⟨h0, h1, h2, h3, h4⟩ := hag c
  obtain ⟨r5, r6, r7, r8, k⟩ := h c
  exact ⟨r5.trans (m5 m m' c h0 h1 h2 h3 h4), r6.trans (m6 m m' c h0 h1 h2 h3 h4 (hf c)), r7.trans (m7 m m' c h0 h1 h2 h3 h4 (hf c)), r8.trans (m8 m m' c h0 h1 h2 h3 h4 (hf c)), k⟩

end Cert.Match
-- ==== Proof.lean ====
module

public import proofs.«01_k».proof.Defs
public import proofs.«01_k».proof.Proof.Gen.Kernel
public import proofs.«01_k».proof.Proof.Gen.KernelIdeal
public import proofs.«01_k».proof.Proof.Gen.Kernel.Frame
public import proofs.«01_k».proof.Proof.Gen.Kernel.Skeleton
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Frame
public import proofs.«01_k».proof.Proof.KernelIdeal.Frame
public import proofs.«01_k».proof.Proof.Val.Match
public import Idealize.ShloMosaic.PureOps.IdealRules

@[expose] public section

noncomputable section

namespace Cert.Proof

open Idealize.ShloMosaic Idealize.SL.Sem

/-- The kernel's named constant is the f32 number nearest its real value. -/
theorem preserves : Cert.preserves_Kernel_KernelIdeal :=
  IdealRules.named_const.statement Cert.KernelIdeal.κ "inv_d" .f32 0x38638E39#32 ((1 / 18432 : ℝ) : EReal) rfl

/-- Every claim of the certificate: the three frames, what the named constant stands for, and that the kernel and the
reference return the same four results. -/
theorem claim : Cert.Claim :=
  ⟨Cert.Kernel.Gen.facts, Cert.KernelIdeal.Gen.facts, Cert.ReferenceIdeal.Gen.facts, Cert.Match.preFacts,
    fun m ρ _ => Cert.Kernel.Weak.frame m ρ, fun m ρ _ => Cert.KernelIdeal.Weak.frame m ρ,
    fun m ρ _ => Cert.KernelIdeal.Weak.frame m ρ,
    fun m ρ _ => Cert.ReferenceIdeal.Gen.frame m ρ, fun m ρ _ => Cert.ReferenceIdeal.Gen.frame m ρ, preserves,
    Cert.Match.algebraic (hP := Cert.Match.preFacts)⟩

end Cert.Proof

end
